-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 32768, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 32768, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S512x1024 : Shape := ⟨2, ![512, 1024]⟩
abbrev S2048x1024 : Shape := ⟨2, ![2048, 1024]⟩
abbrev S1024x512 : Shape := ⟨2, ![1024, 512]⟩
abbrev S8x2x512 : Shape := ⟨3, ![8, 2, 512]⟩
abbrev S16x64x512 : Shape := ⟨3, ![16, 64, 512]⟩
abbrev S16x2x512 : Shape := ⟨3, ![16, 2, 512]⟩
abbrev S16 : Shape := ⟨1, ![16]⟩
abbrev S15 : Shape := ⟨1, ![15]⟩
abbrev S_ : Shape := ⟨0, ![]⟩
abbrev S512x128 : Shape := ⟨2, ![512, 128]⟩
abbrev S2048x128 : Shape := ⟨2, ![2048, 128]⟩
abbrev S2048x512 : Shape := ⟨2, ![2048, 512]⟩
abbrev S512 : Shape := ⟨1, ![512]⟩
abbrev S1x512 : Shape := ⟨2, ![1, 512]⟩
abbrev S128x512 : Shape := ⟨2, ![128, 512]⟩
abbrev S1x1x512 : Shape := ⟨3, ![1, 1, 512]⟩
abbrev S2x512 : Shape := ⟨2, ![2, 512]⟩
abbrev S64x512 : Shape := ⟨2, ![64, 512]⟩
abbrev S1x64x512 : Shape := ⟨3, ![1, 64, 512]⟩
abbrev S1x2x512 : Shape := ⟨3, ![1, 2, 512]⟩
abbrev S1 : Shape := ⟨1, ![1]⟩
abbrev S256x512 : Shape := ⟨2, ![256, 512]⟩
abbrev S256x1024 : Shape := ⟨2, ![256, 1024]⟩

abbrev nBuf : Space → Nat
  | .hbm => 9
  | .vmem => 10
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1x2048x8x128, .bf16⟩
  | .hbm, ⟨3, _⟩ => ⟨S1x2048x8x128, .bf16⟩
  | .hbm, ⟨4, _⟩ => ⟨S1024x1024, .bf16⟩
  | .hbm, ⟨5, _⟩ => ⟨S512x1024, .bf16⟩
  | .hbm, ⟨6, _⟩ => ⟨S2048x1024, .bf16⟩
  | .hbm, ⟨7, _⟩ => ⟨S2048x1024, .bf16⟩
  | .hbm, ⟨8, _⟩ => ⟨S1x512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S1x512x1024, .f32⟩
  | .local _ .vmem, ⟨6, _⟩ => ⟨S1024x512, .bf16⟩
  | .local _ .vmem, ⟨7, _⟩ => ⟨S8x2x512, .f32⟩
  | .local _ .vmem, ⟨8, _⟩ => ⟨S16x64x512, .bf16⟩
  | .local _ .vmem, ⟨9, _⟩ => ⟨S16x2x512, .f32⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 16 102 bufScoped semScoped dmaSemScoped tileCredit tileCredit_eq_zero tileCredit_pos).withBarriers [(0, 15)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 15

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_80 : BitVec 32 := 0#32
  let v100 : BitVec 1 := Scalar.cmpi .eq v2 c0_i32_80
  let v101 : BitVec 32 := Scalar.extui v100
  let c0_i32_81 : BitVec 32 := 0#32
  let v102 : BitVec 1 := Scalar.cmpi .ne v101 c0_i32_81
  v102

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_82 : BitVec 32 := 0#32
  let v103 : BitVec 1 := Scalar.cmpi .ne v2 c0_i32_82
  let v104 : BitVec 32 := Scalar.extui v103
  let c0_i32_83 : BitVec 32 := 0#32
  let v105 : BitVec 1 := Scalar.cmpi .ne v104 c0_i32_83
  v105

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev16 : Nat :=
  let c0_i32_673 : BitVec 32 := 0#32
  let c0_i32_671 : BitVec 32 := 0#32
  let c1_i32_672 : BitVec 32 := 1#32
  let v993 : BitVec 32 := Scalar.muli c0_i32_671 c1_i32_672
  let v994 : BitVec 32 := Scalar.addi c0_i32_673 v993
  v994.toNat
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev17 : Nat :=
  let c0_i32_681 : BitVec 32 := 0#32
  let c0_i32_679 : BitVec 32 := 0#32
  let c1_i32_680 : BitVec 32 := 1#32
  let v1003 : BitVec 32 := Scalar.muli c0_i32_679 c1_i32_680
  let v1004 : BitVec 32 := Scalar.addi c0_i32_681 v1003
  v1004.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v108 : BitVec 1 := Scalar.cmpi .eq v2 c1_i32_84
  let v109 : BitVec 32 := Scalar.extui v108
  let c0_i32_85 : BitVec 32 := 0#32
  let v110 : BitVec 1 := Scalar.cmpi .ne v109 c0_i32_85
  v110

def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v111 : BitVec 1 := Scalar.cmpi .ne v2 c1_i32_86
  let v112 : BitVec 32 := Scalar.extui v111
  let c0_i32_87 : BitVec 32 := 0#32
  let v113 : BitVec 1 := Scalar.cmpi .ne v112 c0_i32_87
  v113

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev18 : Nat :=
  let c0_i32_673 : BitVec 32 := 0#32
  let c1_i32_671 : BitVec 32 := 1#32
  let c1_i32_672 : BitVec 32 := 1#32
  let v993 : BitVec 32 := Scalar.muli c1_i32_671 c1_i32_672
  let v994 : BitVec 32 := Scalar.addi c0_i32_673 v993
  v994.toNat
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev19 : Nat :=
  let c0_i32_681 : BitVec 32 := 0#32
  let c1_i32_679 : BitVec 32 := 1#32
  let c1_i32_680 : BitVec 32 := 1#32
  let v1003 : BitVec 32 := Scalar.muli c1_i32_679 c1_i32_680
  let v1004 : BitVec 32 := Scalar.addi c0_i32_681 v1003
  v1004.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_103 : BitVec 32 := 2#32
  let v142 : BitVec 1 := Scalar.cmpi .eq v2 c2_i32_103
  let v143 : BitVec 32 := Scalar.extui v142
  let c0_i32_104 : BitVec 32 := 0#32
  let v144 : BitVec 1 := Scalar.cmpi .ne v143 c0_i32_104
  v144

def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_105 : BitVec 32 := 2#32
  let v145 : BitVec 1 := Scalar.cmpi .ne v2 c2_i32_105
  let v146 : BitVec 32 := Scalar.extui v145
  let c0_i32_106 : BitVec 32 := 0#32
  let v147 : BitVec 1 := Scalar.cmpi .ne v146 c0_i32_106
  v147

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev20 : Nat :=
  let c0_i32_673 : BitVec 32 := 0#32
  let c2_i32_671 : BitVec 32 := 2#32
  let c1_i32_672 : BitVec 32 := 1#32
  let v993 : BitVec 32 := Scalar.muli c2_i32_671 c1_i32_672
  let v994 : BitVec 32 := Scalar.addi c0_i32_673 v993
  v994.toNat
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev21 : Nat :=
  let c0_i32_681 : BitVec 32 := 0#32
  let c2_i32_679 : BitVec 32 := 2#32
  let c1_i32_680 : BitVec 32 := 1#32
  let v1003 : BitVec 32 := Scalar.muli c2_i32_679 c1_i32_680
  let v1004 : BitVec 32 := Scalar.addi c0_i32_681 v1003
  v1004.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_107 : BitVec 32 := 3#32
  let v150 : BitVec 1 := Scalar.cmpi .eq v2 c3_i32_107
  let v151 : BitVec 32 := Scalar.extui v150
  let c0_i32_108 : BitVec 32 := 0#32
  let v152 : BitVec 1 := Scalar.cmpi .ne v151 c0_i32_108
  v152

def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_109 : BitVec 32 := 3#32
  let v153 : BitVec 1 := Scalar.cmpi .ne v2 c3_i32_109
  let v154 : BitVec 32 := Scalar.extui v153
  let c0_i32_110 : BitVec 32 := 0#32
  let v155 : BitVec 1 := Scalar.cmpi .ne v154 c0_i32_110
  v155

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev22 : Nat :=
  let c0_i32_673 : BitVec 32 := 0#32
  let c3_i32_671 : BitVec 32 := 3#32
  let c1_i32_672 : BitVec 32 := 1#32
  let v993 : BitVec 32 := Scalar.muli c3_i32_671 c1_i32_672
  let v994 : BitVec 32 := Scalar.addi c0_i32_673 v993
  v994.toNat
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev23 : Nat :=
  let c0_i32_681 : BitVec 32 := 0#32
  let c3_i32_679 : BitVec 32 := 3#32
  let c1_i32_680 : BitVec 32 := 1#32
  let v1003 : BitVec 32 := Scalar.muli c3_i32_679 c1_i32_680
  let v1004 : BitVec 32 := Scalar.addi c0_i32_681 v1003
  v1004.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_125 : BitVec 32 := 4#32
  let v184 : BitVec 1 := Scalar.cmpi .eq v2 c4_i32_125
  let v185 : BitVec 32 := Scalar.extui v184
  let c0_i32_126 : BitVec 32 := 0#32
  let v186 : BitVec 1 := Scalar.cmpi .ne v185 c0_i32_126
  v186

def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_127 : BitVec 32 := 4#32
  let v187 : BitVec 1 := Scalar.cmpi .ne v2 c4_i32_127
  let v188 : BitVec 32 := Scalar.extui v187
  let c0_i32_128 : BitVec 32 := 0#32
  let v189 : BitVec 1 := Scalar.cmpi .ne v188 c0_i32_128
  v189

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev24 : Nat :=
  let c0_i32_673 : BitVec 32 := 0#32
  let c4_i32_671 : BitVec 32 := 4#32
  let c1_i32_672 : BitVec 32 := 1#32
  let v993 : BitVec 32 := Scalar.muli c4_i32_671 c1_i32_672
  let v994 : BitVec 32 := Scalar.addi c0_i32_673 v993
  v994.toNat
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev25 : Nat :=
  let c0_i32_681 : BitVec 32 := 0#32
  let c4_i32_679 : BitVec 32 := 4#32
  let c1_i32_680 : BitVec 32 := 1#32
  let v1003 : BitVec 32 := Scalar.muli c4_i32_679 c1_i32_680
  let v1004 : BitVec 32 := Scalar.addi c0_i32_681 v1003
  v1004.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_129 : BitVec 32 := 5#32
  let v192 : BitVec 1 := Scalar.cmpi .eq v2 c5_i32_129
  let v193 : BitVec 32 := Scalar.extui v192
  let c0_i32_130 : BitVec 32 := 0#32
  let v194 : BitVec 1 := Scalar.cmpi .ne v193 c0_i32_130
  v194

def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_131 : BitVec 32 := 5#32
  let v195 : BitVec 1 := Scalar.cmpi .ne v2 c5_i32_131
  let v196 : BitVec 32 := Scalar.extui v195
  let c0_i32_132 : BitVec 32 := 0#32
  let v197 : BitVec 1 := Scalar.cmpi .ne v196 c0_i32_132
  v197

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev26 : Nat :=
  let c0_i32_673 : BitVec 32 := 0#32
  let c5_i32_671 : BitVec 32 := 5#32
  let c1_i32_672 : BitVec 32 := 1#32
  let v993 : BitVec 32 := Scalar.muli c5_i32_671 c1_i32_672
  let v994 : BitVec 32 := Scalar.addi c0_i32_673 v993
  v994.toNat
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev27 : Nat :=
  let c0_i32_681 : BitVec 32 := 0#32
  let c5_i32_679 : BitVec 32 := 5#32
  let c1_i32_680 : BitVec 32 := 1#32
  let v1003 : BitVec 32 := Scalar.muli c5_i32_679 c1_i32_680
  let v1004 : BitVec 32 := Scalar.addi c0_i32_681 v1003
  v1004.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_147 : BitVec 32 := 6#32
  let v226 : BitVec 1 := Scalar.cmpi .eq v2 c6_i32_147
  let v227 : BitVec 32 := Scalar.extui v226
  let c0_i32_148 : BitVec 32 := 0#32
  let v228 : BitVec 1 := Scalar.cmpi .ne v227 c0_i32_148
  v228

def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_149 : BitVec 32 := 6#32
  let v229 : BitVec 1 := Scalar.cmpi .ne v2 c6_i32_149
  let v230 : BitVec 32 := Scalar.extui v229
  let c0_i32_150 : BitVec 32 := 0#32
  let v231 : BitVec 1 := Scalar.cmpi .ne v230 c0_i32_150
  v231

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev28 : Nat :=
  let c0_i32_673 : BitVec 32 := 0#32
  let c6_i32_671 : BitVec 32 := 6#32
  let c1_i32_672 : BitVec 32 := 1#32
  let v993 : BitVec 32 := Scalar.muli c6_i32_671 c1_i32_672
  let v994 : BitVec 32 := Scalar.addi c0_i32_673 v993
  v994.toNat
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev29 : Nat :=
  let c0_i32_681 : BitVec 32 := 0#32
  let c6_i32_679 : BitVec 32 := 6#32
  let c1_i32_680 : BitVec 32 := 1#32
  let v1003 : BitVec 32 := Scalar.muli c6_i32_679 c1_i32_680
  let v1004 : BitVec 32 := Scalar.addi c0_i32_681 v1003
  v1004.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_151 : BitVec 32 := 7#32
  let v234 : BitVec 1 := Scalar.cmpi .eq v2 c7_i32_151
  let v235 : BitVec 32 := Scalar.extui v234
  let c0_i32_152 : BitVec 32 := 0#32
  let v236 : BitVec 1 := Scalar.cmpi .ne v235 c0_i32_152
  v236

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_153 : BitVec 32 := 7#32
  let v237 : BitVec 1 := Scalar.cmpi .ne v2 c7_i32_153
  let v238 : BitVec 32 := Scalar.extui v237
  let c0_i32_154 : BitVec 32 := 0#32
  let v239 : BitVec 1 := Scalar.cmpi .ne v238 c0_i32_154
  v239

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev30 : Nat :=
  let c0_i32_673 : BitVec 32 := 0#32
  let c7_i32_671 : BitVec 32 := 7#32
  let c1_i32_672 : BitVec 32 := 1#32
  let v993 : BitVec 32 := Scalar.muli c7_i32_671 c1_i32_672
  let v994 : BitVec 32 := Scalar.addi c0_i32_673 v993
  v994.toNat
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev31 : Nat :=
  let c0_i32_681 : BitVec 32 := 0#32
  let c7_i32_679 : BitVec 32 := 7#32
  let c1_i32_680 : BitVec 32 := 1#32
  let v1003 : BitVec 32 := Scalar.muli c7_i32_679 c1_i32_680
  let v1004 : BitVec 32 := Scalar.addi c0_i32_681 v1003
  v1004.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_169 : BitVec 32 := 8#32
  let v268 : BitVec 1 := Scalar.cmpi .eq v2 c8_i32_169
  let v269 : BitVec 32 := Scalar.extui v268
  let c0_i32_170 : BitVec 32 := 0#32
  let v270 : BitVec 1 := Scalar.cmpi .ne v269 c0_i32_170
  v270

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_171 : BitVec 32 := 8#32
  let v271 : BitVec 1 := Scalar.cmpi .ne v2 c8_i32_171
  let v272 : BitVec 32 := Scalar.extui v271
  let c0_i32_172 : BitVec 32 := 0#32
  let v273 : BitVec 1 := Scalar.cmpi .ne v272 c0_i32_172
  v273

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev32 : Nat :=
  let c0_i32_673 : BitVec 32 := 0#32
  let c8_i32_671 : BitVec 32 := 8#32
  let c1_i32_672 : BitVec 32 := 1#32
  let v993 : BitVec 32 := Scalar.muli c8_i32_671 c1_i32_672
  let v994 : BitVec 32 := Scalar.addi c0_i32_673 v993
  v994.toNat
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev33 : Nat :=
  let c0_i32_681 : BitVec 32 := 0#32
  let c8_i32_679 : BitVec 32 := 8#32
  let c1_i32_680 : BitVec 32 := 1#32
  let v1003 : BitVec 32 := Scalar.muli c8_i32_679 c1_i32_680
  let v1004 : BitVec 32 := Scalar.addi c0_i32_681 v1003
  v1004.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_173 : BitVec 32 := 9#32
  let v276 : BitVec 1 := Scalar.cmpi .eq v2 c9_i32_173
  let v277 : BitVec 32 := Scalar.extui v276
  let c0_i32_174 : BitVec 32 := 0#32
  let v278 : BitVec 1 := Scalar.cmpi .ne v277 c0_i32_174
  v278

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_175 : BitVec 32 := 9#32
  let v279 : BitVec 1 := Scalar.cmpi .ne v2 c9_i32_175
  let v280 : BitVec 32 := Scalar.extui v279
  let c0_i32_176 : BitVec 32 := 0#32
  let v281 : BitVec 1 := Scalar.cmpi .ne v280 c0_i32_176
  v281

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev34 : Nat :=
  let c0_i32_673 : BitVec 32 := 0#32
  let c9_i32_671 : BitVec 32 := 9#32
  let c1_i32_672 : BitVec 32 := 1#32
  let v993 : BitVec 32 := Scalar.muli c9_i32_671 c1_i32_672
  let v994 : BitVec 32 := Scalar.addi c0_i32_673 v993
  v994.toNat
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev35 : Nat :=
  let c0_i32_681 : BitVec 32 := 0#32
  let c9_i32_679 : BitVec 32 := 9#32
  let c1_i32_680 : BitVec 32 := 1#32
  let v1003 : BitVec 32 := Scalar.muli c9_i32_679 c1_i32_680
  let v1004 : BitVec 32 := Scalar.addi c0_i32_681 v1003
  v1004.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_191 : BitVec 32 := 10#32
  let v310 : BitVec 1 := Scalar.cmpi .eq v2 c10_i32_191
  let v311 : BitVec 32 := Scalar.extui v310
  let c0_i32_192 : BitVec 32 := 0#32
  let v312 : BitVec 1 := Scalar.cmpi .ne v311 c0_i32_192
  v312

def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_193 : BitVec 32 := 10#32
  let v313 : BitVec 1 := Scalar.cmpi .ne v2 c10_i32_193
  let v314 : BitVec 32 := Scalar.extui v313
  let c0_i32_194 : BitVec 32 := 0#32
  let v315 : BitVec 1 := Scalar.cmpi .ne v314 c0_i32_194
  v315

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev36 : Nat :=
  let c0_i32_673 : BitVec 32 := 0#32
  let c10_i32_671 : BitVec 32 := 10#32
  let c1_i32_672 : BitVec 32 := 1#32
  let v993 : BitVec 32 := Scalar.muli c10_i32_671 c1_i32_672
  let v994 : BitVec 32 := Scalar.addi c0_i32_673 v993
  v994.toNat
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev37 : Nat :=
  let c0_i32_681 : BitVec 32 := 0#32
  let c10_i32_679 : BitVec 32 := 10#32
  let c1_i32_680 : BitVec 32 := 1#32
  let v1003 : BitVec 32 := Scalar.muli c10_i32_679 c1_i32_680
  let v1004 : BitVec 32 := Scalar.addi c0_i32_681 v1003
  v1004.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_195 : BitVec 32 := 11#32
  let v318 : BitVec 1 := Scalar.cmpi .eq v2 c11_i32_195
  let v319 : BitVec 32 := Scalar.extui v318
  let c0_i32_196 : BitVec 32 := 0#32
  let v320 : BitVec 1 := Scalar.cmpi .ne v319 c0_i32_196
  v320

def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_197 : BitVec 32 := 11#32
  let v321 : BitVec 1 := Scalar.cmpi .ne v2 c11_i32_197
  let v322 : BitVec 32 := Scalar.extui v321
  let c0_i32_198 : BitVec 32 := 0#32
  let v323 : BitVec 1 := Scalar.cmpi .ne v322 c0_i32_198
  v323

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev38 : Nat :=
  let c0_i32_673 : BitVec 32 := 0#32
  let c11_i32_671 : BitVec 32 := 11#32
  let c1_i32_672 : BitVec 32 := 1#32
  let v993 : BitVec 32 := Scalar.muli c11_i32_671 c1_i32_672
  let v994 : BitVec 32 := Scalar.addi c0_i32_673 v993
  v994.toNat
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev39 : Nat :=
  let c0_i32_681 : BitVec 32 := 0#32
  let c11_i32_679 : BitVec 32 := 11#32
  let c1_i32_680 : BitVec 32 := 1#32
  let v1003 : BitVec 32 := Scalar.muli c11_i32_679 c1_i32_680
  let v1004 : BitVec 32 := Scalar.addi c0_i32_681 v1003
  v1004.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_213 : BitVec 32 := 12#32
  let v352 : BitVec 1 := Scalar.cmpi .eq v2 c12_i32_213
  let v353 : BitVec 32 := Scalar.extui v352
  let c0_i32_214 : BitVec 32 := 0#32
  let v354 : BitVec 1 := Scalar.cmpi .ne v353 c0_i32_214
  v354

def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_215 : BitVec 32 := 12#32
  let v355 : BitVec 1 := Scalar.cmpi .ne v2 c12_i32_215
  let v356 : BitVec 32 := Scalar.extui v355
  let c0_i32_216 : BitVec 32 := 0#32
  let v357 : BitVec 1 := Scalar.cmpi .ne v356 c0_i32_216
  v357

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev40 : Nat :=
  let c0_i32_673 : BitVec 32 := 0#32
  let c12_i32_671 : BitVec 32 := 12#32
  let c1_i32_672 : BitVec 32 := 1#32
  let v993 : BitVec 32 := Scalar.muli c12_i32_671 c1_i32_672
  let v994 : BitVec 32 := Scalar.addi c0_i32_673 v993
  v994.toNat
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev41 : Nat :=
  let c0_i32_681 : BitVec 32 := 0#32
  let c12_i32_679 : BitVec 32 := 12#32
  let c1_i32_680 : BitVec 32 := 1#32
  let v1003 : BitVec 32 := Scalar.muli c12_i32_679 c1_i32_680
  let v1004 : BitVec 32 := Scalar.addi c0_i32_681 v1003
  v1004.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_217 : BitVec 32 := 13#32
  let v360 : BitVec 1 := Scalar.cmpi .eq v2 c13_i32_217
  let v361 : BitVec 32 := Scalar.extui v360
  let c0_i32_218 : BitVec 32 := 0#32
  let v362 : BitVec 1 := Scalar.cmpi .ne v361 c0_i32_218
  v362

def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_219 : BitVec 32 := 13#32
  let v363 : BitVec 1 := Scalar.cmpi .ne v2 c13_i32_219
  let v364 : BitVec 32 := Scalar.extui v363
  let c0_i32_220 : BitVec 32 := 0#32
  let v365 : BitVec 1 := Scalar.cmpi .ne v364 c0_i32_220
  v365

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev42 : Nat :=
  let c0_i32_673 : BitVec 32 := 0#32
  let c13_i32_671 : BitVec 32 := 13#32
  let c1_i32_672 : BitVec 32 := 1#32
  let v993 : BitVec 32 := Scalar.muli c13_i32_671 c1_i32_672
  let v994 : BitVec 32 := Scalar.addi c0_i32_673 v993
  v994.toNat
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev43 : Nat :=
  let c0_i32_681 : BitVec 32 := 0#32
  let c13_i32_679 : BitVec 32 := 13#32
  let c1_i32_680 : BitVec 32 := 1#32
  let v1003 : BitVec 32 := Scalar.muli c13_i32_679 c1_i32_680
  let v1004 : BitVec 32 := Scalar.addi c0_i32_681 v1003
  v1004.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_235 : BitVec 32 := 14#32
  let v394 : BitVec 1 := Scalar.cmpi .eq v2 c14_i32_235
  let v395 : BitVec 32 := Scalar.extui v394
  let c0_i32_236 : BitVec 32 := 0#32
  let v396 : BitVec 1 := Scalar.cmpi .ne v395 c0_i32_236
  v396

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_237 : BitVec 32 := 14#32
  let v397 : BitVec 1 := Scalar.cmpi .ne v2 c14_i32_237
  let v398 : BitVec 32 := Scalar.extui v397
  let c0_i32_238 : BitVec 32 := 0#32
  let v399 : BitVec 1 := Scalar.cmpi .ne v398 c0_i32_238
  v399

def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev44 : Nat :=
  let c0_i32_673 : BitVec 32 := 0#32
  let c14_i32_671 : BitVec 32 := 14#32
  let c1_i32_672 : BitVec 32 := 1#32
  let v993 : BitVec 32 := Scalar.muli c14_i32_671 c1_i32_672
  let v994 : BitVec 32 := Scalar.addi c0_i32_673 v993
  v994.toNat
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev45 : Nat :=
  let c0_i32_681 : BitVec 32 := 0#32
  let c14_i32_679 : BitVec 32 := 14#32
  let c1_i32_680 : BitVec 32 := 1#32
  let v1003 : BitVec 32 := Scalar.muli c14_i32_679 c1_i32_680
  let v1004 : BitVec 32 := Scalar.addi c0_i32_681 v1003
  v1004.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_239 : BitVec 32 := 15#32
  let v402 : BitVec 1 := Scalar.cmpi .eq v2 c15_i32_239
  let v403 : BitVec 32 := Scalar.extui v402
  let c0_i32_240 : BitVec 32 := 0#32
  let v404 : BitVec 1 := Scalar.cmpi .ne v403 c0_i32_240
  v404

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v994 : Index := Scalar.indexCast v2
  let c0_669 : Index := 0#32
  let c0_670 : Index := 0#32
  ![v994.toNat, 0, 0]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v999 : Index := Scalar.indexCast v2
  let c0_671 : Index := 0#32
  let c0_672 : Index := 0#32
  ![v999.toNat, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_241 : BitVec 32 := 15#32
  let v405 : BitVec 1 := Scalar.cmpi .ne v2 c15_i32_241
  let v406 : BitVec 32 := Scalar.extui v405
  let c0_i32_242 : BitVec 32 := 0#32
  let v407 : BitVec 1 := Scalar.cmpi .ne v406 c0_i32_242
  v407

def k0_off78 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let c0_i32_675 : BitVec 32 := 0#32
  ![v2.toNat, 0, 0]
def k0_dev46 : Nat :=
  let c0_i32_673 : BitVec 32 := 0#32
  let c15_i32_671 : BitVec 32 := 15#32
  let c1_i32_672 : BitVec 32 := 1#32
  let v993 : BitVec 32 := Scalar.muli c15_i32_671 c1_i32_672
  let v994 : BitVec 32 := Scalar.addi c0_i32_673 v993
  v994.toNat
def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_682 : BitVec 32 := 0#32
  let c0_i32_683 : BitVec 32 := 0#32
  ![v2.toNat, 0, 0]
def k0_dev47 : Nat :=
  let c0_i32_681 : BitVec 32 := 0#32
  let c15_i32_679 : BitVec 32 := 15#32
  let c1_i32_680 : BitVec 32 := 1#32
  let v1003 : BitVec 32 := Scalar.muli c15_i32_679 c1_i32_680
  let v1004 : BitVec 32 := Scalar.addi c0_i32_681 v1003
  v1004.toNat
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v700 : BitVec 32 := Scalar.muli v2 c64_i32
  let v701 : Index := Scalar.indexCast v700
  let c0_413 : Index := 0#32
  ![v701.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_414 : BitVec 32 := 0#32
  let v705 : BitVec 1 := Scalar.cmpi .ne v2 c0_i32_414
  let v706 : BitVec 32 := Scalar.extui v705
  let c0_i32_415 : BitVec 32 := 0#32
  let v707 : BitVec 1 := Scalar.cmpi .ne v706 c0_i32_415
  v707

def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev48 : Nat :=
  let c0_i32_674 : BitVec 32 := 0#32
  let c0_i32_672 : BitVec 32 := 0#32
  let c1_i32_673 : BitVec 32 := 1#32
  let v995 : BitVec 32 := Scalar.muli c0_i32_672 c1_i32_673
  let v996 : BitVec 32 := Scalar.addi c0_i32_674 v995
  v996.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_416 : BitVec 32 := 1#32
  let v708 : BitVec 1 := Scalar.cmpi .ne v2 c1_i32_416
  let v709 : BitVec 32 := Scalar.extui v708
  let c0_i32_417 : BitVec 32 := 0#32
  let v710 : BitVec 1 := Scalar.cmpi .ne v709 c0_i32_417
  v710

def k0_off84 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off85 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev49 : Nat :=
  let c0_i32_674 : BitVec 32 := 0#32
  let c1_i32_672 : BitVec 32 := 1#32
  let c1_i32_673 : BitVec 32 := 1#32
  let v995 : BitVec 32 := Scalar.muli c1_i32_672 c1_i32_673
  let v996 : BitVec 32 := Scalar.addi c0_i32_674 v995
  v996.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_418 : BitVec 32 := 2#32
  let v711 : BitVec 1 := Scalar.cmpi .ne v2 c2_i32_418
  let v712 : BitVec 32 := Scalar.extui v711
  let c0_i32_419 : BitVec 32 := 0#32
  let v713 : BitVec 1 := Scalar.cmpi .ne v712 c0_i32_419
  v713

def k0_off86 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev50 : Nat :=
  let c0_i32_674 : BitVec 32 := 0#32
  let c2_i32_672 : BitVec 32 := 2#32
  let c1_i32_673 : BitVec 32 := 1#32
  let v995 : BitVec 32 := Scalar.muli c2_i32_672 c1_i32_673
  let v996 : BitVec 32 := Scalar.addi c0_i32_674 v995
  v996.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_420 : BitVec 32 := 3#32
  let v714 : BitVec 1 := Scalar.cmpi .ne v2 c3_i32_420
  let v715 : BitVec 32 := Scalar.extui v714
  let c0_i32_421 : BitVec 32 := 0#32
  let v716 : BitVec 1 := Scalar.cmpi .ne v715 c0_i32_421
  v716

def k0_off88 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev51 : Nat :=
  let c0_i32_674 : BitVec 32 := 0#32
  let c3_i32_672 : BitVec 32 := 3#32
  let c1_i32_673 : BitVec 32 := 1#32
  let v995 : BitVec 32 := Scalar.muli c3_i32_672 c1_i32_673
  let v996 : BitVec 32 := Scalar.addi c0_i32_674 v995
  v996.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_422 : BitVec 32 := 4#32
  let v717 : BitVec 1 := Scalar.cmpi .ne v2 c4_i32_422
  let v718 : BitVec 32 := Scalar.extui v717
  let c0_i32_423 : BitVec 32 := 0#32
  let v719 : BitVec 1 := Scalar.cmpi .ne v718 c0_i32_423
  v719

def k0_off90 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off91 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev52 : Nat :=
  let c0_i32_674 : BitVec 32 := 0#32
  let c4_i32_672 : BitVec 32 := 4#32
  let c1_i32_673 : BitVec 32 := 1#32
  let v995 : BitVec 32 := Scalar.muli c4_i32_672 c1_i32_673
  let v996 : BitVec 32 := Scalar.addi c0_i32_674 v995
  v996.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_424 : BitVec 32 := 5#32
  let v720 : BitVec 1 := Scalar.cmpi .ne v2 c5_i32_424
  let v721 : BitVec 32 := Scalar.extui v720
  let c0_i32_425 : BitVec 32 := 0#32
  let v722 : BitVec 1 := Scalar.cmpi .ne v721 c0_i32_425
  v722

def k0_off92 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off93 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev53 : Nat :=
  let c0_i32_674 : BitVec 32 := 0#32
  let c5_i32_672 : BitVec 32 := 5#32
  let c1_i32_673 : BitVec 32 := 1#32
  let v995 : BitVec 32 := Scalar.muli c5_i32_672 c1_i32_673
  let v996 : BitVec 32 := Scalar.addi c0_i32_674 v995
  v996.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_426 : BitVec 32 := 6#32
  let v723 : BitVec 1 := Scalar.cmpi .ne v2 c6_i32_426
  let v724 : BitVec 32 := Scalar.extui v723
  let c0_i32_427 : BitVec 32 := 0#32
  let v725 : BitVec 1 := Scalar.cmpi .ne v724 c0_i32_427
  v725

def k0_off94 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off95 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev54 : Nat :=
  let c0_i32_674 : BitVec 32 := 0#32
  let c6_i32_672 : BitVec 32 := 6#32
  let c1_i32_673 : BitVec 32 := 1#32
  let v995 : BitVec 32 := Scalar.muli c6_i32_672 c1_i32_673
  let v996 : BitVec 32 := Scalar.addi c0_i32_674 v995
  v996.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_428 : BitVec 32 := 7#32
  let v726 : BitVec 1 := Scalar.cmpi .ne v2 c7_i32_428
  let v727 : BitVec 32 := Scalar.extui v726
  let c0_i32_429 : BitVec 32 := 0#32
  let v728 : BitVec 1 := Scalar.cmpi .ne v727 c0_i32_429
  v728

def k0_off96 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off97 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev55 : Nat :=
  let c0_i32_674 : BitVec 32 := 0#32
  let c7_i32_672 : BitVec 32 := 7#32
  let c1_i32_673 : BitVec 32 := 1#32
  let v995 : BitVec 32 := Scalar.muli c7_i32_672 c1_i32_673
  let v996 : BitVec 32 := Scalar.addi c0_i32_674 v995
  v996.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_430 : BitVec 32 := 8#32
  let v729 : BitVec 1 := Scalar.cmpi .ne v2 c8_i32_430
  let v730 : BitVec 32 := Scalar.extui v729
  let c0_i32_431 : BitVec 32 := 0#32
  let v731 : BitVec 1 := Scalar.cmpi .ne v730 c0_i32_431
  v731

def k0_off98 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off99 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev56 : Nat :=
  let c0_i32_674 : BitVec 32 := 0#32
  let c8_i32_672 : BitVec 32 := 8#32
  let c1_i32_673 : BitVec 32 := 1#32
  let v995 : BitVec 32 := Scalar.muli c8_i32_672 c1_i32_673
  let v996 : BitVec 32 := Scalar.addi c0_i32_674 v995
  v996.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_432 : BitVec 32 := 9#32
  let v732 : BitVec 1 := Scalar.cmpi .ne v2 c9_i32_432
  let v733 : BitVec 32 := Scalar.extui v732
  let c0_i32_433 : BitVec 32 := 0#32
  let v734 : BitVec 1 := Scalar.cmpi .ne v733 c0_i32_433
  v734

def k0_off100 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off101 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev57 : Nat :=
  let c0_i32_674 : BitVec 32 := 0#32
  let c9_i32_672 : BitVec 32 := 9#32
  let c1_i32_673 : BitVec 32 := 1#32
  let v995 : BitVec 32 := Scalar.muli c9_i32_672 c1_i32_673
  let v996 : BitVec 32 := Scalar.addi c0_i32_674 v995
  v996.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_434 : BitVec 32 := 10#32
  let v735 : BitVec 1 := Scalar.cmpi .ne v2 c10_i32_434
  let v736 : BitVec 32 := Scalar.extui v735
  let c0_i32_435 : BitVec 32 := 0#32
  let v737 : BitVec 1 := Scalar.cmpi .ne v736 c0_i32_435
  v737

def k0_off102 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off103 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev58 : Nat :=
  let c0_i32_674 : BitVec 32 := 0#32
  let c10_i32_672 : BitVec 32 := 10#32
  let c1_i32_673 : BitVec 32 := 1#32
  let v995 : BitVec 32 := Scalar.muli c10_i32_672 c1_i32_673
  let v996 : BitVec 32 := Scalar.addi c0_i32_674 v995
  v996.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_436 : BitVec 32 := 11#32
  let v738 : BitVec 1 := Scalar.cmpi .ne v2 c11_i32_436
  let v739 : BitVec 32 := Scalar.extui v738
  let c0_i32_437 : BitVec 32 := 0#32
  let v740 : BitVec 1 := Scalar.cmpi .ne v739 c0_i32_437
  v740

def k0_off104 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off105 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev59 : Nat :=
  let c0_i32_674 : BitVec 32 := 0#32
  let c11_i32_672 : BitVec 32 := 11#32
  let c1_i32_673 : BitVec 32 := 1#32
  let v995 : BitVec 32 := Scalar.muli c11_i32_672 c1_i32_673
  let v996 : BitVec 32 := Scalar.addi c0_i32_674 v995
  v996.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_438 : BitVec 32 := 12#32
  let v741 : BitVec 1 := Scalar.cmpi .ne v2 c12_i32_438
  let v742 : BitVec 32 := Scalar.extui v741
  let c0_i32_439 : BitVec 32 := 0#32
  let v743 : BitVec 1 := Scalar.cmpi .ne v742 c0_i32_439
  v743

def k0_off106 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off107 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev60 : Nat :=
  let c0_i32_674 : BitVec 32 := 0#32
  let c12_i32_672 : BitVec 32 := 12#32
  let c1_i32_673 : BitVec 32 := 1#32
  let v995 : BitVec 32 := Scalar.muli c12_i32_672 c1_i32_673
  let v996 : BitVec 32 := Scalar.addi c0_i32_674 v995
  v996.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_440 : BitVec 32 := 13#32
  let v744 : BitVec 1 := Scalar.cmpi .ne v2 c13_i32_440
  let v745 : BitVec 32 := Scalar.extui v744
  let c0_i32_441 : BitVec 32 := 0#32
  let v746 : BitVec 1 := Scalar.cmpi .ne v745 c0_i32_441
  v746

def k0_off108 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off109 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev61 : Nat :=
  let c0_i32_674 : BitVec 32 := 0#32
  let c13_i32_672 : BitVec 32 := 13#32
  let c1_i32_673 : BitVec 32 := 1#32
  let v995 : BitVec 32 := Scalar.muli c13_i32_672 c1_i32_673
  let v996 : BitVec 32 := Scalar.addi c0_i32_674 v995
  v996.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_442 : BitVec 32 := 14#32
  let v747 : BitVec 1 := Scalar.cmpi .ne v2 c14_i32_442
  let v748 : BitVec 32 := Scalar.extui v747
  let c0_i32_443 : BitVec 32 := 0#32
  let v749 : BitVec 1 := Scalar.cmpi .ne v748 c0_i32_443
  v749

def k0_off110 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off111 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev62 : Nat :=
  let c0_i32_674 : BitVec 32 := 0#32
  let c14_i32_672 : BitVec 32 := 14#32
  let c1_i32_673 : BitVec 32 := 1#32
  let v995 : BitVec 32 := Scalar.muli c14_i32_672 c1_i32_673
  let v996 : BitVec 32 := Scalar.addi c0_i32_674 v995
  v996.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_444 : BitVec 32 := 15#32
  let v750 : BitVec 1 := Scalar.cmpi .ne v2 c15_i32_444
  let v751 : BitVec 32 := Scalar.extui v750
  let c0_i32_445 : BitVec 32 := 0#32
  let v752 : BitVec 1 := Scalar.cmpi .ne v751 c0_i32_445
  v752

def k0_off112 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off113 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_670 : BitVec 32 := 64#32
  let v994 : BitVec 32 := Scalar.muli v2 c64_i32_670
  let c0_i32_675 : BitVec 32 := 0#32
  ![v994.toNat, 0]
def k0_dev63 : Nat :=
  let c0_i32_674 : BitVec 32 := 0#32
  let c15_i32_672 : BitVec 32 := 15#32
  let c1_i32_673 : BitVec 32 := 1#32
  let v995 : BitVec 32 := Scalar.muli c15_i32_672 c1_i32_673
  let v996 : BitVec 32 := Scalar.addi c0_i32_674 v995
  v996.toNat
def k0_dev64 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_534 : BitVec 32 := 1#32
  let v873 : BitVec 32 := Scalar.addi v2 c1_i32_534
  let c16_i32_535 : BitVec 32 := 16#32
  let v874 : BitVec 32 := Scalar.remsi v873 c16_i32_535
  let c1_i32_538 : BitVec 32 := 1#32
  let v877 : BitVec 32 := Scalar.muli v874 c1_i32_538
  let v878 : BitVec 32 := Scalar.addi c0_i32_539 v877
  v878.toNat
def k0_dev65 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_540 : BitVec 32 := 2#32
  let v879 : BitVec 32 := Scalar.addi v2 c2_i32_540
  let c16_i32_541 : BitVec 32 := 16#32
  let v880 : BitVec 32 := Scalar.remsi v879 c16_i32_541
  let c1_i32_544 : BitVec 32 := 1#32
  let v883 : BitVec 32 := Scalar.muli v880 c1_i32_544
  let v884 : BitVec 32 := Scalar.addi c0_i32_545 v883
  v884.toNat
def k0_dev66 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_546 : BitVec 32 := 3#32
  let v885 : BitVec 32 := Scalar.addi v2 c3_i32_546
  let c16_i32_547 : BitVec 32 := 16#32
  let v886 : BitVec 32 := Scalar.remsi v885 c16_i32_547
  let c1_i32_550 : BitVec 32 := 1#32
  let v889 : BitVec 32 := Scalar.muli v886 c1_i32_550
  let v890 : BitVec 32 := Scalar.addi c0_i32_551 v889
  v890.toNat
def k0_dev67 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_552 : BitVec 32 := 4#32
  let v891 : BitVec 32 := Scalar.addi v2 c4_i32_552
  let c16_i32_553 : BitVec 32 := 16#32
  let v892 : BitVec 32 := Scalar.remsi v891 c16_i32_553
  let c1_i32_556 : BitVec 32 := 1#32
  let v895 : BitVec 32 := Scalar.muli v892 c1_i32_556
  let v896 : BitVec 32 := Scalar.addi c0_i32_557 v895
  v896.toNat
def k0_dev68 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_558 : BitVec 32 := 5#32
  let v897 : BitVec 32 := Scalar.addi v2 c5_i32_558
  let c16_i32_559 : BitVec 32 := 16#32
  let v898 : BitVec 32 := Scalar.remsi v897 c16_i32_559
  let c1_i32_562 : BitVec 32 := 1#32
  let v901 : BitVec 32 := Scalar.muli v898 c1_i32_562
  let v902 : BitVec 32 := Scalar.addi c0_i32_563 v901
  v902.toNat
def k0_dev69 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_564 : BitVec 32 := 6#32
  let v903 : BitVec 32 := Scalar.addi v2 c6_i32_564
  let c16_i32_565 : BitVec 32 := 16#32
  let v904 : BitVec 32 := Scalar.remsi v903 c16_i32_565
  let c1_i32_568 : BitVec 32 := 1#32
  let v907 : BitVec 32 := Scalar.muli v904 c1_i32_568
  let v908 : BitVec 32 := Scalar.addi c0_i32_569 v907
  v908.toNat
def k0_dev70 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_570 : BitVec 32 := 7#32
  let v909 : BitVec 32 := Scalar.addi v2 c7_i32_570
  let c16_i32_571 : BitVec 32 := 16#32
  let v910 : BitVec 32 := Scalar.remsi v909 c16_i32_571
  let c1_i32_574 : BitVec 32 := 1#32
  let v913 : BitVec 32 := Scalar.muli v910 c1_i32_574
  let v914 : BitVec 32 := Scalar.addi c0_i32_575 v913
  v914.toNat
def k0_dev71 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_576 : BitVec 32 := 8#32
  let v915 : BitVec 32 := Scalar.addi v2 c8_i32_576
  let c16_i32_577 : BitVec 32 := 16#32
  let v916 : BitVec 32 := Scalar.remsi v915 c16_i32_577
  let c1_i32_580 : BitVec 32 := 1#32
  let v919 : BitVec 32 := Scalar.muli v916 c1_i32_580
  let v920 : BitVec 32 := Scalar.addi c0_i32_581 v919
  v920.toNat
def k0_dev72 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_582 : BitVec 32 := 9#32
  let v921 : BitVec 32 := Scalar.addi v2 c9_i32_582
  let c16_i32_583 : BitVec 32 := 16#32
  let v922 : BitVec 32 := Scalar.remsi v921 c16_i32_583
  let c1_i32_586 : BitVec 32 := 1#32
  let v925 : BitVec 32 := Scalar.muli v922 c1_i32_586
  let v926 : BitVec 32 := Scalar.addi c0_i32_587 v925
  v926.toNat
def k0_dev73 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_588 : BitVec 32 := 10#32
  let v927 : BitVec 32 := Scalar.addi v2 c10_i32_588
  let c16_i32_589 : BitVec 32 := 16#32
  let v928 : BitVec 32 := Scalar.remsi v927 c16_i32_589
  let c1_i32_592 : BitVec 32 := 1#32
  let v931 : BitVec 32 := Scalar.muli v928 c1_i32_592
  let v932 : BitVec 32 := Scalar.addi c0_i32_593 v931
  v932.toNat
def k0_dev74 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_594 : BitVec 32 := 11#32
  let v933 : BitVec 32 := Scalar.addi v2 c11_i32_594
  let c16_i32_595 : BitVec 32 := 16#32
  let v934 : BitVec 32 := Scalar.remsi v933 c16_i32_595
  let c1_i32_598 : BitVec 32 := 1#32
  let v937 : BitVec 32 := Scalar.muli v934 c1_i32_598
  let v938 : BitVec 32 := Scalar.addi c0_i32_599 v937
  v938.toNat
def k0_dev75 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_600 : BitVec 32 := 12#32
  let v939 : BitVec 32 := Scalar.addi v2 c12_i32_600
  let c16_i32_601 : BitVec 32 := 16#32
  let v940 : BitVec 32 := Scalar.remsi v939 c16_i32_601
  let c1_i32_604 : BitVec 32 := 1#32
  let v943 : BitVec 32 := Scalar.muli v940 c1_i32_604
  let v944 : BitVec 32 := Scalar.addi c0_i32_605 v943
  v944.toNat
def k0_dev76 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_606 : BitVec 32 := 13#32
  let v945 : BitVec 32 := Scalar.addi v2 c13_i32_606
  let c16_i32_607 : BitVec 32 := 16#32
  let v946 : BitVec 32 := Scalar.remsi v945 c16_i32_607
  let c1_i32_610 : BitVec 32 := 1#32
  let v949 : BitVec 32 := Scalar.muli v946 c1_i32_610
  let v950 : BitVec 32 := Scalar.addi c0_i32_611 v949
  v950.toNat
def k0_dev77 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_612 : BitVec 32 := 14#32
  let v951 : BitVec 32 := Scalar.addi v2 c14_i32_612
  let c16_i32_613 : BitVec 32 := 16#32
  let v952 : BitVec 32 := Scalar.remsi v951 c16_i32_613
  let c1_i32_616 : BitVec 32 := 1#32
  let v955 : BitVec 32 := Scalar.muli v952 c1_i32_616
  let v956 : BitVec 32 := Scalar.addi c0_i32_617 v955
  v956.toNat
def k0_dev78 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_618 : BitVec 32 := 15#32
  let v957 : BitVec 32 := Scalar.addi v2 c15_i32_618
  let c16_i32_619 : BitVec 32 := 16#32
  let v958 : BitVec 32 := Scalar.remsi v957 c16_i32_619
  let c1_i32_622 : BitVec 32 := 1#32
  let v961 : BitVec 32 := Scalar.muli v958 c1_i32_622
  let v962 : BitVec 32 := Scalar.addi c0_i32_623 v961
  v962.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S1x512x1024 : Shape := ⟨3, ![1, 512, 1024]⟩
abbrev S1024x1024 : Shape := ⟨2, ![1024, 1024]⟩
abbrev S1x32768x8x128 : Shape := ⟨4, ![1, 32768, 8, 128]⟩
abbrev S512x1024 : Shape := ⟨2, ![512, 1024]⟩
abbrev S512x8x128 : Shape := ⟨3, ![512, 8, 128]⟩
abbrev S32768x8x128 : Shape := ⟨3, ![32768, 8, 128]⟩
abbrev S8x512x32768 : Shape := ⟨3, ![8, 512, 32768]⟩
abbrev S_ : Shape := ⟨0, ![]⟩
abbrev S8x512 : Shape := ⟨2, ![8, 512]⟩
abbrev S8x512x1 : Shape := ⟨3, ![8, 512, 1]⟩
abbrev S8x512x128 : Shape := ⟨3, ![8, 512, 128]⟩

abbrev nBuf : Space → Nat
  | .hbm => 39
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1x32768x8x128, .bf16⟩
  | .hbm, ⟨3, _⟩ => ⟨S1x32768x8x128, .bf16⟩
  | .hbm, ⟨4, _⟩ => ⟨S1024x1024, .bf16⟩
  | .hbm, ⟨5, _⟩ => ⟨S1x512x1024, .f32⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x8x128, .f32⟩
  | .hbm, ⟨12, _⟩ => ⟨S1x32768x8x128, .f32⟩
  | .hbm, ⟨13, _⟩ => ⟨S32768x8x128, .f32⟩
  | .hbm, ⟨14, _⟩ => ⟨S1x32768x8x128, .f32⟩
  | .hbm, ⟨15, _⟩ => ⟨S32768x8x128, .f32⟩
  | .hbm, ⟨16, _⟩ => ⟨S8x512x32768, .f32⟩
  | .hbm, ⟨17, _⟩ => ⟨S8x512x32768, .bf16⟩
  | .hbm, ⟨18, _⟩ => ⟨S8x512x32768, .f32⟩
  | .hbm, ⟨19, _⟩ => ⟨S_, .f32⟩
  | .hbm, ⟨20, _⟩ => ⟨S8x512x32768, .f32⟩
  | .hbm, ⟨21, _⟩ => ⟨S8x512x32768, .f32⟩
  | .hbm, ⟨22, _⟩ => ⟨S_, .f32⟩
  | .hbm, ⟨23, _⟩ => ⟨S8x512, .f32⟩
  | .hbm, ⟨24, _⟩ => ⟨S8x512x1, .f32⟩
  | .hbm, ⟨25, _⟩ => ⟨S8x512x32768, .f32⟩
  | .hbm, ⟨26, _⟩ => ⟨S8x512x32768, .f32⟩
  | .hbm, ⟨27, _⟩ => ⟨S8x512x32768, .f32⟩
  | .hbm, ⟨28, _⟩ => ⟨S_, .f32⟩
  | .hbm, ⟨29, _⟩ => ⟨S8x512, .f32⟩
  | .hbm, ⟨30, _⟩ => ⟨S8x512x1, .f32⟩
  | .hbm, ⟨31, _⟩ => ⟨S8x512x128, .f32⟩
  | .hbm, ⟨32, _⟩ => ⟨S8x512x128, .f32⟩
  | .hbm, ⟨33, _⟩ => ⟨S8x512x128, .f32⟩
  | .hbm, ⟨34, _⟩ => ⟨S512x8x128, .f32⟩
  | .hbm, ⟨35, _⟩ => ⟨S512x1024, .f32⟩
  | .hbm, ⟨36, _⟩ => ⟨S1024x1024, .f32⟩
  | .hbm, ⟨37, _⟩ => ⟨S512x1024, .f32⟩
  | .hbm, ⟨38, _⟩ => ⟨S1x512x1024, .f32⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Sched.lean ====
/- The protocol of the kernel's five families of semaphores, as a schedule of rounds: per cell who pays, how much, and what the
   units hand to the cell's owner. Every cell has one round. The contents handed over are three parameters: what a device's
   buffer of partial outputs holds (`cat`), what its buffer of partial statistics holds (`stat`), and the combined output
   (`norm`), the same on every device. -/
module

public import proofs.«01_k».proof.Proof.Gen.KernelIdeal.Frame
public import Idealize.ShloMosaic.Lib.ShareLeaves
public import Idealize.ShloMosaic.Lib.ValueIdx
public import Idealize.ShloMosaic.Lib.Rounds.Family
public import Idealize.ShloMosaic.Lib.Pipeline.RegionTalk

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type}

/-- The two resource algebras side by side: the staging copies' and the protocol's, whose duties are named by devices. -/
abbrev UU : Type := UR sig nD τ × URounds (GSem nD τ sig) (Dev nD)

local notation "𝕄" => MT nD τ sig Unit (Elt F) ℕ UU ℕ

/-- Assertions over the machine's resources and these. -/
abbrev SP (F : FTy → Type) := sProp (MT nD τ sig Unit (Elt F) ℕ UU ℕ)

abbrev EP : Emb (UR sig nD τ) (MT nD τ sig Unit (Elt F) ℕ UU ℕ) := embL
abbrev ER : Emb (URounds (GSem nD τ sig) (Dev nD)) (MT nD τ sig Unit (Elt F) ℕ UU ℕ) := embR

abbrev 𝒱₀ : Variants := Variants.none

/-! ## Cells -/

/-- Member `i` of the `k`-th array of transfer semaphores: 0 statistics sent, 1 statistics received, 2 outputs sent, 3 outputs
    received, 4 combined outputs sent, 5 combined outputs received. -/
def dsem (k : Fin 6) (i : Dev nD) : DmaSem sig := ⟨6 + 16 * k.val + i.val, by
  have h : sig.nDmaSem = 102 := rfl
  have := k.isLt; have hi : i.val < 16 := i.isLt; omega⟩

/-- That semaphore on device `c`. -/
abbrev kc (k : Fin 6) (c i : Dev nD) : GSem nD τ sig := ((c : Thread nD τ), .dma (dsem k i))

/-- The barrier semaphore of device `c`. -/
abbrev barC (c : Dev nD) : GSem nD τ sig := ((c : Thread nD τ), .reg barrier0)

/-- The exit semaphore of a device that the device `k` places after it pays. -/
def exSem (k : Dev nD) : Sem sig := ⟨k.val - 1, by
  have h : sig.nSem = 16 := rfl
  have hk : k.val < 16 := k.isLt; omega⟩

/-- The exit semaphore of device `p` that device `c` pays. -/
abbrev exC (p c : Dev nD) : GSem nD τ sig := ((p : Thread nD τ), .reg (exSem (c - p)))

/-! ## The four exchanged buffers and their parts -/

abbrev catL (c : Dev nD) : Loc nD τ sig := (c : Thread nD τ).loc cc0_scratch0
abbrev statL (c : Dev nD) : Loc nD τ sig := (c : Thread nD τ).loc cc0_scratch1
abbrev osegL (c : Dev nD) : Loc nD τ sig := (c : Thread nD τ).loc cc0_scratch2
abbrev statsL (c : Dev nD) : Loc nD τ sig := (c : Thread nD τ).loc cc0_scratch3

/-- The rows of device `s`'s segment. -/
def catSeg (s : Dev nD) : Finset S1024x512.Idx := Finset.univ.filter fun i => (i 0).val / 64 = s.val
/-- The rows of one head's statistics. -/
def statRow (h : ℕ) : Finset S8x2x512.Idx := Finset.univ.filter fun i => (i 0).val = h
/-- Slot `s` of the received outputs. -/
def osegRow (s : Dev nD) : Finset S16x64x512.Idx := Finset.univ.filter fun i => (i 0).val = s.val
/-- Slot `s` of the received statistics. -/
def statsRow (s : Dev nD) : Finset S16x2x512.Idx := Finset.univ.filter fun i => (i 0).val = s.val

/-- One of sixteen equal shares. -/
abbrev lf (p : Dev nD) : PosShare TreeShare := ShareLeaves.leaf 4 fullShare p
/-- One of two equal shares, by the parity of the receiver. -/
abbrev hf (p : Dev nD) : PosShare TreeShare := ShareLeaves.leaf 1 fullShare ⟨p.val % 2, Nat.mod_lt _ (by decide)⟩

/-- What device `c`'s slots of received outputs hold: of each sender the segment of `c`. -/
def osegF (cat : Dev nD → Vec F S1024x512 .bf16) (c : Dev nD) : Vec F S16x64x512 .bf16 :=
  fun i => cat (i 0) (ix2 ⟨64 * c.val + (i 1).val, by
    have h1 : (i 1).val < 64 := (i 1).isLt
    have hc : c.val < 16 := c.isLt; omega⟩ (i 2))

/-- What device `c`'s slots of received statistics hold: of each sender the statistics of the head of `c`. -/
def statsF (stat : Dev nD → Vec F S8x2x512 .f32) (c : Dev nD) : Vec F S16x2x512 .f32 :=
  fun i => stat (i 0) (ix3 ⟨c.val / 2, by have hc : c.val < 16 := c.isLt; omega⟩ (i 1) (i 2))

/-- The units of one copy of statistics, of outputs, of combined outputs. -/
abbrev Na : ℕ := sig.dmaCredit .tc (Kind.tc.table .vmem) 9 S2x512 .f32
abbrev Nb : ℕ := sig.dmaCredit .tc (Kind.tc.table .vmem) 8 S64x512 .bf16
abbrev Nd : ℕ := sig.dmaCredit .tc (Kind.tc.table .vmem) 6 S64x512 .bf16

/-! ## The schedule -/

section Sched

variable (cat : Dev nD → Vec F S1024x512 .bf16) (stat : Dev nD → Vec F S8x2x512 .f32) (norm : Vec F S1024x512 .bf16)

/-- Device `p`'s slots for device `c`, at contents not chosen. -/
def slots (p c : Dev nD) : sProp 𝕄 :=
  iprop((∃ f : Buf (Elt F) (statsL p), statsL p ↦[statsRow c]{fullShare} f) ∗ (∃ f : Buf (Elt F) (osegL p), osegL p ↦[osegRow c]{fullShare} f))

/-- What a device `p` hands to device `c` when it signals its barrier semaphore: its slots for `c`, and that the cells of `p`
    that `c` is going to pay are in use. -/
def barPay (c p : Dev nD) : sProp 𝕄 :=
  iprop(slots p c ∗ reached ER (kc 1 p c) 0 ∗ reached ER (kc 3 p c) 0 ∗ reached ER (kc 5 p c) 0 ∗ reached ER (exC p c) 0)

/-- The payload of a transfer semaphore of kind `k`, index `i`, on device `c`. -/
def dmaPay (c : Dev nD) (k : Fin 6) (i : Dev nD) : sProp 𝕄 :=
  match k with
  | 0 => (statL c ↦[statRow (i.val / 2)]{hf i} stat c)
  | 1 => (statsL c ↦[statsRow i]{fullShare} statsF stat c)
  | 2 => iprop(emp)
  | 3 => iprop((osegL c ↦[osegRow i]{fullShare} osegF cat c) ∗ (catL i ↦[catSeg c]{fullShare} cat i))
  | 4 => (catL c ↦[catSeg c]{lf i} norm)
  | 5 => (catL c ↦[catSeg i]{fullShare} norm)

instance dmaPay_storable (c : Dev nD) (k : Fin 6) (i : Dev nD) : BI.Storable (upEmb : UEmb _ 𝕄) (dmaPay cat stat norm c k i) := by
  unfold dmaPay; fin_cases k <;> (dsimp only; infer_instance)

instance barPay_storable (c p : Dev nD) : BI.Storable (upEmb : UEmb _ 𝕄) (barPay (F := F) c p) := by
  unfold barPay slots; infer_instance

/-- The kind and the index of a transfer semaphore. -/
def kindOf (q : DmaSem sig) : Fin 6 := ⟨(q.val - 6) / 16 % 6, Nat.mod_lt _ (by decide)⟩
def indexOf (q : DmaSem sig) : Dev nD := ⟨(q.val - 6) % 16, Nat.mod_lt _ (by decide)⟩

theorem kindOf_dsem (k : Fin 6) (i : Dev nD) : kindOf (dsem k i) = k := by
  have := k.isLt; have hi : i.val < 16 := i.isLt
  exact Fin.ext (show (6 + 16 * k.val + i.val - 6) / 16 % 6 = k.val by omega)
theorem indexOf_dsem (k : Fin 6) (i : Dev nD) : indexOf (dsem k i) = i := by
  have := k.isLt; have hi : i.val < 16 := i.isLt
  exact Fin.ext (show (6 + 16 * k.val + i.val - 6) % 16 = i.val by omega)

/-- The payers of a semaphore of device `c`. -/
def payers (c : Dev nD) : SemLoc sig → Finset (Dev nD)
  | .dma q => if 6 ≤ q.val ∧ indexOf q ≠ c then {indexOf q} else ∅
  | .reg s => if s = barrier0 then Finset.univ.erase c else {c + ⟨(s.val + 1) % 16, Nat.mod_lt _ (by decide)⟩}

/-- The units each pays. -/
def units : SemLoc sig → ℕ
  | .dma q => if kindOf q = 0 ∨ kindOf q = 1 then Na else if kindOf q = 2 ∨ kindOf q = 3 then Nb else Nd
  | .reg _ => 1

/-- What they hand over. -/
def pay (c : Dev nD) (s : SemLoc sig) (d : Dev nD) : sProp 𝕄 :=
  match s with
  | .dma q => dmaPay cat stat norm c (kindOf q) (indexOf q)
  | .reg s => if s = barrier0 then barPay c d else iprop(emp)

theorem Na_pos : 0 < Na := sig.dmaCredit_pos _ _ _ _ _ (by decide)
theorem Nb_pos : 0 < Nb := sig.dmaCredit_pos _ _ _ _ _ (by decide)
theorem Nd_pos : 0 < Nd := sig.dmaCredit_pos _ _ _ _ _ (by decide)

theorem units_pos (s : SemLoc sig) : 0 < units s := by
  cases s with
  | dma q => unfold units; dsimp only; split; exact Na_pos; split; exact Nb_pos; exact Nd_pos
  | reg s => exact Nat.one_pos

/-- The rounds. -/
def Rd : Schedule (GSem nD τ sig) (Dev nD) 𝕄 where
  duties g r := if r = 0 ∧ g.1.2 = .tc then payers g.1.1 g.2 else ∅
  unitless _ := False
  amount g _ _ := units g.2
  payload g _ d := pay cat stat norm g.1.1 g.2 d
  amount_pos g _ _ _ := units_pos g.2

instance Rd_storable (g : GSem nD τ sig) (r : ℕ) (d : Dev nD) :
    BI.Storable (upEmb : UEmb _ 𝕄) ((Rd cat stat norm).payload g r d) := by
  show BI.Storable upEmb (pay cat stat norm g.1.1 g.2 d)
  unfold pay
  split
  · infer_instance
  · split <;> infer_instance

theorem duties_kc (k : Fin 6) (c i : Dev nD) (h : i ≠ c) : (Rd (F := F) cat stat norm).duties (kc k c i) 0 = {i} := by
  have h6 : 6 ≤ (dsem k i).val := by unfold dsem; dsimp only; omega
  dsimp only [Rd]
  rw [if_pos ⟨rfl, rfl⟩]
  unfold payers; dsimp only
  rw [indexOf_dsem, if_pos ⟨h6, h⟩]

theorem duties_kc_self (k : Fin 6) (c : Dev nD) : (Rd (F := F) cat stat norm).duties (kc k c c) 0 = ∅ := by
  dsimp only [Rd]
  rw [if_pos ⟨rfl, rfl⟩]
  unfold payers; dsimp only
  rw [indexOf_dsem, if_neg (fun h => h.2 rfl)]

theorem duties_bar (c : Dev nD) : (Rd (F := F) cat stat norm).duties (barC c) 0 = Finset.univ.erase c := by
  dsimp only [Rd]
  rw [if_pos ⟨rfl, rfl⟩]
  unfold payers; dsimp only
  rw [if_pos rfl]

theorem exSem_ne_bar (k : Dev nD) : exSem k ≠ barrier0 := by
  intro h
  have h' : k.val - 1 = 15 := congrArg Fin.val h
  have hk : k.val < 16 := k.isLt
  omega

theorem duties_ex (p c : Dev nD) (h : c ≠ p) : (Rd (F := F) cat stat norm).duties (exC p c) 0 = {c} := by
  dsimp only [Rd]
  rw [if_pos ⟨rfl, rfl⟩]
  unfold payers; dsimp only
  rw [if_neg (exSem_ne_bar _)]
  congr 1
  revert h
  unfold exSem
  revert p c
  decide

theorem duties_later (g : GSem nD τ sig) : ∀ r, 1 ≤ r → (Rd (F := F) cat stat norm).duties g r = ∅ :=
  fun r hr => by dsimp only [Rd]; rw [if_neg (fun h => by omega)]

theorem amount_kc0 (c i : Dev nD) (d : Dev nD) : (Rd (F := F) cat stat norm).amount (kc 0 c i) 0 d = Na := by
  dsimp only [Rd, units]; rw [kindOf_dsem]; rfl
theorem amount_kc1 (c i : Dev nD) (d : Dev nD) : (Rd (F := F) cat stat norm).amount (kc 1 c i) 0 d = Na := by
  dsimp only [Rd, units]; rw [kindOf_dsem]; rfl
theorem amount_kc2 (c i : Dev nD) (d : Dev nD) : (Rd (F := F) cat stat norm).amount (kc 2 c i) 0 d = Nb := by
  dsimp only [Rd, units]; rw [kindOf_dsem]; rfl
theorem amount_kc3 (c i : Dev nD) (d : Dev nD) : (Rd (F := F) cat stat norm).amount (kc 3 c i) 0 d = Nb := by
  dsimp only [Rd, units]; rw [kindOf_dsem]; rfl
theorem amount_kc4 (c i : Dev nD) (d : Dev nD) : (Rd (F := F) cat stat norm).amount (kc 4 c i) 0 d = Nd := by
  dsimp only [Rd, units]; rw [kindOf_dsem]; rfl
theorem amount_kc5 (c i : Dev nD) (d : Dev nD) : (Rd (F := F) cat stat norm).amount (kc 5 c i) 0 d = Nd := by
  dsimp only [Rd, units]; rw [kindOf_dsem]; rfl
theorem amount_reg (c : Dev nD) (s : Sem sig) (d : Dev nD) : (Rd (F := F) cat stat norm).amount ((c : Thread nD τ), .reg s) 0 d = 1 := rfl

theorem payload_kc (k : Fin 6) (c i d : Dev nD) : (Rd (F := F) cat stat norm).payload (kc k c i) 0 d = dmaPay cat stat norm c k i := by
  dsimp only [Rd, pay]; rw [kindOf_dsem, indexOf_dsem]
theorem payload_bar (c d : Dev nD) : (Rd (F := F) cat stat norm).payload (barC c) 0 d = barPay c d := by
  dsimp only [Rd, pay]; exact if_pos rfl
theorem payload_ex (p c d : Dev nD) : (Rd (F := F) cat stat norm).payload (exC p c) 0 d = iprop(emp) := by
  dsimp only [Rd, pay]; exact if_neg (exSem_ne_bar _)

/-- The whole of a round of a transfer cell: one payload. -/
theorem rest_kc (k : Fin 6) (c i : Dev nD) (h : i ≠ c) :
    bigSep ((Rd (F := F) cat stat norm).duties (kc k c i) 0 \ ∅) (fun d => (Rd (F := F) cat stat norm).payload (kc k c i) 0 d) = dmaPay cat stat norm c k i := by
  rw [Finset.sdiff_empty, duties_kc cat stat norm k c i h, bigSep_singleton, payload_kc]
theorem rest_bar (c : Dev nD) :
    bigSep ((Rd (F := F) cat stat norm).duties (barC c) 0 \ ∅) (fun d => (Rd (F := F) cat stat norm).payload (barC c) 0 d) = bigSep (Finset.univ.erase c) (fun d => barPay c d) := by
  rw [Finset.sdiff_empty, duties_bar]
  exact bigSep_congr fun d _ => payload_bar cat stat norm c d

theorem expect_kc (k : Fin 6) (c i : Dev nD) (h : i ≠ c) {n : ℕ} (hn : (Rd (F := F) cat stat norm).amount (kc k c i) 0 i = n) :
    (Rd (F := F) cat stat norm).expect (kc k c i) 0 = n := by
  unfold Schedule.expect Schedule.amountOf; rw [duties_kc cat stat norm k c i h, Finset.sum_singleton, hn]
theorem expect_bar (c : Dev nD) : (Rd (F := F) cat stat norm).expect (barC c) 0 = 15 := by
  unfold Schedule.expect Schedule.amountOf
  rw [duties_bar, Finset.sum_congr rfl (fun d _ => amount_reg cat stat norm c barrier0 d), Finset.sum_const, Finset.card_erase_of_mem (Finset.mem_univ c)]
  rfl
theorem expect_ex (p c : Dev nD) (h : c ≠ p) : (Rd (F := F) cat stat norm).expect (exC p c) 0 = 1 := by
  unfold Schedule.expect Schedule.amountOf; rw [duties_ex cat stat norm p c h, Finset.sum_singleton]; rfl

end Sched

/-! ## Obligations and levels -/

/-- What device `c` still owes: a barrier unit to each of `Sb`, the two copies to each of `Sa`, the copy of the combined segment to
    each of `Sd`, an exit unit to each of `Se`. -/
def Owed (c : Dev nD) (Sb Sa Sd Se : Finset (Dev nD)) : CellTallies nD τ sig Unit :=
  (∑ p ∈ Sb, tallyAt (barC p) () 1) + (∑ p ∈ Sa, (tallyAt (kc 1 p c) () Na + tallyAt (kc 3 p c) () Nb))
    + (∑ p ∈ Sd, tallyAt (kc 5 p c) () Nd) + ∑ p ∈ Se, tallyAt (exC p c) () 1

/-- Every cell of a TensorCore has the one index. -/
def L (g : GSem nD τ sig) : Finset Unit := if g.1.2 = .tc then {()} else ∅

/-- The order of waiting: the barrier, the received copies, the received combined segments, the exit. -/
def lv (g : GSem nD τ sig) (_ : Unit) : ℕ :=
  match g.2 with
  | .reg s => if s = barrier0 then 1 else 4
  | .dma q => if q.val < 6 then 0 else if kindOf q = 1 ∨ kindOf q = 3 then 2 else if kindOf q = 5 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := by unfold lv; dsimp only; rw [if_pos rfl]
theorem lv_ex (p c : Dev nD) : lv (exC p c) () = 4 := if_neg (exSem_ne_bar _)
theorem lv_kc (k : Fin 6) (c i : Dev nD) : lv (kc k c i) () = if k = 1 ∨ k = 3 then 2 else if k = 5 then 3 else 0 := by
  have h6 : ¬ (dsem k i).val < 6 := by unfold dsem; dsimp only; omega
  unfold lv; dsimp only
  rw [if_neg h6, kindOf_dsem]

theorem tally_pos {g g' : GSem nD τ sig} {n : ℕ} {u : Unit} (h : 0 < (tallyAt g () n : CellTallies nD τ sig Unit) g' u) : g' = g := by
  rw [tallyAt_apply] at h
  by_contra hn
  rw [if_neg (fun e => hn e.1)] at h
  exact Nat.lt_irrefl 0 h

theorem tallies_sum_pos {S : Finset (Dev nD)} {t : Dev nD → CellTallies nD τ sig Unit} {g : GSem nD τ sig} {u : Unit}
    (h : 0 < (∑ p ∈ S, t p) g u) : ∃ p ∈ S, 0 < t p g u := by
  have e : (∑ p ∈ S, t p) g u = ∑ p ∈ S, t p g u := by
    rw [Finset.sum_apply, Finsupp.finset_sum_apply]
  rw [e] at h
  obtain ⟨p, hp, h0⟩ := Finset.exists_ne_zero_of_sum_ne_zero (Nat.pos_iff_ne_zero.mp h)
  exact ⟨p, hp, Nat.pos_of_ne_zero h0⟩

theorem tallies_add_pos {a b : CellTallies nD τ sig Unit} {g : GSem nD τ sig} {u : Unit} (h : 0 < (a + b) g u) : 0 < a g u ∨ 0 < b g u := by
  have e : (a + b) g u = a g u + b g u := by rw [Pi.add_apply, Finsupp.add_apply]
  rw [e] at h
  omega

/-- Where device `c` owes something, it is one of the four kinds. -/
theorem Owed_pos (c : Dev nD) (Sb Sa Sd Se : Finset (Dev nD)) (g : GSem nD τ sig) (u : Unit) (h : 0 < Owed c Sb Sa Sd Se g u) :
    (∃ p ∈ Sb, g = barC p) ∨ (∃ p ∈ Sa, g = kc 1 p c ∨ g = kc 3 p c) ∨ (∃ p ∈ Sd, g = kc 5 p c) ∨ (∃ p ∈ Se, g = exC p c) := by
  rcases tallies_add_pos h with h | h
  · rcases tallies_add_pos h with h | h
    · rcases tallies_add_pos h with h | h
      · obtain ⟨p, hp, h⟩ := tallies_sum_pos h
        exact .inl ⟨p, hp, tally_pos h⟩
      · obtain ⟨p, hp, h⟩ := tallies_sum_pos h
        exact .inr (.inl ⟨p, hp, (tallies_add_pos h).imp tally_pos tally_pos⟩)
    · obtain ⟨p, hp, h⟩ := tallies_sum_pos h
      exact .inr (.inr (.inl ⟨p, hp, tally_pos h⟩))
  · obtain ⟨p, hp, h⟩ := tallies_sum_pos h
    exact .inr (.inr (.inr ⟨p, hp, tally_pos h⟩))

/-- A wait at a level below everything still owed is allowed. -/
theorem mayWait (c : Dev nD) (sm : SemLoc sig) (Sb Sa Sd Se : Finset (Dev nD)) (n : ℕ) (hn : lv ((c : Thread nD τ), sm) () ≤ n)
    (hb : Sb = ∅ ∨ n < 1) (ha : Sa = ∅ ∨ n < 2) (hd : Sd = ∅ ∨ n < 3) (he : Se = ∅ ∨ n < 4) :
    (levAts L lv : sProp 𝕄) ⊢ MayWait (c : Thread nD τ) sm () (Owed c Sb Sa Sd Se) := by
  have key : ∀ g u, 0 < Owed c Sb Sa Sd Se g u → (∃ p : Dev nD, g.1 = (p : Thread nD τ)) ∧ n < lv g u := by
    intro g u hg
    rcases Owed_pos c Sb Sa Sd Se g u hg with ⟨p, hp, rfl⟩ | ⟨p, hp, rfl | rfl⟩ | ⟨p, hp, rfl⟩ | ⟨p, hp, rfl⟩
    · exact ⟨⟨p, rfl⟩, by
        rw [lv_bar]; rcases hb with h | h
        · rw [h] at hp; exact absurd hp (Finset.notMem_empty p)
        · exact h⟩
    · exact ⟨⟨p, rfl⟩, by
        rw [lv_kc, if_pos (.inl rfl)]; rcases ha with h | h
        · rw [h] at hp; exact absurd hp (Finset.notMem_empty p)
        · exact h⟩
    · exact ⟨⟨p, rfl⟩, by
        rw [lv_kc, if_pos (.inr rfl)]; rcases ha with h | h
        · rw [h] at hp; exact absurd hp (Finset.notMem_empty p)
        · exact h⟩
    · exact ⟨⟨p, rfl⟩, by
        rw [lv_kc, if_neg (by decide), if_pos rfl]; rcases hd with h | h
        · rw [h] at hp; exact absurd hp (Finset.notMem_empty p)
        · exact h⟩
    · exact ⟨⟨p, rfl⟩, by
        rw [lv_ex]; rcases he with h | h
        · rw [h] at hp; exact absurd hp (Finset.notMem_empty p)
        · exact h⟩
  refine MayOwe.of_cut (L := L) (lev := lv) n (fun p hp => by rw [Finset.mem_singleton.mp hp, L_tc]; exact Finset.mem_singleton_self _) ?_
    (fun p hp => by rw [Finset.mem_singleton.mp hp]; exact hn) (fun g u hg => (key g u hg).2)
  rintro ⟨t, s⟩ u hg
  obtain ⟨⟨p, hp⟩, -⟩ := key _ u hg
  dsimp only at hp
  subst hp
  rw [L_tc]; exact Finset.mem_singleton_self _

end Cert.KernelIdeal.Attn

end
-- ==== Proof.Steps.lean ====
/- One step of the kernel at a time: what every step keeps at hand, the sets of peers still to be served, and the rule that puts a
   step's own entailment under what the step does not touch. Then the steps on the barrier and on the exit semaphores. -/
module

public import proofs.«01_k».proof.Proof.Sched

@[expose] public section

set_option maxRecDepth 8000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

/-! ## Sets of peers -/

/-- The peers not yet served, in the order of their numbers. -/
def rem (c : Dev nD) (n : ℕ) : Finset (Dev nD) := Finset.univ.filter fun p => n ≤ p.val ∧ p ≠ c
/-- The peers served. -/
def dn (c : Dev nD) (n : ℕ) : Finset (Dev nD) := Finset.univ.filter fun p => p.val < n ∧ p ≠ c
/-- The peers not yet served, in the order of their distance. -/
def remR (c : Dev nD) (k : ℕ) : Finset (Dev nD) := Finset.univ.filter fun p => k < (p - c).val
def dnR (c : Dev nD) (k : ℕ) : Finset (Dev nD) := Finset.univ.filter fun p => 0 < (p - c).val ∧ (p - c).val ≤ k

/-- All the other devices. -/
abbrev others (c : Dev nD) : Finset (Dev nD) := Finset.univ.erase c

theorem rem_zero (c : Dev nD) : rem c 0 = others c := by
  ext p; simp [rem]
theorem dn_zero (c : Dev nD) : dn c 0 = ∅ := by
  ext p; simp [dn]
theorem rem_all (c : Dev nD) : rem c 16 = ∅ := by
  ext p; have hp : p.val < 16 := p.isLt; simp only [rem, Finset.mem_filter, Finset.mem_univ, true_and, Finset.notMem_empty, iff_false]; omega
theorem dn_all (c : Dev nD) : dn c 16 = others c := by
  ext p; have hp : p.val < 16 := p.isLt; simp [dn, hp]
theorem sub_pos (c p : Dev nD) : 0 < (p - c).val ↔ p ≠ c := by
  revert c p; decide
theorem remR_zero (c : Dev nD) : remR c 0 = others c := by
  ext p; simp only [remR, Finset.mem_filter, Finset.mem_univ, true_and, sub_pos, Finset.mem_erase, and_true]
theorem remR_all (c : Dev nD) : remR c 15 = ∅ := by
  ext p; have hp : (p - c).val < 16 := (p - c).isLt; simp only [remR, Finset.mem_filter, Finset.mem_univ, true_and, Finset.notMem_empty, iff_false]; omega
theorem dnR_zero (c : Dev nD) : dnR c 0 = ∅ := by
  ext p; simp only [dnR, Finset.mem_filter, Finset.mem_univ, true_and, Finset.notMem_empty, iff_false]; omega
theorem dnR_all (c : Dev nD) : dnR c 15 = others c := by
  ext p; have hp : (p - c).val < 16 := (p - c).isLt
  simp only [dnR, Finset.mem_filter, Finset.mem_univ, true_and, sub_pos, Finset.mem_erase, and_true, and_iff_left_iff_imp]
  intro _; omega

theorem rem_step (c p : Dev nD) (h : p ≠ c) : rem c p.val = insert p (rem c (p.val + 1)) := by
  ext x; simp only [rem, Finset.mem_filter, Finset.mem_univ, true_and, Finset.mem_insert]
  constructor
  · rintro ⟨h1, h2⟩
    rcases Nat.eq_or_lt_of_le h1 with h3 | h3
    · exact .inl (Fin.ext h3.symm)
    · exact .inr ⟨h3, h2⟩
  · rintro (rfl | ⟨h1, h2⟩)
    · exact ⟨le_refl _, h⟩
    · exact ⟨by omega, h2⟩
theorem rem_notMem (c p : Dev nD) : p ∉ rem c (p.val + 1) := by
  simp only [rem, Finset.mem_filter, Finset.mem_univ, true_and]; omega
theorem rem_self (c : Dev nD) : rem c c.val = rem c (c.val + 1) := by
  ext x; simp only [rem, Finset.mem_filter, Finset.mem_univ, true_and]
  constructor
  · rintro ⟨h1, h2⟩
    exact ⟨Nat.lt_of_le_of_ne h1 (fun e => h2 (Fin.ext e.symm)), h2⟩
  · rintro ⟨h1, h2⟩; exact ⟨by omega, h2⟩
theorem dn_step (c p : Dev nD) (h : p ≠ c) : dn c (p.val + 1) = insert p (dn c p.val) := by
  ext x; simp only [dn, Finset.mem_filter, Finset.mem_univ, true_and, Finset.mem_insert]
  constructor
  · rintro ⟨h1, h2⟩
    rcases Nat.eq_or_lt_of_le (Nat.lt_succ_iff.mp h1) with h3 | h3
    · exact .inl (Fin.ext h3)
    · exact .inr ⟨h3, h2⟩
  · rintro (rfl | ⟨h1, h2⟩)
    · exact ⟨Nat.lt_succ_self _, h⟩
    · exact ⟨by omega, h2⟩
theorem dn_notMem (c p : Dev nD) : p ∉ dn c p.val := by
  simp only [dn, Finset.mem_filter, Finset.mem_univ, true_and]; omega
theorem dn_self (c : Dev nD) : dn c (c.val + 1) = dn c c.val := by
  ext x; simp only [dn, Finset.mem_filter, Finset.mem_univ, true_and]
  constructor
  · rintro ⟨h1, h2⟩
    exact ⟨Nat.lt_of_le_of_ne (Nat.lt_succ_iff.mp h1) (fun e => h2 (Fin.ext e)), h2⟩
  · rintro ⟨h1, h2⟩; exact ⟨by omega, h2⟩
theorem remR_step (c p : Dev nD) (k : ℕ) (h : (p - c).val = k + 1) : remR c k = insert p (remR c (k + 1)) := by
  ext x; simp only [remR, Finset.mem_filter, Finset.mem_univ, true_and, Finset.mem_insert]
  constructor
  · intro h1
    rcases Nat.eq_or_lt_of_le h1 with h3 | h3
    · exact .inl (sub_left_injective (Fin.ext (h3.symm.trans h.symm)))
    · exact .inr h3
  · rintro (rfl | h1) <;> omega
theorem remR_notMem (c p : Dev nD) (k : ℕ) (h : (p - c).val = k + 1) : p ∉ remR c (k + 1) := by
  simp only [remR, Finset.mem_filter, Finset.mem_univ, true_and]; omega
theorem dnR_step (c p : Dev nD) (k : ℕ) (h : (p - c).val = k + 1) : dnR c (k + 1) = insert p (dnR c k) := by
  ext x; simp only [dnR, Finset.mem_filter, Finset.mem_univ, true_and, Finset.mem_insert]
  constructor
  · rintro ⟨h1, h2⟩
    rcases Nat.eq_or_lt_of_le h2 with h3 | h3
    · exact .inl (sub_left_injective (Fin.ext (h3.trans h.symm)))
    · exact .inr ⟨h1, Nat.lt_succ_iff.mp h3⟩
  · rintro (rfl | h1) <;> omega
theorem dnR_notMem (c p : Dev nD) (k : ℕ) (h : (p - c).val = k + 1) : p ∉ dnR c k := by
  simp only [dnR, Finset.mem_filter, Finset.mem_univ, true_and]; omega
theorem ne_of_dist (c p : Dev nD) (k : ℕ) (h : (p - c).val = k + 1) : p ≠ c := (sub_pos c p).mp (by omega)

/-- One member of a finite conjunction beside the others. -/
theorem bs_insert {I : Type} [DecidableEq I] {i : I} {s : Finset I} (h : i ∉ s) {Φ : I → sProp 𝕄} :
    bigSep (insert i s) Φ = iprop(Φ i ∗ bigSep s Φ) := bigSep_insert h
theorem bs_elim {I : Type} [DecidableEq I] {i : I} {s : Finset I} (h : i ∈ s) {Φ : I → sProp 𝕄} : bigSep s Φ ⊢ Φ i := bigSep_elim h
theorem bs_erase {I : Type} [DecidableEq I] {i : I} {s : Finset I} (h : i ∈ s) {Φ : I → sProp 𝕄} :
    bigSep s Φ = iprop(Φ i ∗ bigSep (s.erase i) Φ) := bigSep_erase h
theorem bs_sep {I : Type} {s : Finset I} {Φ Ψ : I → sProp 𝕄} :
    bigSep s (fun i => iprop(Φ i ∗ Ψ i)) = iprop(bigSep s Φ ∗ bigSep s Ψ) := bigSep_sep' _ _ _

/-! ## What is owed, one unit less -/

theorem Owed_bar (c p : Dev nD) (S Sa Sd Se : Finset (Dev nD)) (h : p ∉ S) :
    Owed c (insert p S) Sa Sd Se = Owed c S Sa Sd Se + tallyAt (barC p) () 1 := by
  unfold Owed; rw [Finset.sum_insert h]; abel
theorem Owed_a (c p : Dev nD) (Sb S Sd Se : Finset (Dev nD)) (h : p ∉ S) :
    Owed c Sb (insert p S) Sd Se = (Owed c Sb S Sd Se + tallyAt (kc 3 p c) () Nb) + tallyAt (kc 1 p c) () Na := by
  unfold Owed; rw [Finset.sum_insert h]; abel
theorem Owed_d (c p : Dev nD) (Sb Sa S Se : Finset (Dev nD)) (h : p ∉ S) :
    Owed c Sb Sa (insert p S) Se = Owed c Sb Sa S Se + tallyAt (kc 5 p c) () Nd := by
  unfold Owed; rw [Finset.sum_insert h]; abel
theorem Owed_e (c p : Dev nD) (Sb Sa Sd S : Finset (Dev nD)) (h : p ∉ S) :
    Owed c Sb Sa Sd (insert p S) = Owed c Sb Sa Sd S + tallyAt (exC p c) () 1 := by
  unfold Owed; rw [Finset.sum_insert h]; abel

/-- What device `c` owes, whatever it has waited for. -/
def Ow (c : Dev nD) (Sb Sa Sd Se : Finset (Dev nD)) : sProp 𝕄 := iprop(∃ W, owes (c : Thread nD τ) (Owed c Sb Sa Sd Se) W)

/-! ## What every step keeps at hand -/

section Steps

variable (cat : Dev nD → Vec F S1024x512 .bf16) (stat : Dev nD → Vec F S8x2x512 .f32) (norm : Vec F S1024x512 .bf16)

local notation "RR" => Rd cat stat norm

/-- The invariants of all cells, the levels, and the rounds known to be reached from the start. -/
def Ctx (κ : GSem nD τ sig → ℕ) (c : Dev nD) : sProp 𝕄 :=
  iprop((bigSep Finset.univ fun k : Fin 6 => bigSep Finset.univ fun p : Dev nD => bigSep Finset.univ fun i : Dev nD => cellInv ER RR (κ (kc k p i)) (kc k p i))
    ∗ (bigSep Finset.univ fun p : Dev nD => cellInv ER RR (κ (barC p)) (barC p))
    ∗ (bigSep Finset.univ fun p : Dev nD => bigSep Finset.univ fun i : Dev nD => cellInv ER RR (κ (exC p i)) (exC p i))
    ∗ levAts L lv
    ∗ (bigSep Finset.univ fun p : Dev nD => reached ER (barC p) 0)
    ∗ (bigSep Finset.univ fun k : Fin 6 => bigSep Finset.univ fun i : Dev nD => reached ER (kc k c i) 0)
    ∗ (bigSep Finset.univ fun p : Dev nD => reached ER (exC c p) 0))

instance Ctx_persistent (κ : GSem nD τ sig → ℕ) (c : Dev nD) : BI.Persistent (Ctx cat stat norm κ c) := by
  unfold Ctx; infer_instance

variable (κ : GSem nD τ sig → ℕ) (c : Dev nD)

local notation "CC" => Ctx cat stat norm κ c

theorem ctx_kc (k : Fin 6) (p i : Dev nD) : CC ⊢ cellInv ER RR (κ (kc k p i)) (kc k p i) := by
  unfold Ctx
  iintro ⟨H, -⟩
  ihave H1 := (bs_elim (Finset.mem_univ k)) $$ H
  ihave H2 := (bs_elim (Finset.mem_univ p)) $$ H1
  ihave H3 := (bs_elim (Finset.mem_univ i)) $$ H2
  iexact H3
theorem ctx_bar (p : Dev nD) : CC ⊢ cellInv ER RR (κ (barC p)) (barC p) := by
  unfold Ctx
  iintro ⟨-, H, -⟩
  ihave H1 := (bs_elim (Finset.mem_univ p)) $$ H
  iexact H1
theorem ctx_ex (p i : Dev nD) : CC ⊢ cellInv ER RR (κ (exC p i)) (exC p i) := by
  unfold Ctx
  iintro ⟨-, -, H, -⟩
  ihave H1 := (bs_elim (Finset.mem_univ p)) $$ H
  ihave H2 := (bs_elim (Finset.mem_univ i)) $$ H1
  iexact H2
theorem ctx_lev : CC ⊢ levAts L lv := by
  unfold Ctx
  iintro ⟨-, -, -, H, -⟩
  iexact H
theorem ctx_barReached (p : Dev nD) : CC ⊢ reached ER (barC p) 0 := by
  unfold Ctx
  iintro ⟨-, -, -, -, H, -⟩
  ihave H1 := (bs_elim (Finset.mem_univ p)) $$ H
  iexact H1
theorem ctx_reached (k : Fin 6) (i : Dev nD) : CC ⊢ reached ER (kc k c i) 0 := by
  unfold Ctx
  iintro ⟨-, -, -, -, -, H, -⟩
  ihave H1 := (bs_elim (Finset.mem_univ k)) $$ H
  ihave H2 := (bs_elim (Finset.mem_univ i)) $$ H1
  iexact H2
theorem ctx_exReached (p : Dev nD) : CC ⊢ reached ER (exC c p) 0 := by
  unfold Ctx
  iintro ⟨-, -, -, -, -, -, H⟩
  ihave H1 := (bs_elim (Finset.mem_univ p)) $$ H
  iexact H1

/-- A wait at a level below everything still owed is allowed. -/
theorem ctx_may (sm : SemLoc sig) (Sb Sa Sd Se : Finset (Dev nD)) (n : ℕ) (hn : lv ((c : Thread nD τ), sm) () ≤ n)
    (hb : Sb = ∅ ∨ n < 1) (ha : Sa = ∅ ∨ n < 2) (hd : Sd = ∅ ∨ n < 3) (he : Se = ∅ ∨ n < 4) :
    CC ⊢ MayWait (c : Thread nD τ) sm () (Owed c Sb Sa Sd Se) :=
  BIBase.Entails.trans (ctx_lev cat stat norm κ c) (mayWait (F := F) c sm Sb Sa Sd Se n hn hb ha hd he)

/-- A program's weakest precondition on device `c`. -/
abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What is held between two steps: the shared facts, the window buffers `X`, a head's buffers `A`, the protocol's state `B`, the rest. -/
abbrev G (X A B R : sProp 𝕄) : sProp 𝕄 := iprop(CC ∗ X ∗ A ∗ B ∗ R)

variable {α : Type} {X A A' B B' R : SP F} {Q : α → SP F}
variable {p q : Prog (TpuEff nD τ sig (Elt F) Λ₀ .tc) α}

/-- A step that reads a window buffer. -/
theorem onX (h : X ⊢ iprop((X -∗ wpc c q Q) -∗ wpc c p Q)) (hk : G cat stat norm κ c X A B R ⊢ wpc c q Q) :
    G cat stat norm κ c X A B R ⊢ wpc c p Q := by
  iintro ⟨#Hc, HX, HA, HB, HR⟩
  iapply h $$ HX
  iintro HX
  iapply hk
  isplitr; · iexact Hc
  isplitl [HX]; · iexact HX
  isplitl [HA]; · iexact HA
  isplitl [HB]; · iexact HB
  iexact HR

/-- A step on a head's buffers. -/
theorem onA (h : A ⊢ iprop((A' -∗ wpc c q Q) -∗ wpc c p Q)) (hk : G cat stat norm κ c X A' B R ⊢ wpc c q Q) :
    G cat stat norm κ c X A B R ⊢ wpc c p Q := by
  iintro ⟨#Hc, HX, HA, HB, HR⟩
  iapply h $$ HA
  iintro HA
  iapply hk
  isplitr; · iexact Hc
  isplitl [HX]; · iexact HX
  isplitl [HA]; · iexact HA
  isplitl [HB]; · iexact HB
  iexact HR

/-- A step on the protocol's state. -/
theorem onB (h : iprop(CC ∗ B) ⊢ iprop((B' -∗ wpc c q Q) -∗ wpc c p Q)) (hk : G cat stat norm κ c X A B' R ⊢ wpc c q Q) :
    G cat stat norm κ c X A B R ⊢ wpc c p Q := by
  iintro ⟨#Hc, HX, HA, HB, HR⟩
  iapply h $$ [HB]
  · isplitr; · iexact Hc
    iexact HB
  iintro HB
  iapply hk
  isplitr; · iexact Hc
  isplitl [HX]; · iexact HX
  isplitl [HA]; · iexact HA
  isplitl [HB]; · iexact HB
  iexact HR

/-- A step on a head's buffers and the protocol's state. -/
theorem onAB (h : iprop(CC ∗ A ∗ B) ⊢ iprop((iprop(A' ∗ B') -∗ wpc c q Q) -∗ wpc c p Q)) (hk : G cat stat norm κ c X A' B' R ⊢ wpc c q Q) :
    G cat stat norm κ c X A B R ⊢ wpc c p Q := by
  iintro ⟨#Hc, HX, HA, HB, HR⟩
  iapply h $$ [HA HB]
  · isplitr; · iexact Hc
    isplitl [HA]; · iexact HA
    iexact HB
  iintro ⟨HA, HB⟩
  iapply hk
  isplitr; · iexact Hc
  isplitl [HX]; · iexact HX
  isplitl [HA]; · iexact HA
  isplitl [HB]; · iexact HB
  iexact HR

/-! ## The barrier -/

/-- Before the barrier, `k` signals sent: for each peer left the token, and what it will be handed. -/
def BS (k : ℕ) : sProp 𝕄 :=
  iprop((bigSep (remR c k) fun p => iprop(dutyTok ER (barC p) 0 c ∗ barPay p c)) ∗ Ow c (remR c k) (others c) (others c) (others c))

theorem bar_signal (p : Dev nD) (k : ℕ) (hp : (p - c).val = k + 1) {dv : ℕ} {hlt : dv < nD} (hdv : dv = p.val)
    {K : PUnit → Prog (TpuEff nD τ sig (Elt F) Λ₀ .tc) α} :
    iprop(CC ∗ BS c k) ⊢ iprop((BS c (k + 1) -∗ wpc c (K ⟨⟩) Q)
      -∗ wpc c (semSignalWord (⟨dv, hlt⟩ : Dev nD) (SemArray.scalar (d := S_.size) barrier0).sem 1#32 >>= K) Q) := by
  subst hdv
  have hne := ne_of_dist c p k hp
  unfold BS
  rw [remR_step c p k hp, bs_insert (remR_notMem c p k hp)]
  iintro ⟨#Hc, ⟨⟨Htok, Hpay⟩, Hrest⟩, HO⟩ Hk
  unfold Ow
  icases HO with ⟨%W, HO⟩
  iapply (Rounds.wp_signal 𝒱₀ ER RR (c : Thread nD τ) none (dst := (p : Thread nD τ)) (sem := barrier0) (r := 0) (d := c) (κ := κ (barC p))
      (by rw [duties_bar]; exact Finset.mem_erase.mpr ⟨hne.symm, Finset.mem_univ _⟩) (amount_reg cat stat norm p barrier0 c) ()
      (Owed c (remR c (k + 1)) (others c) (others c) (others c)) (Owed_bar c p _ _ _ _ (remR_notMem c p k hp)))
    $$ [HO Htok Hpay]
  · isplitr; · iapply (ctx_bar cat stat norm κ c p); iexact Hc
    isplitl [HO]; · iexact HO
    isplitl [Htok]; · iexact Htok
    isplitl [Hpay]; · rw [payload_bar]; iexact Hpay
    iapply (ctx_barReached cat stat norm κ c p); iexact Hc
  iintro HO
  iapply Hk
  isplitl [Hrest]; · iexact Hrest
  iexists W; iexact HO

/-- One signal to the peer at distance `k + 1`. -/
theorem bar_signal_step (p : Dev nD) (k : ℕ) (hp : (p - c).val = k + 1) {dv : ℕ} {hlt : dv < nD} (hdv : dv = p.val)
    {K : PUnit → Prog (TpuEff nD τ sig (Elt F) Λ₀ .tc) α} (hk : G cat stat norm κ c X A (BS c (k + 1)) R ⊢ wpc c (K ⟨⟩) Q) :
    G cat stat norm κ c X A (BS c k) R
      ⊢ wpc c (semSignalWord (⟨dv, hlt⟩ : Dev nD) (SemArray.scalar (d := S_.size) barrier0).sem 1#32 >>= K) Q :=
  onB cat stat norm κ c (bar_signal cat stat norm κ c p k hp hdv) hk

end Steps

end Cert.KernelIdeal.Attn

end
-- ==== Proof.Views.lean ====
/- The parts of the four exchanged buffers that the kernel's loads, stores and copies touch: their element sets, where an index of a
   part lies in the buffer, and what a write through a part leaves there. -/
module

public import proofs.«01_k».proof.Proof.Steps
public import Idealize.ShloMosaic.Lib.ValueLayout
public import Idealize.ShloMosaic.Lib.Pipeline.ValueKit.Geometry

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

/-! ## Rectangles of rows -/

/-- Rows `[a, b)` of the buffer of partial outputs. -/
def rows (a b : ℕ) : Finset S1024x512.Idx := Finset.univ.filter fun i => a ≤ (i 0).val ∧ (i 0).val < b

theorem rows2_set (a m : ℕ) (o : Fin 2 → ℕ) (ho : o = ![a, 0]) (inb : ∀ x, o x + (⟨2, ![m, 512]⟩ : Shape).size x ≤ S1024x512.size x) :
    (Rect.unit (s := S1024x512) o (⟨2, ![m, 512]⟩ : Shape).size inb).set = rows a (a + m) := by
  subst ho
  ext i
  rw [Rect.mem_set_unit]
  simp only [rows, Finset.mem_filter, Finset.mem_univ, true_and]
  constructor
  · intro h; exact h 0
  · intro h x
    match x with
    | ⟨0, _⟩ => exact h
    | ⟨1, _⟩ => exact ⟨Nat.zero_le _, by have h1 : (i 1).val < 512 := (i 1).isLt; show (i 1).val < 0 + 512; omega⟩

theorem catSeg_eq (p : Dev nD) : catSeg p = rows (64 * p.val) (64 * p.val + 64) := by
  ext i; simp only [catSeg, rows, Finset.mem_filter, Finset.mem_univ, true_and]; omega

theorem seg_set (p : Dev nD) (o : Fin 2 → ℕ) (ho : o = ![64 * p.val, 0]) (inb : ∀ x, o x + S64x512.size x ≤ S1024x512.size x) :
    (Rect.unit (s := S1024x512) o S64x512.size inb).set = catSeg p := by
  rw [catSeg_eq]; exact rows2_set _ 64 o ho inb

theorem oseg_set (p : Dev nD) (o : Fin 3 → ℕ) (ho : o = ![p.val, 0, 0]) (inb : ∀ x, o x + S1x64x512.size x ≤ S16x64x512.size x) :
    (Rect.unit (s := S16x64x512) o S1x64x512.size inb).set = osegRow p := by
  subst ho
  ext i
  rw [Rect.mem_set_unit]
  simp only [osegRow, Finset.mem_filter, Finset.mem_univ, true_and]
  constructor
  · intro h
    have h0 : p.val ≤ (i 0).val ∧ (i 0).val < p.val + 1 := h 0
    omega
  · intro h x
    match x with
    | ⟨0, _⟩ => exact ⟨le_of_eq h.symm, by show (i 0).val < p.val + 1; omega⟩
    | ⟨1, _⟩ => exact ⟨Nat.zero_le _, by have h1 : (i 1).val < 64 := (i 1).isLt; show (i 1).val < 0 + 64; omega⟩
    | ⟨2, _⟩ => exact ⟨Nat.zero_le _, by have h1 : (i 2).val < 512 := (i 2).isLt; show (i 2).val < 0 + 512; omega⟩

theorem stats_set (p : Dev nD) (o : Fin 3 → ℕ) (ho : o = ![p.val, 0, 0]) (inb : ∀ x, o x + S1x2x512.size x ≤ S16x2x512.size x) :
    (Rect.unit (s := S16x2x512) o S1x2x512.size inb).set = statsRow p := by
  subst ho
  ext i
  rw [Rect.mem_set_unit]
  simp only [statsRow, Finset.mem_filter, Finset.mem_univ, true_and]
  constructor
  · intro h
    have h0 : p.val ≤ (i 0).val ∧ (i 0).val < p.val + 1 := h 0
    omega
  · intro h x
    match x with
    | ⟨0, _⟩ => exact ⟨le_of_eq h.symm, by show (i 0).val < p.val + 1; omega⟩
    | ⟨1, _⟩ => exact ⟨Nat.zero_le _, by have h1 : (i 1).val < 2 := (i 1).isLt; show (i 1).val < 0 + 2; omega⟩
    | ⟨2, _⟩ => exact ⟨Nat.zero_le _, by have h1 : (i 2).val < 512 := (i 2).isLt; show (i 2).val < 0 + 512; omega⟩

theorem stat_set (h : ℕ) (o : Fin 3 → ℕ) (ho : o = ![h, 0, 0]) (inb : ∀ x, o x + S1x2x512.size x ≤ S8x2x512.size x) :
    (Rect.unit (s := S8x2x512) o S1x2x512.size inb).set = statRow h := by
  subst ho
  ext i
  rw [Rect.mem_set_unit]
  simp only [statRow, Finset.mem_filter, Finset.mem_univ, true_and]
  constructor
  · intro hh
    have h0 : h ≤ (i 0).val ∧ (i 0).val < h + 1 := hh 0
    omega
  · intro hh x
    match x with
    | ⟨0, _⟩ => exact ⟨le_of_eq hh.symm, by show (i 0).val < h + 1; omega⟩
    | ⟨1, _⟩ => exact ⟨Nat.zero_le _, by have h1 : (i 1).val < 2 := (i 1).isLt; show (i 1).val < 0 + 2; omega⟩
    | ⟨2, _⟩ => exact ⟨Nat.zero_le _, by have h1 : (i 2).val < 512 := (i 2).isLt; show (i 2).val < 0 + 512; omega⟩

/-- One row of one head's statistics: `![h, k, 0]`, one by one by 512. -/
theorem statK_set (h k : ℕ) (o : Fin 3 → ℕ) (ho : o = ![h, k, 0]) (inb : ∀ x, o x + S1x1x512.size x ≤ S8x2x512.size x) :
    (Rect.unit (s := S8x2x512) o S1x1x512.size inb).set = Finset.univ.filter fun i => (i 0).val = h ∧ (i 1).val = k := by
  subst ho
  ext i
  rw [Rect.mem_set_unit]
  simp only [Finset.mem_filter, Finset.mem_univ, true_and]
  constructor
  · intro hh
    have h0 : h ≤ (i 0).val ∧ (i 0).val < h + 1 := hh 0
    have h1 : k ≤ (i 1).val ∧ (i 1).val < k + 1 := hh 1
    omega
  · intro hh x
    match x with
    | ⟨0, _⟩ => exact ⟨le_of_eq hh.1.symm, by show (i 0).val < h + 1; omega⟩
    | ⟨1, _⟩ => exact ⟨le_of_eq hh.2.symm, by show (i 1).val < k + 1; omega⟩
    | ⟨2, _⟩ => exact ⟨Nat.zero_le _, by have h1 : (i 2).val < 512 := (i 2).isLt; show (i 2).val < 0 + 512; omega⟩

/-! ## Where an index of a part lies -/

theorem emb2 {n0 n1 m0 m1 a b : ℕ} (o : Fin 2 → ℕ) (ho : o = ![a, b])
    (inb : ∀ x, o x + (⟨2, ![m0, m1]⟩ : Shape).size x ≤ (⟨2, ![n0, n1]⟩ : Shape).size x) (i : Fin m0) (j : Fin m1)
    (hi : a + i.val < n0) (hj : b + j.val < n1) :
    (Rect.unit (s := ⟨2, ![n0, n1]⟩) o (⟨2, ![m0, m1]⟩ : Shape).size inb).emb (ix2 i j) = ix2 ⟨a + i.val, hi⟩ ⟨b + j.val, hj⟩ := by
  subst ho
  funext x
  apply Fin.ext
  rw [ValueKit.rect_emb_unit_val]
  match x with
  | ⟨0, _⟩ => rfl
  | ⟨1, _⟩ => rfl

theorem emb3 {n0 n1 n2 m0 m1 m2 a b d : ℕ} (o : Fin 3 → ℕ) (ho : o = ![a, b, d])
    (inb : ∀ x, o x + (⟨3, ![m0, m1, m2]⟩ : Shape).size x ≤ (⟨3, ![n0, n1, n2]⟩ : Shape).size x) (i : Fin m0) (j : Fin m1) (k : Fin m2)
    (hi : a + i.val < n0) (hj : b + j.val < n1) (hk : d + k.val < n2) :
    (Rect.unit (s := ⟨3, ![n0, n1, n2]⟩) o (⟨3, ![m0, m1, m2]⟩ : Shape).size inb).emb (ix3 i j k)
      = ix3 ⟨a + i.val, hi⟩ ⟨b + j.val, hj⟩ ⟨d + k.val, hk⟩ := by
  subst ho
  funext x
  apply Fin.ext
  rw [ValueKit.rect_emb_unit_val]
  match x with
  | ⟨0, _⟩ => rfl
  | ⟨1, _⟩ => rfl
  | ⟨2, _⟩ => rfl

/-- What a whole write through a view leaves on the view's elements. -/
theorem write_agrees {sp : Space} {s : Shape} {e : EltTy} (v : View sig .tc sp s e) (f g : v.ty.Contents (Elt F)) (w : s.Idx → Elt F e)
    (hw : ∀ x, _root_.cast (congrArg (Elt F) v.elt_eq.symm) (w x) = g (v.emb x)) :
    ∀ i ∈ v.set, v.write (Elt F) f w Finset.univ i = g i := by
  intro i hi
  obtain ⟨x, -, rfl⟩ := Finset.mem_map.mp hi
  rw [View.write_emb_of_mem f w (Finset.mem_univ x), hw]

/-! ## Single semaphores of the arrays -/

theorem dmaSem_slice (base : ℕ) (hb : base + S16.numel ≤ sig.nDmaSem) (o : Fin 1 → ℕ) (i : ℕ) (ho : o = ![i]) (hi : i < 16)
    (inb : ∀ x, o x + S1.size x ≤ S16.size x) (hs : S1.Squeezes S_) :
    (((SemArray.consecutive base S16 hb).slice (Rect.unit (s := S16) o S1.size inb)).squeeze S_ hs).sem
      = ⟨base + i, by have h16 : S16.numel = 16 := by decide
                      omega⟩ := by
  subst ho
  apply Fin.ext
  show base + (S16.rowMajor ((Rect.unit (s := S16) ![i] S1.size inb).emb (Shape.reshapeEquiv hs.numel_eq fun a => a.elim0))).val = base + i
  congr 1
  rw [Shape.rowMajor_val_one]
  rw [ValueKit.rect_emb_unit_val]
  exact Nat.add_eq_left.mpr (Nat.lt_one_iff.mp (show _ < 1 from Fin.isLt _))

/-! ## The copies' sources and destinations -/

section Copies

variable (c p : Dev nD)

/-- Slot `c` of the received statistics as a copy's destination. -/
abbrev statsV (o : Fin 3 → ℕ) (inb : ∀ x, o x + S1x2x512.size x ≤ S16x2x512.size x)
    (hs : ∀ a, (Rect.unit (s := S16x2x512) o S1x2x512.size inb).stride a = 1) : Memref sig .tc .vmem S2x512 .f32 :=
  ((Memref.whole cc0_scratch3 : Memref sig .tc .vmem S16x2x512 .f32).slice (Rect.unit (s := S16x2x512) o S1x2x512.size inb) hs).squeeze S2x512 squeezes_S1x2x512_S2x512
/-- One head's statistics as a copy's source. -/
abbrev statV (o : Fin 3 → ℕ) (inb : ∀ x, o x + S1x2x512.size x ≤ S8x2x512.size x)
    (hs : ∀ a, (Rect.unit (s := S8x2x512) o S1x2x512.size inb).stride a = 1) : Memref sig .tc .vmem S2x512 .f32 :=
  ((Memref.whole cc0_scratch1 : Memref sig .tc .vmem S8x2x512 .f32).slice (Rect.unit (s := S8x2x512) o S1x2x512.size inb) hs).squeeze S2x512 squeezes_S1x2x512_S2x512
/-- Slot `c` of the received outputs as a copy's destination. -/
abbrev osegV (o : Fin 3 → ℕ) (inb : ∀ x, o x + S1x64x512.size x ≤ S16x64x512.size x)
    (hs : ∀ a, (Rect.unit (s := S16x64x512) o S1x64x512.size inb).stride a = 1) : Memref sig .tc .vmem S64x512 .bf16 :=
  ((Memref.whole cc0_scratch2 : Memref sig .tc .vmem S16x64x512 .bf16).slice (Rect.unit (s := S16x64x512) o S1x64x512.size inb) hs).squeeze S64x512 squeezes_S1x64x512_S64x512
/-- One segment of the buffer of partial outputs. -/
abbrev catV (o : Fin 2 → ℕ) (inb : ∀ x, o x + S64x512.size x ≤ S1024x512.size x)
    (hs : ∀ a, (Rect.unit (s := S1024x512) o S64x512.size inb).stride a = 1) : Memref sig .tc .vmem S64x512 .bf16 :=
  (Memref.whole cc0_scratch0 : Memref sig .tc .vmem S1024x512 .bf16).slice (Rect.unit (s := S1024x512) o S64x512.size inb) hs

theorem statsV_set (o : Fin 3 → ℕ) (ho : o = ![p.val, 0, 0]) (inb hs) : (statsV o inb hs).view.set = statsRow p := by
  show (((View.whole cc0_scratch3).slice _).reshape _ _).set = _
  rw [View.set_reshape, View.set_slice_whole]; exact stats_set p o ho inb
theorem statV_set (h : ℕ) (o : Fin 3 → ℕ) (ho : o = ![h, 0, 0]) (inb hs) : (statV o inb hs).view.set = statRow h := by
  show (((View.whole cc0_scratch1).slice _).reshape _ _).set = _
  rw [View.set_reshape, View.set_slice_whole]; exact stat_set h o ho inb
theorem osegV_set (o : Fin 3 → ℕ) (ho : o = ![p.val, 0, 0]) (inb hs) : (osegV o inb hs).view.set = osegRow p := by
  show (((View.whole cc0_scratch2).slice _).reshape _ _).set = _
  rw [View.set_reshape, View.set_slice_whole]; exact oseg_set p o ho inb
theorem catV_set (o : Fin 2 → ℕ) (ho : o = ![64 * p.val, 0]) (inb hs) : (catV o inb hs).view.set = catSeg p := by
  show ((View.whole cc0_scratch0).slice _).set = _
  rw [View.set_slice_whole]; exact seg_set p o ho inb

theorem statsV_emb (o : Fin 3 → ℕ) (ho : o = ![p.val, 0, 0]) (inb hs) (k : Fin 2) (j : Fin 512) :
    (statsV o inb hs).view.emb (ix2 k j) = (ix3 p k j : S16x2x512.Idx) := by
  show (Rect.unit (s := S16x2x512) o S1x2x512.size inb).emb (Shape.reshapeEquiv _ (ix2 k j)) = _
  rw [reshapeEquiv_ix2_1ab]
  exact (emb3 (n0 := 16) (n1 := 2) (n2 := 512) o ho inb ⟨0, Nat.one_pos⟩ k j (by have : p.val < 16 := p.isLt; simpa using this) (by omega) (by omega)).trans
    (by funext x; match x with
        | ⟨0, _⟩ => rfl
        | ⟨1, _⟩ => exact Fin.ext (Nat.zero_add _)
        | ⟨2, _⟩ => exact Fin.ext (Nat.zero_add _))
theorem statV_emb (h : ℕ) (hh : h < 8) (o : Fin 3 → ℕ) (ho : o = ![h, 0, 0]) (inb hs) (k : Fin 2) (j : Fin 512) :
    (statV o inb hs).view.emb (ix2 k j) = (ix3 ⟨h, hh⟩ k j : S8x2x512.Idx) := by
  show (Rect.unit (s := S8x2x512) o S1x2x512.size inb).emb (Shape.reshapeEquiv _ (ix2 k j)) = _
  rw [reshapeEquiv_ix2_1ab]
  exact (emb3 (n0 := 8) (n1 := 2) (n2 := 512) o ho inb ⟨0, Nat.one_pos⟩ k j (by simpa using hh) (by omega) (by omega)).trans
    (by funext x; match x with
        | ⟨0, _⟩ => rfl
        | ⟨1, _⟩ => exact Fin.ext (Nat.zero_add _)
        | ⟨2, _⟩ => exact Fin.ext (Nat.zero_add _))
theorem osegV_emb (o : Fin 3 → ℕ) (ho : o = ![p.val, 0, 0]) (inb hs) (k : Fin 64) (j : Fin 512) :
    (osegV o inb hs).view.emb (ix2 k j) = (ix3 p k j : S16x64x512.Idx) := by
  show (Rect.unit (s := S16x64x512) o S1x64x512.size inb).emb (Shape.reshapeEquiv _ (ix2 k j)) = _
  rw [reshapeEquiv_ix2_1ab]
  exact (emb3 (n0 := 16) (n1 := 64) (n2 := 512) o ho inb ⟨0, Nat.one_pos⟩ k j (by have : p.val < 16 := p.isLt; simpa using this) (by omega) (by omega)).trans
    (by funext x; match x with
        | ⟨0, _⟩ => rfl
        | ⟨1, _⟩ => exact Fin.ext (Nat.zero_add _)
        | ⟨2, _⟩ => exact Fin.ext (Nat.zero_add _))
theorem catV_emb (o : Fin 2 → ℕ) (ho : o = ![64 * p.val, 0]) (inb hs) (k : Fin 64) (j : Fin 512) :
    (catV o inb hs).view.emb (ix2 k j) = (ix2 ⟨64 * p.val + k.val, by have h : p.val < 16 := p.isLt; omega⟩ j : S1024x512.Idx) := by
  show (Rect.unit (s := S1024x512) o S64x512.size inb).emb (ix2 k j) = _
  exact (emb2 (n0 := 1024) (n1 := 512) o ho inb k j (by have h : p.val < 16 := p.isLt; omega) (by omega)).trans
    (by funext x; match x with
        | ⟨0, _⟩ => rfl
        | ⟨1, _⟩ => exact Fin.ext (Nat.zero_add _))

variable (cat : Dev nD → Vec F S1024x512 .bf16) (stat : Dev nD → Vec F S8x2x512 .f32) (norm : Vec F S1024x512 .bf16)

/-- What a copy of statistics from `c` to `p` leaves. -/
theorem landA (o1 : Fin 3 → ℕ) (h1 : o1 = ![p.val / 2, 0, 0]) (inb1 hs1) (o2 : Fin 3 → ℕ) (h2 : o2 = ![c.val, 0, 0]) (inb2 hs2)
    (fd : Buf (Elt F) (statsL p)) :
    ((statsL p ↦[statsRow c]{fullShare} ((statsV o2 inb2 hs2).view.write (Elt F) fd ((statV o1 inb1 hs1).view.read (Elt F) (stat c)) Finset.univ)) : sProp 𝕄)
      = (statsL p ↦[statsRow c]{fullShare} statsF stat p) := by
  refine pointsTo_congr fun i hi => ?_
  refine write_agrees (statsV o2 inb2 hs2).view fd (statsF stat p) _ (fun x => ?_) i (by rw [statsV_set c o2 h2]; exact hi)
  obtain ⟨k, j, rfl⟩ : ∃ (k : Fin 2) (j : Fin 512), x = ix2 k j := ⟨x 0, x 1, eq_ix2 x⟩
  rw [statsV_emb c o2 h2]
  show stat c ((statV o1 inb1 hs1).view.emb (ix2 k j)) = _
  rw [statV_emb _ (by have h : p.val < 16 := p.isLt; omega) o1 h1]
  rfl

/-- What a copy of a segment of outputs from `c` to `p` leaves. -/
theorem landB (o1 : Fin 2 → ℕ) (h1 : o1 = ![64 * p.val, 0]) (inb1 hs1) (o2 : Fin 3 → ℕ) (h2 : o2 = ![c.val, 0, 0]) (inb2 hs2)
    (fd : Buf (Elt F) (osegL p)) :
    ((osegL p ↦[osegRow c]{fullShare} ((osegV o2 inb2 hs2).view.write (Elt F) fd ((catV o1 inb1 hs1).view.read (Elt F) (cat c)) Finset.univ)) : sProp 𝕄)
      = (osegL p ↦[osegRow c]{fullShare} osegF cat p) := by
  refine pointsTo_congr fun i hi => ?_
  refine write_agrees (osegV o2 inb2 hs2).view fd (osegF cat p) _ (fun x => ?_) i (by rw [osegV_set c o2 h2]; exact hi)
  obtain ⟨k, j, rfl⟩ : ∃ (k : Fin 64) (j : Fin 512), x = ix2 k j := ⟨x 0, x 1, eq_ix2 x⟩
  rw [osegV_emb c o2 h2]
  show cat c ((catV o1 inb1 hs1).view.emb (ix2 k j)) = _
  rw [catV_emb p o1 h1]
  rfl

/-- What a copy of a combined segment leaves. -/
theorem landD (o1 : Fin 2 → ℕ) (h1 : o1 = ![64 * c.val, 0]) (inb1 hs1) (o2 : Fin 2 → ℕ) (h2 : o2 = ![64 * c.val, 0]) (inb2 hs2)
    (fd : Buf (Elt F) (catL p)) :
    ((catL p ↦[catSeg c]{fullShare} ((catV o2 inb2 hs2).view.write (Elt F) fd ((catV o1 inb1 hs1).view.read (Elt F) norm) Finset.univ)) : sProp 𝕄)
      = (catL p ↦[catSeg c]{fullShare} norm) := by
  refine pointsTo_congr fun i hi => ?_
  refine write_agrees (catV o2 inb2 hs2).view fd norm _ (fun x => ?_) i (by rw [catV_set c o2 h2]; exact hi)
  obtain ⟨k, j, rfl⟩ : ∃ (k : Fin 64) (j : Fin 512), x = ix2 k j := ⟨x 0, x 1, eq_ix2 x⟩
  rw [catV_emb c o2 h2]
  show norm ((catV o1 inb1 hs1).view.emb (ix2 k j)) = _
  rw [catV_emb c o1 h1]

/-- What the store of an own block of outputs leaves in the own slot. -/
theorem ownOseg (o : Fin 3 → ℕ) (ho : o = ![c.val, 0, 0]) (inb : ∀ x, o x + S1x64x512.size x ≤ S16x64x512.size x) (w : Vec F S1x64x512 .bf16)
    (hw : ∀ k j, w (ix3 ⟨0, Nat.one_pos⟩ k j) = osegF cat c (ix3 c k j)) (fd : Buf (Elt F) (osegL c)) :
    ((osegL c ↦[osegRow c]{fullShare} (((Memref.whole cc0_scratch2).access (Rect.unit (s := S16x64x512) o S1x64x512.size inb)).write (Elt F) fd w Finset.univ)) : sProp 𝕄)
      = (osegL c ↦[osegRow c]{fullShare} osegF cat c) := by
  refine pointsTo_congr fun i hi => ?_
  refine write_agrees ((View.whole cc0_scratch2).slice (Rect.unit (s := S16x64x512) o S1x64x512.size inb)) fd (osegF cat c) w (fun x => ?_) i
    (by rw [View.set_slice_whole, oseg_set c o ho]; exact hi)
  obtain ⟨z, k, j, rfl⟩ : ∃ (z : Fin 1) (k : Fin 64) (j : Fin 512), x = ix3 z k j := ⟨x 0, x 1, x 2, eq_ix3 x⟩
  obtain rfl : z = ⟨0, Nat.one_pos⟩ := Subsingleton.elim _ _
  show w _ = osegF cat c ((Rect.unit (s := S16x64x512) o S1x64x512.size inb).emb _)
  rw [hw]
  congr 1
  exact ((emb3 (n0 := 16) (n1 := 64) (n2 := 512) o ho inb ⟨0, Nat.one_pos⟩ k j (by have : c.val < 16 := c.isLt; simpa using this) (by omega) (by omega)).trans
    (by funext x; match x with
        | ⟨0, _⟩ => rfl
        | ⟨1, _⟩ => exact Fin.ext (Nat.zero_add _)
        | ⟨2, _⟩ => exact Fin.ext (Nat.zero_add _))).symm

/-- What the store of own statistics leaves in the own slot. -/
theorem ownStats (o : Fin 3 → ℕ) (ho : o = ![c.val, 0, 0]) (inb : ∀ x, o x + S1x2x512.size x ≤ S16x2x512.size x) (w : Vec F S1x2x512 .f32)
    (hw : ∀ k j, w (ix3 ⟨0, Nat.one_pos⟩ k j) = statsF stat c (ix3 c k j)) (fd : Buf (Elt F) (statsL c)) :
    ((statsL c ↦[statsRow c]{fullShare} (((Memref.whole cc0_scratch3).access (Rect.unit (s := S16x2x512) o S1x2x512.size inb)).write (Elt F) fd w Finset.univ)) : sProp 𝕄)
      = (statsL c ↦[statsRow c]{fullShare} statsF stat c) := by
  refine pointsTo_congr fun i hi => ?_
  refine write_agrees ((View.whole cc0_scratch3).slice (Rect.unit (s := S16x2x512) o S1x2x512.size inb)) fd (statsF stat c) w (fun x => ?_) i
    (by rw [View.set_slice_whole, stats_set c o ho]; exact hi)
  obtain ⟨z, k, j, rfl⟩ : ∃ (z : Fin 1) (k : Fin 2) (j : Fin 512), x = ix3 z k j := ⟨x 0, x 1, x 2, eq_ix3 x⟩
  obtain rfl : z = ⟨0, Nat.one_pos⟩ := Subsingleton.elim _ _
  show w _ = statsF stat c ((Rect.unit (s := S16x2x512) o S1x2x512.size inb).emb _)
  rw [hw]
  congr 1
  exact ((emb3 (n0 := 16) (n1 := 2) (n2 := 512) o ho inb ⟨0, Nat.one_pos⟩ k j (by have : c.val < 16 := c.isLt; simpa using this) (by omega) (by omega)).trans
    (by funext x; match x with
        | ⟨0, _⟩ => rfl
        | ⟨1, _⟩ => exact Fin.ext (Nat.zero_add _)
        | ⟨2, _⟩ => exact Fin.ext (Nat.zero_add _))).symm

end Copies

end Cert.KernelIdeal.Attn

end
-- ==== Proof.Exch.lean ====
/- The barrier wait and the exchange of partial results: the own block stored in the own slot, and for every peer the copy of
   one head's statistics and of one segment of outputs. -/
module

public import proofs.«01_k».proof.Proof.Views

@[expose] public section

set_option maxRecDepth 8000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (cat : Dev nD → Vec F S1024x512 .bf16) (stat : Dev nD → Vec F S8x2x512 .f32) (norm : Vec F S1024x512 .bf16)

local notation "RR" => Rd cat stat norm

variable (κ : GSem nD τ sig → ℕ) (c : Dev nD)

local notation "CC" => Ctx cat stat norm κ c

variable {α : Type} {X A A' B B' R : SP F} {Q : α → SP F}

/-! ## The barrier wait -/

/-- The tokens for the two copies to peer `p`. -/
def abTok (p : Dev nD) : sProp 𝕄 :=
  iprop(dutyTok ER (kc 0 c p) 0 p ∗ dutyTok ER (kc 1 p c) 0 c ∗ dutyTok ER (kc 2 c p) 0 p ∗ dutyTok ER (kc 3 p c) 0 c)

/-- What the two copies to peer `p` need besides their sources. -/
def ABd (p : Dev nD) : sProp 𝕄 :=
  iprop(slots p c ∗ abTok c p ∗ reached ER (kc 1 p c) 0 ∗ reached ER (kc 3 p c) 0)

/-- The sources of the two copies to peer `p`. -/
def Src (p : Dev nD) : sProp 𝕄 :=
  iprop((catL c ↦[catSeg p]{fullShare} cat c) ∗ (statL c ↦[statRow (p.val / 2)]{hf p} stat c))

/-- The own slots once `m` peers have been gone through. -/
def ownS (m : ℕ) : sProp 𝕄 :=
  if c.val < m then iprop((statsL c ↦[statsRow c]{fullShare} statsF stat c) ∗ (osegL c ↦[osegRow c]{fullShare} osegF cat c)) else slots c c

/-- The own sources, kept. -/
def ownSrc (n : ℕ) : sProp 𝕄 := if c.val < n then Src cat stat c c else iprop(emp)

/-- While the partial results are exchanged: copies to the peers before `n` are under way. -/
def AB (m n : ℕ) : sProp 𝕄 :=
  iprop((bigSep (rem c n) fun p => ABd c p)
    ∗ (bigSep (dn c n) fun p => iprop(cred (tallyAt (kc 0 c p) () Na) ∗ cred (tallyAt (kc 2 c p) () Nb)))
    ∗ Ow c ∅ (rem c n) (others c) (others c) ∗ ownS cat stat c m ∗ ownSrc cat stat c n)

/-- What the barrier wait uses. -/
def PreR : sProp 𝕄 :=
  iprop(cred (tallyAt (barC c) () 15) ∗ atPos ER (barC c) 0 ∅ 0 ∗ (bigSep (others c) fun p => abTok c p) ∗ slots c c)
/-- What it leaves for later. -/
def PostR : sProp 𝕄 :=
  iprop(atPos ER (barC c) 1 ∅ 0 ∗ bigSep (others c) fun p => iprop(reached ER (kc 5 p c) 0 ∗ reached ER (exC p c) 0))

theorem bar_split (p : Dev nD) :
    iprop(barPay c p ∗ abTok c p) ⊢ (iprop(ABd c p ∗ (reached ER (kc 5 p c) 0 ∗ reached ER (exC p c) 0)) : sProp 𝕄) := by
  unfold barPay ABd
  iintro ⟨⟨H1, H2, H3, H4, H5⟩, H6⟩
  isplitl [H1 H2 H3 H6]
  · isplitl [H1]; · iexact H1
    isplitl [H6]; · iexact H6
    isplitl [H2]; · iexact H2
    iexact H3
  isplitl [H4]; · iexact H4
  iexact H5

/-- The barrier wait. -/
theorem bar_wait {K : PUnit → Prog (TpuEff nD τ sig (Elt F) Λ₀ .tc) α}
    (hk : G cat stat norm κ c X A (AB cat stat c 0 0) (iprop(PostR c ∗ R)) ⊢ wpc c (K ⟨⟩) Q) :
    G cat stat norm κ c X A (BS c 15) (iprop(PreR c ∗ R))
      ⊢ wpc c (semWaitWord (SemArray.scalar (d := S_.size) barrier0).sem 15#32 >>= K) Q := by
  have hmw : CC ⊢ MayWait (c : Thread nD τ) (.reg barrier0) () (Owed c ∅ (others c) (others c) (others c)) :=
    ctx_may cat stat norm κ c (.reg barrier0) ∅ (others c) (others c) (others c) 1 (le_of_eq (lv_bar c)) (.inl rfl)
      (.inr (by omega)) (.inr (by omega)) (.inr (by omega))
  unfold BS PreR
  rw [remR_all]
  iintro ⟨#Hc, HX, HA, ⟨-, HO⟩, ⟨Hcr, Hat, Htok, Hown⟩, HR⟩
  unfold Ow
  icases HO with ⟨%W, HO⟩
  iapply (Rounds.wp_wait_rest_token 𝒱₀ ER RR (c : Thread nD τ) none (κ := κ (barC c)) (sm := .reg barrier0) (k' := 15)
      (wpE_semWait_eq 𝒱₀ (c : Thread nD τ) none Set.univ) (Set.mem_univ _) () (O := Owed c ∅ (others c) (others c) (others c)) (W := W)
      (R := 0) (m := 0) (T := ∅) ((Nat.zero_add _).trans (expect_bar cat stat norm c).symm)) $$ [HO Hcr Hat]
  · isplitr; · iapply (ctx_bar cat stat norm κ c c); iexact Hc
    isplitl [Hcr]; · iexact Hcr
    isplitl [HO]; · iexact HO
    isplitr
    · iapply hmw; iexact Hc
    iexact Hat
  rw [rest_bar]
  iintro ⟨HO, Hat, -, Hpay⟩
  ihave H := (show iprop((bigSep (others c) fun p => barPay c p) ∗ (bigSep (others c) fun p => abTok c p))
      ⊢ (iprop((bigSep (others c) fun p => ABd c p) ∗ (bigSep (others c) fun p => iprop(reached ER (kc 5 p c) 0 ∗ reached ER (exC p c) 0))) : sProp 𝕄) by
        rw [← bs_sep, ← bs_sep]; exact bigSep_mono fun p _ => bar_split c p) $$ [Hpay Htok]
  · isplitl [Hpay]; · iexact Hpay
    iexact Htok
  icases H with ⟨Hab, Hre⟩
  iapply hk
  isplitr; · iexact Hc
  isplitl [HX]; · iexact HX
  isplitl [HA]; · iexact HA
  isplitl [Hab HO Hown]
  · unfold AB Ow ownS ownSrc
    rw [rem_zero, dn_zero, if_neg (Nat.not_lt_zero _), if_neg (Nat.not_lt_zero _), bigSep_empty]
    isplitl [Hab]; · iexact Hab
    isplitr; · iempintro
    isplitl [HO]; · iexists _; iexact HO
    isplitl [Hown]; · iexact Hown
    iempintro
  isplitl [Hat Hre]
  · unfold PostR
    isplitl [Hat]; · iexact Hat
    iexact Hre
  iexact HR

/-! ## The own block -/

/-- The store of the own block, when peer `p` is the device itself: two loads and two stores. -/
theorem own_if (p : Dev nD) {cnd : BitVec 1} (hcnd : cnd = 1#1 ↔ c = p)
    {o8 : Fin 3 → ℕ} (ho8 : o8 = ![c.val, 0, 0]) {o9 : Fin 3 → ℕ} (ho9 : o9 = ![c.val, 0, 0])
    {inb8 : cnd = 1#1 → ∀ x, o8 x + S1x64x512.size x ≤ S16x64x512.size x} {inb9 : cnd = 1#1 → ∀ x, o9 x + S1x2x512.size x ≤ S16x2x512.size x}
    {hl8 : ∀ h : cnd = 1#1, (Memref.whole cc0_scratch2 : Memref sig .tc .vmem S16x64x512 .bf16).view.LoadsAt (Rect.unit (s := S16x64x512) o8 S1x64x512.size (inb8 h)).toLoadRect}
    {hx8 : ∀ h : cnd = 1#1, ((Memref.whole cc0_scratch2 : Memref sig .tc .vmem S16x64x512 .bf16).access (Rect.unit (s := S16x64x512) o8 S1x64x512.size (inb8 h))).Stores Finset.univ}
    {hm8 : ∀ h : cnd = 1#1, (Finset.univ : Finset (Rect.unit (s := S16x64x512) o8 S1x64x512.size (inb8 h)).shape.Idx) = Finset.univ ∨ ∀ a, (Rect.unit (s := S16x64x512) o8 S1x64x512.size (inb8 h)).stride a = 1}
    {hl9 : ∀ h : cnd = 1#1, (Memref.whole cc0_scratch3 : Memref sig .tc .vmem S16x2x512 .f32).view.LoadsAt (Rect.unit (s := S16x2x512) o9 S1x2x512.size (inb9 h)).toLoadRect}
    {hx9 : ∀ h : cnd = 1#1, ((Memref.whole cc0_scratch3 : Memref sig .tc .vmem S16x2x512 .f32).access (Rect.unit (s := S16x2x512) o9 S1x2x512.size (inb9 h))).Stores Finset.univ}
    {hm9 : ∀ h : cnd = 1#1, (Finset.univ : Finset (Rect.unit (s := S16x2x512) o9 S1x2x512.size (inb9 h)).shape.Idx) = Finset.univ ∨ ∀ a, (Rect.unit (s := S16x2x512) o9 S1x2x512.size (inb9 h)).stride a = 1}
    {w8 : Vec F S1x64x512 .bf16} {w9 : Vec F S1x2x512 .f32}
    (hw8 : c = p → ∀ k j, w8 (ix3 ⟨0, Nat.one_pos⟩ k j) = osegF cat c (ix3 c k j))
    (hw9 : c = p → ∀ k j, w9 (ix3 ⟨0, Nat.one_pos⟩ k j) = statsF stat c (ix3 c k j))
    {K : Prog (TpuEff nD τ sig (Elt F) Λ₀ .tc) α}
    (hk : G cat stat norm κ c X A (AB cat stat c (p.val + 1) p.val) R ⊢ wpc c K Q) :
    G cat stat norm κ c X A (AB cat stat c p.val p.val) R
      ⊢ wpc c (if h : cnd = 1#1 then
          (Prog.lift (.load (Memref.whole cc0_scratch2 : Memref sig .tc .vmem S16x64x512 .bf16) (Rect.unit (s := S16x64x512) o8 S1x64x512.size (inb8 h)).toLoadRect (hl8 h)) >>= fun _ =>
           Prog.lift (.store (Memref.whole cc0_scratch2 : Memref sig .tc .vmem S16x64x512 .bf16) (Rect.unit (s := S16x64x512) o8 S1x64x512.size (inb8 h)) w8 Finset.univ (hx8 h) (hm8 h)) >>= fun _ =>
           Prog.lift (.load (Memref.whole cc0_scratch3 : Memref sig .tc .vmem S16x2x512 .f32) (Rect.unit (s := S16x2x512) o9 S1x2x512.size (inb9 h)).toLoadRect (hl9 h)) >>= fun _ =>
           Prog.lift (.store (Memref.whole cc0_scratch3 : Memref sig .tc .vmem S16x2x512 .f32) (Rect.unit (s := S16x2x512) o9 S1x2x512.size (inb9 h)) w9 Finset.univ (hx9 h) (hm9 h)) >>= fun _ => K)
        else K) Q := by
  by_cases hcp : c = p
  · subst hcp
    rw [dif_pos (hcnd.mpr rfl)]
    refine onB cat stat norm κ c ?_ hk
    unfold AB ownS slots
    rw [if_neg (Nat.lt_irrefl _), if_pos (Nat.lt_succ_self _)]
    iintro ⟨-, Hab, Hcr, HO, ⟨⟨%f9, H9⟩, ⟨%f8, H8⟩⟩, Hsrc⟩ Hk
    have e8 : ((Memref.whole cc0_scratch2 : Memref sig .tc .vmem S16x64x512 .bf16).access (Rect.unit (s := S16x64x512) o8 S1x64x512.size (inb8 (hcnd.mpr rfl)))).set = osegRow c :=
      (View.set_slice_whole _ _).trans (oseg_set c o8 ho8 _)
    have e9 : ((Memref.whole cc0_scratch3 : Memref sig .tc .vmem S16x2x512 .f32).access (Rect.unit (s := S16x2x512) o9 S1x2x512.size (inb9 (hcnd.mpr rfl)))).set = statsRow c :=
      (View.set_slice_whole _ _).trans (stats_set c o9 ho9 _)
    iapply (wp_load_rect 𝒱₀ (c : Thread nD τ) none Set.univ (le_of_eq e8)) $$ [H8]
    · iexact H8
    iintro H8
    iapply (wp_store 𝒱₀ (c : Thread nD τ) none Set.univ (le_of_eq e8)) $$ [H8]
    · iexact H8
    iintro H8
    iapply (wp_load_rect 𝒱₀ (c : Thread nD τ) none Set.univ (le_of_eq e9)) $$ [H9]
    · iexact H9
    iintro H9
    iapply (wp_store 𝒱₀ (c : Thread nD τ) none Set.univ (le_of_eq e9)) $$ [H9]
    · iexact H9
    iintro H9
    iapply Hk
    isplitl [Hab]; · iexact Hab
    isplitl [Hcr]; · iexact Hcr
    isplitl [HO]; · iexact HO
    isplitl [H8 H9]
    · isplitl [H9]
      · rw [← ownStats c stat o9 ho9 (inb9 (hcnd.mpr rfl)) w9 (hw9 rfl) f9]; iexact H9
      · rw [← ownOseg c cat o8 ho8 (inb8 (hcnd.mpr rfl)) w8 (hw8 rfl) f8]; iexact H8
    iexact Hsrc
  · rw [dif_neg (fun h => hcp (hcnd.mp h))]
    have e : AB cat stat c p.val p.val = AB cat stat c (p.val + 1) p.val := by
      unfold AB ownS
      have : c.val < p.val + 1 ↔ c.val < p.val := ⟨fun h => Nat.lt_of_le_of_ne (Nat.lt_succ_iff.mp h) (fun e => hcp (Fin.ext e)), fun h => by omega⟩
      simp only [this]
    rw [e]; exact hk

/-! ## The two copies to a peer -/

theorem dsem_eq (k : Fin 6) (i : Dev nD) (base : ℕ) (hbase : base = 6 + 16 * k.val) (hb : base + S16.numel ≤ sig.nDmaSem) (o : Fin 1 → ℕ)
    (ho : o = ![i.val]) (inb : ∀ x, o x + S1.size x ≤ S16.size x) (hs : S1.Squeezes S_) :
    (((SemArray.consecutive base S16 hb).slice (Rect.unit (s := S16) o S1.size inb)).squeeze S_ hs).sem = dsem k i := by
  rw [dmaSem_slice base hb o i.val ho i.isLt]
  exact Fin.ext (by show base + i.val = 6 + 16 * k.val + i.val; omega)

theorem send_one (p : Dev nD) (hp : p ≠ c)
    {o10 : Fin 1 → ℕ} (ho10 : o10 = ![p.val]) {o11 : Fin 1 → ℕ} (ho11 : o11 = ![c.val])
    {os : Fin 3 → ℕ} (hos : os = ![p.val / 2, 0, 0]) {od : Fin 3 → ℕ} (hod : od = ![c.val, 0, 0])
    {o12 : Fin 1 → ℕ} (ho12 : o12 = ![p.val]) {o13 : Fin 1 → ℕ} (ho13 : o13 = ![c.val])
    {oc : Fin 2 → ℕ} (hoc : oc = ![64 * p.val, 0]) {oe : Fin 3 → ℕ} (hoe : oe = ![c.val, 0, 0])
    {dv1 dv2 : ℕ} (hdv1 : dv1 = p.val) (hdv2 : dv2 = p.val) {lt1 : dv1 < nD} {lt2 : dv2 < nD}
    {i10 i11 i12 i13 is ss id sd ic sc ie se}
    {ws1 wd1 ty1 ws2 wd2 ty2}
    {K : Prog (TpuEff nD τ sig (Elt F) Λ₀ .tc) α} :
    iprop(CC ∗ iprop(Src cat stat c p ∗ A) ∗ AB cat stat c (p.val + 1) p.val)
      ⊢ iprop((iprop(A ∗ AB cat stat c (p.val + 1) (p.val + 1)) -∗ wpc c K Q) -∗
        wpc c (Prog.lift (.enqueueDma (statV os is ss) (.remote (Dev.tc (⟨dv1, lt1⟩ : Dev nD)) (statsV od id sd)
              (.dma ((cc0_scratch4.slice (Rect.unit (s := S16) o10 S1.size i10)).squeeze S_ squeezes_S1_S_).sem))
              (.dma ((cc0_scratch5.slice (Rect.unit (s := S16) o11 S1.size i11)).squeeze S_ squeezes_S1_S_).sem) ws1 wd1 ty1) >>= fun _ =>
          Prog.lift (.enqueueDma (catV oc ic sc) (.remote (Dev.tc (⟨dv2, lt2⟩ : Dev nD)) (osegV oe ie se)
              (.dma ((cc0_scratch6.slice (Rect.unit (s := S16) o12 S1.size i12)).squeeze S_ squeezes_S1_S_).sem))
              (.dma ((cc0_scratch7.slice (Rect.unit (s := S16) o13 S1.size i13)).squeeze S_ squeezes_S1_S_).sem) ws2 wd2 ty2) >>= fun _ => K) Q) := by
  subst hdv1 hdv2
  have hpc : c ≠ p := fun e => hp e.symm
  revert ty1 ty2
  rw [dsem_eq 0 p 6 rfl _ o10 ho10, dsem_eq 1 c 22 rfl _ o11 ho11, dsem_eq 2 p 38 rfl _ o12 ho12, dsem_eq 3 c 54 rfl _ o13 ho13]
  intro ty1 ty2
  unfold AB Src
  rw [rem_step c p hp, bs_insert (rem_notMem c p), dn_step c p hp, bs_insert (dn_notMem c p)]
  have eown : ownSrc (F := F) cat stat c (p.val + 1) = ownSrc cat stat c p.val := by
    unfold ownSrc
    have : c.val < p.val + 1 ↔ c.val < p.val := ⟨fun h => Nat.lt_of_le_of_ne (Nat.lt_succ_iff.mp h) (fun e => hpc (Fin.ext e)), fun h => by omega⟩
    simp only [this]
  rw [eown]
  unfold ABd slots abTok Ow
  iintro ⟨#Hc, ⟨⟨Hcat, Hstat⟩, HA⟩, ⟨⟨⟨⟨%f9, H9⟩, ⟨%f8, H8⟩⟩, ⟨Ht0, Ht1, Ht2, Ht3⟩, Hr1, Hr3⟩, Hab⟩, Hcr, ⟨%W, HO⟩, Hown, Hos⟩ Hk
  iapply (Rounds.wp_send_pointsTo 𝒱₀ ER RR (c : Thread nD τ) none (c' := (p : Thread nD τ)) (src := statV os is ss) (dst := statsV od id sd)
      (sS := .dma (dsem 0 p)) (sem := .dma (dsem 1 c)) (q := hf p) (fs := stat c) (fd := f9) (r₁ := 0) (r₂ := 0) (d₁ := p) (d₂ := c)
      (κ₁ := κ (kc 0 c p)) (κ₂ := κ (kc 1 p c))
      (by rw [duties_kc cat stat norm 0 c p hp]; exact Finset.mem_singleton_self _)
      (by rw [duties_kc cat stat norm 1 p c hpc]; exact Finset.mem_singleton_self _)
      () () Na rfl (amount_kc0 cat stat norm c p p) (amount_kc1 cat stat norm p c c)
      (Owed c ∅ (rem c (p.val + 1)) (others c) (others c) + tallyAt (kc 3 p c) () Nb) (Owed_a c p _ _ _ _ (rem_notMem c p))
      (by rw [payload_kc, statV_set (p.val / 2) os hos]; exact .rfl)
      (by rw [payload_kc, statsV_set c od hod]; exact Entails.of_eq (landA c p stat os hos is ss od hod id sd f9)))
    $$ [Hstat H9 HO Ht0 Ht1 Hr1]
  · isplitr; · iapply (ctx_kc cat stat norm κ c 0 c p); iexact Hc
    isplitr; · iapply (ctx_kc cat stat norm κ c 1 p c); iexact Hc
    isplitl [Hstat]; · rw [statV_set (p.val / 2) os hos]; iexact Hstat
    isplitl [H9]; · rw [statsV_set c od hod]; iexact H9
    isplitl [HO]; · iexact HO
    isplitl [Ht0]; · iexact Ht0
    isplitr; · iapply (ctx_reached cat stat norm κ c 0 p); iexact Hc
    isplitl [Ht1]; · iexact Ht1
    iexact Hr1
  iintro ⟨Hc0, HO⟩
  iapply (Rounds.wp_send_landing_pointsTo 𝒱₀ ER RR (c : Thread nD τ) none (c' := (p : Thread nD τ)) (src := catV oc ic sc) (dst := osegV oe ie se)
      (sS := .dma (dsem 2 p)) (sem := .dma (dsem 3 c)) (q := fullShare) (fs := cat c) (fd := f8) (r₁ := 0) (r₂ := 0) (d₁ := p) (d₂ := c)
      (κ₁ := κ (kc 2 c p)) (κ₂ := κ (kc 3 p c))
      (by rw [duties_kc cat stat norm 2 c p hp]; exact Finset.mem_singleton_self _)
      (by rw [duties_kc cat stat norm 3 p c hpc]; exact Finset.mem_singleton_self _)
      () () Nb rfl (amount_kc2 cat stat norm c p p) (amount_kc3 cat stat norm p c c)
      (Owed c ∅ (rem c (p.val + 1)) (others c) (others c)) rfl
      (by rw [payload_kc]; exact .rfl)
      (by rw [payload_kc, osegV_set c oe hoe, catV_set p oc hoc]
          exact Entails.of_eq (congrArg (fun P => iprop(P ∗ (catL c ↦[catSeg p]{fullShare} cat c))) (landB c p cat oc hoc ic sc oe hoe ie se f8))))
    $$ [Hcat H8 HO Ht2 Ht3 Hr3]
  · isplitr; · iapply (ctx_kc cat stat norm κ c 2 c p); iexact Hc
    isplitr; · iapply (ctx_kc cat stat norm κ c 3 p c); iexact Hc
    isplitl [Hcat]; · rw [catV_set p oc hoc]; iexact Hcat
    isplitl [H8]; · rw [osegV_set c oe hoe]; iexact H8
    isplitl [HO]; · iexact HO
    isplitl [Ht2]; · iexact Ht2
    isplitr; · iapply (ctx_reached cat stat norm κ c 2 p); iexact Hc
    isplitl [Ht3]; · iexact Ht3
    iexact Hr3
  iintro ⟨Hc2, HO⟩
  iapply Hk
  isplitl [HA]; · iexact HA
  isplitl [Hab]; · iexact Hab
  isplitl [Hc0 Hc2 Hcr]
  · isplitl [Hc0 Hc2]
    · isplitl [Hc0]; · iexact Hc0
      iexact Hc2
    iexact Hcr
  isplitl [HO]; · iexists W; iexact HO
  isplitl [Hown]; · iexact Hown
  iexact Hos

/-- The two copies to peer `p`, when it is another device. -/
theorem send_if (p : Dev nD) {cnd : BitVec 1} (hcnd : cnd = 1#1 ↔ c ≠ p)
    {o10 : Fin 1 → ℕ} (ho10 : o10 = ![p.val]) {o11 : Fin 1 → ℕ} (ho11 : o11 = ![c.val])
    {os : Fin 3 → ℕ} (hos : os = ![p.val / 2, 0, 0]) {od : Fin 3 → ℕ} (hod : od = ![c.val, 0, 0])
    {o12 : Fin 1 → ℕ} (ho12 : o12 = ![p.val]) {o13 : Fin 1 → ℕ} (ho13 : o13 = ![c.val])
    {oc : Fin 2 → ℕ} (hoc : oc = ![64 * p.val, 0]) {oe : Fin 3 → ℕ} (hoe : oe = ![c.val, 0, 0])
    {dv1 dv2 : ℕ} (hdv1 : dv1 = p.val) (hdv2 : dv2 = p.val) {lt1 : cnd = 1#1 → dv1 < nD} {lt2 : cnd = 1#1 → dv2 < nD}
    {i10 : ∀ x, o10 x + S1.size x ≤ S16.size x} {i11 : cnd = 1#1 → ∀ x, o11 x + S1.size x ≤ S16.size x}
    {i12 : ∀ x, o12 x + S1.size x ≤ S16.size x} {i13 : cnd = 1#1 → ∀ x, o13 x + S1.size x ≤ S16.size x}
    {is : ∀ x, os x + S1x2x512.size x ≤ S8x2x512.size x} {ss}
    {id : cnd = 1#1 → ∀ x, od x + S1x2x512.size x ≤ S16x2x512.size x} {sd : ∀ h : cnd = 1#1, ∀ a, (Rect.unit (s := S16x2x512) od S1x2x512.size (id h)).stride a = 1}
    {ic : ∀ x, oc x + S64x512.size x ≤ S1024x512.size x} {sc}
    {ie : cnd = 1#1 → ∀ x, oe x + S1x64x512.size x ≤ S16x64x512.size x} {se : ∀ h : cnd = 1#1, ∀ a, (Rect.unit (s := S16x64x512) oe S1x64x512.size (ie h)).stride a = 1}
    {ws1 : (statV os is ss).view.WordExact} {wd1 : ∀ h : cnd = 1#1, (statsV od (id h) (sd h)).view.WordExact}
    {ty1 : ∀ h : cnd = 1#1, DmaTarget.Typed .vmem (.dma ((cc0_scratch5.slice (Rect.unit (s := S16) o11 S1.size (i11 h))).squeeze S_ squeezes_S1_S_).sem)
      (.remote (Dev.tc (⟨dv1, lt1 h⟩ : Dev nD)) (statsV od (id h) (sd h)) (.dma ((cc0_scratch4.slice (Rect.unit (s := S16) o10 S1.size i10)).squeeze S_ squeezes_S1_S_).sem) rfl)}
    {ws2 : (catV oc ic sc).view.WordExact} {wd2 : ∀ h : cnd = 1#1, (osegV oe (ie h) (se h)).view.WordExact}
    {ty2 : ∀ h : cnd = 1#1, DmaTarget.Typed .vmem (.dma ((cc0_scratch7.slice (Rect.unit (s := S16) o13 S1.size (i13 h))).squeeze S_ squeezes_S1_S_).sem)
      (.remote (Dev.tc (⟨dv2, lt2 h⟩ : Dev nD)) (osegV oe (ie h) (se h)) (.dma ((cc0_scratch6.slice (Rect.unit (s := S16) o12 S1.size i12)).squeeze S_ squeezes_S1_S_).sem) rfl)}
    {K : Prog (TpuEff nD τ sig (Elt F) Λ₀ .tc) α}
    (hk : G cat stat norm κ c X A (AB cat stat c (p.val + 1) (p.val + 1)) R ⊢ wpc c K Q) :
    G cat stat norm κ c X (iprop(Src cat stat c p ∗ A)) (AB cat stat c (p.val + 1) p.val) R
      ⊢ wpc c (if h : cnd = 1#1 then
          (Prog.lift (.enqueueDma (statV os is ss) (.remote (Dev.tc (⟨dv1, lt1 h⟩ : Dev nD)) (statsV od (id h) (sd h))
              (.dma ((cc0_scratch4.slice (Rect.unit (s := S16) o10 S1.size i10)).squeeze S_ squeezes_S1_S_).sem) rfl)
              (.dma ((cc0_scratch5.slice (Rect.unit (s := S16) o11 S1.size (i11 h))).squeeze S_ squeezes_S1_S_).sem) ws1 (wd1 h) (ty1 h)) >>= fun _ =>
          Prog.lift (.enqueueDma (catV oc ic sc) (.remote (Dev.tc (⟨dv2, lt2 h⟩ : Dev nD)) (osegV oe (ie h) (se h))
              (.dma ((cc0_scratch6.slice (Rect.unit (s := S16) o12 S1.size i12)).squeeze S_ squeezes_S1_S_).sem) rfl)
              (.dma ((cc0_scratch7.slice (Rect.unit (s := S16) o13 S1.size (i13 h))).squeeze S_ squeezes_S1_S_).sem) ws2 (wd2 h) (ty2 h)) >>= fun _ => K)
        else K) Q := by
  by_cases hcp : c = p
  · subst hcp
    rw [dif_neg (fun h => hcnd.mp h rfl)]
    refine .trans ?_ hk
    unfold AB ownSrc
    rw [if_neg (Nat.lt_irrefl _), if_pos (Nat.lt_succ_self _), rem_self, dn_self]
    iintro ⟨Hc, HX, ⟨HS, HA⟩, ⟨H1, H2, H3, H4, -⟩, HR⟩
    isplitl [Hc]; · iexact Hc
    isplitl [HX]; · iexact HX
    isplitl [HA]; · iexact HA
    isplitl [H1 H2 H3 H4 HS]
    · isplitl [H1]; · iexact H1
      isplitl [H2]; · iexact H2
      isplitl [H3]; · iexact H3
      isplitl [H4]; · iexact H4
      iexact HS
    iexact HR
  · rw [dif_pos (hcnd.mpr hcp)]
    exact onAB cat stat norm κ c (send_one cat stat norm κ c p (fun e => hcp e.symm) ho10 ho11 hos hod ho12 ho13 hoc hoe hdv1 hdv2) hk

end Cert.KernelIdeal.Attn

end
-- ==== Proof.Recv.lean ====
/- The waits for the peers' partial results, the loads of the combination, the store of the combined segment and its copies. -/
module

public import proofs.«01_k».proof.Proof.Exch

@[expose] public section

set_option maxRecDepth 8000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (cat : Dev nD → Vec F S1024x512 .bf16) (stat : Dev nD → Vec F S8x2x512 .f32) (norm : Vec F S1024x512 .bf16)

local notation "RR" => Rd cat stat norm

variable (κ : GSem nD τ sig → ℕ) (c : Dev nD)

local notation "CC" => Ctx cat stat norm κ c

variable {α : Type} {X A A' B B' R : SP F} {Q : α → SP F}

theorem dmaPay0 (i : Dev nD) : dmaPay cat stat norm c 0 i = (statL c ↦[statRow (i.val / 2)]{hf i} stat c) := rfl
theorem dmaPay1 (i : Dev nD) : dmaPay cat stat norm c 1 i = (statsL c ↦[statsRow i]{fullShare} statsF stat c) := rfl
theorem dmaPay3 (i : Dev nD) : dmaPay cat stat norm c 3 i = iprop((osegL c ↦[osegRow i]{fullShare} osegF cat c) ∗ (catL i ↦[catSeg c]{fullShare} cat i)) := rfl
theorem dmaPay4 (i : Dev nD) : dmaPay cat stat norm c 4 i = (catL c ↦[catSeg c]{lf i} norm) := rfl
theorem dmaPay5 (i : Dev nD) : dmaPay cat stat norm c 5 i = (catL c ↦[catSeg i]{fullShare} norm) := rfl

/-- A wait for a transfer semaphore's one round: the payload comes. -/
theorem wait_kc (k : Fin 6) (s : Dev nD) (hs : s ≠ c) (n : ℕ) (hn : (Rd (F := F) cat stat norm).amount (kc k c s) 0 s = n)
    (Sb Sa Sd Se : Finset (Dev nD)) (hmw : CC ⊢ MayWait (c : Thread nD τ) (.dma (dsem k s)) () (Owed c Sb Sa Sd Se))
    {sem : DmaSem sig} (hsem : sem = dsem k s) {sp sp' : Space} {sh sh' : Shape} {e e' : EltTy} {src : Memref sig .tc sp' sh' e'} {dst : Memref sig .tc sp sh e}
    {h1 : src.view.WordExact} {h2 : dst.view.WordExact} (hcr : dst.view.dmaCredit = n) {K : PUnit → Prog (TpuEff nD τ sig (Elt F) Λ₀ .tc) α} :
    iprop(CC ∗ cred (tallyAt (kc k c s) () n) ∗ atPos ER (kc k c s) 0 ∅ 0 ∗ Ow c Sb Sa Sd Se)
      ⊢ iprop((iprop(atPos ER (kc k c s) 1 ∅ 0 ∗ dmaPay cat stat norm c k s ∗ Ow c Sb Sa Sd Se) -∗ wpc c (K ⟨⟩) Q)
        -∗ wpc c (Prog.lift (.waitDma2 sem src dst h1 h2) >>= K) Q) := by
  subst hsem
  unfold Ow
  iintro ⟨#Hc, Hcr, Hat, ⟨%W, HO⟩⟩ Hk
  iapply (Rounds.wp_wait_rest_token 𝒱₀ ER RR (c : Thread nD τ) none (κ := κ (kc k c s)) (sm := .dma (dsem k s)) (k' := dst.view.dmaCredit)
      (wpE_waitDma2_eq 𝒱₀ (c : Thread nD τ) none Set.univ) (Set.mem_univ _) () (O := Owed c Sb Sa Sd Se) (W := W)
      (R := 0) (m := 0) (T := ∅) ((Nat.zero_add _).trans (hcr.trans (expect_kc cat stat norm k c s hs hn).symm))) $$ [HO Hcr Hat]
  · isplitr; · iapply (ctx_kc cat stat norm κ c k c s); iexact Hc
    isplitl [Hcr]; · rw [hcr]; iexact Hcr
    isplitl [HO]; · iexact HO
    isplitr; · iapply hmw; iexact Hc
    iexact Hat
  rw [rest_kc cat stat norm k c s hs]
  iintro ⟨HO, Hat, -, Hpay⟩
  iapply Hk
  isplitl [Hat]; · iexact Hat
  isplitl [Hpay]; · iexact Hpay
  iexists _; iexact HO

/-! ## The waits for the partial results -/

/-- What the waits for peer `s` use. -/
def rwTok (s : Dev nD) : sProp 𝕄 :=
  iprop(cred (tallyAt (kc 1 c s) () Na) ∗ cred (tallyAt (kc 3 c s) () Nb) ∗ atPos ER (kc 1 c s) 0 ∅ 0 ∗ atPos ER (kc 3 c s) 0 ∅ 0)
/-- What they leave. -/
def rwGot (s : Dev nD) : sProp 𝕄 :=
  iprop((atPos ER (kc 1 c s) 1 ∅ 0 ∗ atPos ER (kc 3 c s) 1 ∅ 0) ∗ (statsL c ↦[statsRow s]{fullShare} statsF stat c)
    ∗ (osegL c ↦[osegRow s]{fullShare} osegF cat c) ∗ (catL s ↦[catSeg c]{fullShare} cat s))

/-- While the partial results come in: those of the peers before `n` are there. -/
def RW (n : ℕ) : sProp 𝕄 :=
  iprop((bigSep (rem c n) fun s => rwTok c s) ∗ (bigSep (dn c n) fun s => rwGot cat stat c s) ∗ Ow c ∅ ∅ (others c) (others c))

theorem recv_one (s : Dev nD) (hs : s ≠ c)
    {o11 : Fin 1 → ℕ} (ho11 : o11 = ![s.val]) {o13 : Fin 1 → ℕ} (ho13 : o13 = ![s.val]) {i11 i13}
    {src1 dst1 : Memref sig .tc .vmem S2x512 .f32} (hc1 : dst1.view.dmaCredit = Na) {src2 dst2 : Memref sig .tc .vmem S64x512 .bf16} (hc2 : dst2.view.dmaCredit = Nb)
    {a1 b1 a2 b2} {K : Prog (TpuEff nD τ sig (Elt F) Λ₀ .tc) α} :
    iprop(CC ∗ RW cat stat c s.val)
      ⊢ iprop((RW cat stat c (s.val + 1) -∗ wpc c K Q)
        -∗ wpc c (Prog.lift (.waitDma2 ((cc0_scratch5.slice (Rect.unit (s := S16) o11 S1.size i11)).squeeze S_ squeezes_S1_S_).sem src1 dst1 a1 b1) >>= fun _ =>
            Prog.lift (.waitDma2 ((cc0_scratch7.slice (Rect.unit (s := S16) o13 S1.size i13)).squeeze S_ squeezes_S1_S_).sem src2 dst2 a2 b2) >>= fun _ => K) Q) := by
  unfold RW
  rw [rem_step c s hs, bs_insert (rem_notMem c s), dn_step c s hs, bs_insert (dn_notMem c s)]
  unfold rwTok rwGot
  iintro ⟨#Hc, ⟨⟨Hc1, Hc3, Ha1, Ha3⟩, Hrest⟩, Hdone, HO⟩ Hk
  iapply (wait_kc cat stat norm κ c 1 s hs Na (amount_kc1 cat stat norm c s s) ∅ ∅ (others c) (others c)
    (ctx_may cat stat norm κ c _ ∅ ∅ (others c) (others c) 2 (by rw [lv_kc]; decide) (.inl rfl) (.inl rfl) (.inr (by omega)) (.inr (by omega)))
    (dsem_eq 1 s 22 rfl _ o11 ho11 _ _) hc1) $$ [Hc1 Ha1 HO]
  · isplitr; · iexact Hc
    isplitl [Hc1]; · iexact Hc1
    isplitl [Ha1]; · iexact Ha1
    iexact HO
  rw [dmaPay1]
  iintro ⟨Ha1, Hp1, HO⟩
  iapply (wait_kc cat stat norm κ c 3 s hs Nb (amount_kc3 cat stat norm c s s) ∅ ∅ (others c) (others c)
    (ctx_may cat stat norm κ c _ ∅ ∅ (others c) (others c) 2 (by rw [lv_kc]; decide) (.inl rfl) (.inl rfl) (.inr (by omega)) (.inr (by omega)))
    (dsem_eq 3 s 54 rfl _ o13 ho13 _ _) hc2) $$ [Hc3 Ha3 HO]
  · isplitr; · iexact Hc
    isplitl [Hc3]; · iexact Hc3
    isplitl [Ha3]; · iexact Ha3
    iexact HO
  rw [dmaPay3]
  iintro ⟨Ha3, Hp3, HO⟩
  iapply Hk
  isplitl [Hrest]; · iexact Hrest
  isplitl [Ha1 Ha3 Hp1 Hp3 Hdone]
  · isplitl [Ha1 Ha3 Hp1 Hp3]
    · isplitl [Ha1 Ha3]
      · isplitl [Ha1]; · iexact Ha1
        iexact Ha3
      isplitl [Hp1]; · iexact Hp1
      iexact Hp3
    iexact Hdone
  iexact HO

/-- The waits for peer `s`, when it is another device. -/
theorem recv_if (s : Dev nD) {cnd : BitVec 1} (hcnd : cnd = 1#1 ↔ c ≠ s)
    {o11 : Fin 1 → ℕ} (ho11 : o11 = ![s.val]) {o13 : Fin 1 → ℕ} (ho13 : o13 = ![s.val]) {i11 i13}
    {src1 dst1 : Memref sig .tc .vmem S2x512 .f32} (hc1 : dst1.view.dmaCredit = Na) {src2 dst2 : Memref sig .tc .vmem S64x512 .bf16} (hc2 : dst2.view.dmaCredit = Nb)
    {a1 b1 a2 b2} {K : Prog (TpuEff nD τ sig (Elt F) Λ₀ .tc) α}
    (hk : G cat stat norm κ c X A (RW cat stat c (s.val + 1)) R ⊢ wpc c K Q) :
    G cat stat norm κ c X A (RW cat stat c s.val) R
      ⊢ wpc c (if h : cnd = 1#1 then
          (Prog.lift (.waitDma2 ((cc0_scratch5.slice (Rect.unit (s := S16) o11 S1.size i11)).squeeze S_ squeezes_S1_S_).sem src1 dst1 a1 b1) >>= fun _ =>
            Prog.lift (.waitDma2 ((cc0_scratch7.slice (Rect.unit (s := S16) o13 S1.size i13)).squeeze S_ squeezes_S1_S_).sem src2 dst2 a2 b2) >>= fun _ => K)
        else K) Q := by
  by_cases hcs : c = s
  · subst hcs
    rw [dif_neg (fun h => hcnd.mp h rfl)]
    have e : RW cat stat c c.val = RW cat stat c (c.val + 1) := by
      unfold RW; rw [rem_self, dn_self]
    rw [e]; exact hk
  · rw [dif_pos (hcnd.mpr hcs)]
    exact onB cat stat norm κ c (recv_one cat stat norm κ c s (fun e => hcs e.symm) ho11 ho13 hc1 hc2) hk

/-! ## The combination's loads and its store -/

/-- The received statistics and outputs, whole. -/
def SA : sProp 𝕄 := iprop((statsL c ↦[Finset.univ]{fullShare} statsF stat c) ∗ (osegL c ↦[Finset.univ]{fullShare} osegF cat c))

/-- Row `k` of the statistics received of `s`: the maxima for `0`, the sums for `1`. -/
def ldM (s : Fin 16) (k : Fin 2) : Vec F S1x1x512 .f32 := fun j => statsF stat c (ix3 s k (j 2))
/-- The outputs received of `s`. -/
def ldO (s : Fin 16) : Vec F S1x64x512 .bf16 := fun j => osegF cat c (ix3 s (j 1) (j 2))

theorem stats_load (s : Fin 16) (k : Fin 2) {o : Fin 3 → ℕ} (ho : o = ![s.val, k.val, 0]) {inb : ∀ x, o x + S1x1x512.size x ≤ S16x2x512.size x} {hl}
    {K : Vec F S1x1x512 .f32 → Prog (TpuEff nD τ sig (Elt F) Λ₀ .tc) α}
    (hk : G cat stat norm κ c X (SA cat stat c) B R ⊢ wpc c (K (ldM stat c s k)) Q) :
    G cat stat norm κ c X (SA cat stat c) B R
      ⊢ wpc c (Prog.lift (.load (Memref.whole cc0_scratch3 : Memref sig .tc .vmem S16x2x512 .f32) (Rect.unit (s := S16x2x512) o S1x1x512.size inb).toLoadRect hl) >>= K) Q := by
  refine onA cat stat norm κ c ?_ hk
  unfold SA
  iintro ⟨H1, H2⟩ Hk
  iapply (wp_load_rect 𝒱₀ (c : Thread nD τ) none Set.univ (Finset.subset_univ _)) $$ [H1]
  · iexact H1
  iintro H1
  have e : ((Memref.whole cc0_scratch3 : Memref sig .tc .vmem S16x2x512 .f32).access (Rect.unit (s := S16x2x512) o S1x1x512.size inb)).read (Elt F) (statsF stat c) = ldM stat c s k := by
    funext j
    obtain ⟨z, y, x, rfl⟩ : ∃ (z : Fin 1) (y : Fin 1) (x : Fin 512), j = ix3 z y x := ⟨j 0, j 1, j 2, eq_ix3 j⟩
    obtain rfl : z = ⟨0, Nat.one_pos⟩ := Subsingleton.elim _ _
    obtain rfl : y = ⟨0, Nat.one_pos⟩ := Subsingleton.elim _ _
    show statsF stat c ((Rect.unit (s := S16x2x512) o S1x1x512.size inb).emb _) = statsF stat c (ix3 s k x)
    congr 1
    exact (emb3 (n0 := 16) (n1 := 2) (n2 := 512) o ho inb ⟨0, Nat.one_pos⟩ ⟨0, Nat.one_pos⟩ x (by simp) k.isLt (by omega)).trans
      (by funext a; match a with
          | ⟨0, _⟩ => rfl
          | ⟨1, _⟩ => rfl
          | ⟨2, _⟩ => exact Fin.ext (Nat.zero_add _))
  rw [e]
  iapply Hk
  isplitl [H1]; · iexact H1
  iexact H2

theorem oseg_load (s : Fin 16) {o : Fin 3 → ℕ} (ho : o = ![s.val, 0, 0]) {inb : ∀ x, o x + S1x64x512.size x ≤ S16x64x512.size x} {hl}
    {K : Vec F S1x64x512 .bf16 → Prog (TpuEff nD τ sig (Elt F) Λ₀ .tc) α}
    (hk : G cat stat norm κ c X (SA cat stat c) B R ⊢ wpc c (K (ldO cat c s)) Q) :
    G cat stat norm κ c X (SA cat stat c) B R
      ⊢ wpc c (Prog.lift (.load (Memref.whole cc0_scratch2 : Memref sig .tc .vmem S16x64x512 .bf16) (Rect.unit (s := S16x64x512) o S1x64x512.size inb).toLoadRect hl) >>= K) Q := by
  refine onA cat stat norm κ c ?_ hk
  unfold SA
  iintro ⟨H1, H2⟩ Hk
  iapply (wp_load_rect 𝒱₀ (c : Thread nD τ) none Set.univ (Finset.subset_univ _)) $$ [H2]
  · iexact H2
  iintro H2
  have e : ((Memref.whole cc0_scratch2 : Memref sig .tc .vmem S16x64x512 .bf16).access (Rect.unit (s := S16x64x512) o S1x64x512.size inb)).read (Elt F) (osegF cat c) = ldO cat c s := by
    funext j
    obtain ⟨z, y, x, rfl⟩ : ∃ (z : Fin 1) (y : Fin 64) (x : Fin 512), j = ix3 z y x := ⟨j 0, j 1, j 2, eq_ix3 j⟩
    obtain rfl : z = ⟨0, Nat.one_pos⟩ := Subsingleton.elim _ _
    show osegF cat c ((Rect.unit (s := S16x64x512) o S1x64x512.size inb).emb _) = osegF cat c (ix3 s y x)
    congr 1
    exact (emb3 (n0 := 16) (n1 := 64) (n2 := 512) o ho inb ⟨0, Nat.one_pos⟩ y x (by simp) (by omega) (by omega)).trans
      (by funext a; match a with
          | ⟨0, _⟩ => rfl
          | ⟨1, _⟩ => exact Fin.ext (Nat.zero_add _)
          | ⟨2, _⟩ => exact Fin.ext (Nat.zero_add _))
  rw [e]
  iapply Hk
  isplitl [H1]; · iexact H1
  iexact H2

/-- The own segment: a load and the store of the combined segment. -/
theorem comb_store {o : Fin 2 → ℕ} (ho : o = ![64 * c.val, 0]) {inb : ∀ x, o x + S64x512.size x ≤ S1024x512.size x} {hl hx hm} {w : Vec F S64x512 .bf16}
    (hw : ∀ k j, w (ix2 k j) = norm (ix2 ⟨64 * c.val + k.val, by have h : c.val < 16 := c.isLt; omega⟩ j))
    {K : Prog (TpuEff nD τ sig (Elt F) Λ₀ .tc) α}
    (hk : G cat stat norm κ c X A (catL c ↦[catSeg c]{fullShare} norm) R ⊢ wpc c K Q) :
    G cat stat norm κ c X A (catL c ↦[catSeg c]{fullShare} cat c) R
      ⊢ wpc c (Prog.lift (.load (Memref.whole cc0_scratch0 : Memref sig .tc .vmem S1024x512 .bf16) (Rect.unit (s := S1024x512) o S64x512.size inb).toLoadRect hl) >>= fun _ =>
          Prog.lift (.store (Memref.whole cc0_scratch0 : Memref sig .tc .vmem S1024x512 .bf16) (Rect.unit (s := S1024x512) o S64x512.size inb) w Finset.univ hx hm) >>= fun _ => K) Q := by
  refine onB cat stat norm κ c ?_ hk
  iintro ⟨-, H⟩ Hk
  have e : ((Memref.whole cc0_scratch0 : Memref sig .tc .vmem S1024x512 .bf16).access (Rect.unit (s := S1024x512) o S64x512.size inb)).set = catSeg c :=
    (View.set_slice_whole _ _).trans (seg_set c o ho _)
  iapply (wp_load_rect 𝒱₀ (c : Thread nD τ) none Set.univ (le_of_eq e)) $$ [H]
  · iexact H
  iintro H
  iapply (wp_store 𝒱₀ (c : Thread nD τ) none Set.univ (le_of_eq e)) $$ [H]
  · iexact H
  iintro H
  iapply Hk
  have e2 : ((catL c ↦[catSeg c]{fullShare} (((Memref.whole cc0_scratch0).access (Rect.unit (s := S1024x512) o S64x512.size inb)).write (Elt F) (cat c) w Finset.univ)) : sProp 𝕄)
      = (catL c ↦[catSeg c]{fullShare} norm) := by
    refine pointsTo_congr fun i hi => ?_
    refine write_agrees ((View.whole cc0_scratch0).slice (Rect.unit (s := S1024x512) o S64x512.size inb)) (cat c) norm w (fun x => ?_) i
      (by rw [View.set_slice_whole, seg_set c o ho]; exact hi)
    obtain ⟨k, j, rfl⟩ : ∃ (k : Fin 64) (j : Fin 512), x = ix2 k j := ⟨x 0, x 1, eq_ix2 x⟩
    show w _ = norm ((Rect.unit (s := S1024x512) o S64x512.size inb).emb _)
    rw [hw]
    exact congrArg norm (catV_emb c o ho inb (fun _ => rfl) k j).symm
  rw [← e2]; iexact H

end Cert.KernelIdeal.Attn

end
-- ==== Proof.Spread.lean ====
/- The copies of the combined segment to the peers, the waits for theirs, the waits for the own copies, and the exit signals. -/
module

public import proofs.«01_k».proof.Proof.Recv

@[expose] public section

set_option maxRecDepth 8000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (cat : Dev nD → Vec F S1024x512 .bf16) (stat : Dev nD → Vec F S8x2x512 .f32) (norm : Vec F S1024x512 .bf16)

local notation "RR" => Rd cat stat norm

variable (κ : GSem nD τ sig → ℕ) (c : Dev nD)

local notation "CC" => Ctx cat stat norm κ c

variable {α : Type} {X A A' B B' R : SP F} {Q : α → SP F}

/-! ## The copies of the combined segment -/

/-- What the copy to peer `p` needs. -/
def dD (p : Dev nD) : sProp 𝕄 :=
  iprop(((catL p ↦[catSeg c]{fullShare} cat p) ∗ (catL c ↦[catSeg c]{lf p} norm))
    ∗ (dutyTok ER (kc 4 c p) 0 p ∗ dutyTok ER (kc 5 p c) 0 c) ∗ reached ER (kc 5 p c) 0)

/-- While the combined segment is copied: the copies to the peers before `n` are under way. -/
def DS (n : ℕ) : sProp 𝕄 :=
  iprop((bigSep (rem c n) fun p => dD cat norm c p) ∗ (bigSep (dn c n) fun p => cred (tallyAt (kc 4 c p) () Nd)) ∗ Ow c ∅ ∅ (rem c n) (others c))

theorem spread_one (p : Dev nD) (hp : p ≠ c)
    {o14 : Fin 1 → ℕ} (ho14 : o14 = ![p.val]) {o15 : Fin 1 → ℕ} (ho15 : o15 = ![c.val])
    {od : Fin 2 → ℕ} (hod : od = ![64 * c.val, 0]) {os : Fin 2 → ℕ} (hos : os = ![64 * c.val, 0])
    {dv : ℕ} (hdv : dv = p.val) {lt : dv < nD} {i14 i15 is ss id sd} {ws wd ty}
    {K : Prog (TpuEff nD τ sig (Elt F) Λ₀ .tc) α} :
    iprop(CC ∗ DS cat norm c p.val)
      ⊢ iprop((DS cat norm c (p.val + 1) -∗ wpc c K Q) -∗
        wpc c (Prog.lift (.enqueueDma (catV os is ss) (.remote (Dev.tc (⟨dv, lt⟩ : Dev nD)) (catV od id sd)
              (.dma ((cc0_scratch8.slice (Rect.unit (s := S16) o14 S1.size i14)).squeeze S_ squeezes_S1_S_).sem) rfl)
              (.dma ((cc0_scratch9.slice (Rect.unit (s := S16) o15 S1.size i15)).squeeze S_ squeezes_S1_S_).sem) ws wd ty) >>= fun _ => K) Q) := by
  subst hdv
  have hpc : c ≠ p := fun e => hp e.symm
  revert ty
  rw [dsem_eq 4 p 70 rfl _ o14 ho14, dsem_eq 5 c 86 rfl _ o15 ho15]
  intro ty
  unfold DS
  rw [rem_step c p hp, bs_insert (rem_notMem c p), dn_step c p hp, bs_insert (dn_notMem c p)]
  unfold dD Ow
  iintro ⟨#Hc, ⟨⟨⟨Hdst, Hsrc⟩, ⟨Ht4, Ht5⟩, Hr5⟩, Hrest⟩, Hcr, ⟨%W, HO⟩⟩ Hk
  iapply (Rounds.wp_send_pointsTo 𝒱₀ ER RR (c : Thread nD τ) none (c' := (p : Thread nD τ)) (src := catV os is ss) (dst := catV od id sd)
      (sS := .dma (dsem 4 p)) (sem := .dma (dsem 5 c)) (q := lf p) (fs := norm) (fd := cat p) (r₁ := 0) (r₂ := 0) (d₁ := p) (d₂ := c)
      (κ₁ := κ (kc 4 c p)) (κ₂ := κ (kc 5 p c))
      (by rw [duties_kc cat stat norm 4 c p hp]; exact Finset.mem_singleton_self _)
      (by rw [duties_kc cat stat norm 5 p c hpc]; exact Finset.mem_singleton_self _)
      () () Nd rfl (amount_kc4 cat stat norm c p p) (amount_kc5 cat stat norm p c c)
      (Owed c ∅ ∅ (rem c (p.val + 1)) (others c)) (Owed_d c p _ _ _ _ (rem_notMem c p))
      (by rw [payload_kc, dmaPay4, catV_set c os hos])
      (by rw [payload_kc, dmaPay5, catV_set c od hod]; exact Entails.of_eq (landD c p norm os hos is ss od hod id sd (cat p))))
    $$ [Hsrc Hdst HO Ht4 Ht5 Hr5]
  · isplitr; · iapply (ctx_kc cat stat norm κ c 4 c p); iexact Hc
    isplitr; · iapply (ctx_kc cat stat norm κ c 5 p c); iexact Hc
    isplitl [Hsrc]; · rw [catV_set c os hos]; iexact Hsrc
    isplitl [Hdst]; · rw [catV_set c od hod]; iexact Hdst
    isplitl [HO]; · iexact HO
    isplitl [Ht4]; · iexact Ht4
    isplitr; · iapply (ctx_reached cat stat norm κ c 4 p); iexact Hc
    isplitl [Ht5]; · iexact Ht5
    iexact Hr5
  iintro ⟨Hc4, HO⟩
  iapply Hk
  isplitl [Hrest]; · iexact Hrest
  isplitl [Hc4 Hcr]
  · isplitl [Hc4]; · iexact Hc4
    iexact Hcr
  iexists W; iexact HO

/-- The copy to peer `p`, when it is another device. -/
theorem spread_if (p : Dev nD) {cnd : BitVec 1} (hcnd : cnd = 1#1 ↔ c ≠ p)
    {o14 : Fin 1 → ℕ} (ho14 : o14 = ![p.val]) {o15 : Fin 1 → ℕ} (ho15 : o15 = ![c.val])
    {od : Fin 2 → ℕ} (hod : od = ![64 * c.val, 0]) {os : Fin 2 → ℕ} (hos : os = ![64 * c.val, 0])
    {dv : ℕ} (hdv : dv = p.val) {lt : cnd = 1#1 → dv < nD}
    {i14 : ∀ x, o14 x + S1.size x ≤ S16.size x} {i15 : cnd = 1#1 → ∀ x, o15 x + S1.size x ≤ S16.size x}
    {is : cnd = 1#1 → ∀ x, os x + S64x512.size x ≤ S1024x512.size x} {ss : ∀ h : cnd = 1#1, ∀ a, (Rect.unit (s := S1024x512) os S64x512.size (is h)).stride a = 1}
    {id : cnd = 1#1 → ∀ x, od x + S64x512.size x ≤ S1024x512.size x} {sd : ∀ h : cnd = 1#1, ∀ a, (Rect.unit (s := S1024x512) od S64x512.size (id h)).stride a = 1}
    {ws : ∀ h : cnd = 1#1, (catV os (is h) (ss h)).view.WordExact} {wd : ∀ h : cnd = 1#1, (catV od (id h) (sd h)).view.WordExact}
    {ty : ∀ h : cnd = 1#1, DmaTarget.Typed .vmem (.dma ((cc0_scratch9.slice (Rect.unit (s := S16) o15 S1.size (i15 h))).squeeze S_ squeezes_S1_S_).sem)
      (.remote (Dev.tc (⟨dv, lt h⟩ : Dev nD)) (catV od (id h) (sd h)) (.dma ((cc0_scratch8.slice (Rect.unit (s := S16) o14 S1.size i14)).squeeze S_ squeezes_S1_S_).sem) rfl)}
    {K : Prog (TpuEff nD τ sig (Elt F) Λ₀ .tc) α}
    (hk : G cat stat norm κ c X A (DS cat norm c (p.val + 1)) R ⊢ wpc c K Q) :
    G cat stat norm κ c X A (DS cat norm c p.val) R
      ⊢ wpc c (if h : cnd = 1#1 then
          (Prog.lift (.enqueueDma (catV os (is h) (ss h)) (.remote (Dev.tc (⟨dv, lt h⟩ : Dev nD)) (catV od (id h) (sd h))
              (.dma ((cc0_scratch8.slice (Rect.unit (s := S16) o14 S1.size i14)).squeeze S_ squeezes_S1_S_).sem) rfl)
              (.dma ((cc0_scratch9.slice (Rect.unit (s := S16) o15 S1.size (i15 h))).squeeze S_ squeezes_S1_S_).sem) (ws h) (wd h) (ty h)) >>= fun _ => K)
        else K) Q := by
  by_cases hcp : c = p
  · subst hcp
    rw [dif_neg (fun h => hcnd.mp h rfl)]
    have e : DS cat norm c c.val = DS cat norm c (c.val + 1) := by
      unfold DS; rw [rem_self, dn_self]
    rw [e]; exact hk
  · rw [dif_pos (hcnd.mpr hcp)]
    exact onB cat stat norm κ c (spread_one cat stat norm κ c p (fun e => hcp e.symm) ho14 ho15 hod hos hdv) hk

/-! ## The waits for the peers' combined segments -/

/-- The own share of the own segment, until the loads have come to it. -/
def ownLeaf (n : ℕ) : sProp 𝕄 := if c.val < n then iprop(emp) else iprop(catL c ↦[catSeg c]{lf c} norm)

/-- While the combined segments come in: those of the devices before `n` are there. -/
def DW (n : ℕ) : sProp 𝕄 :=
  iprop((bigSep (rem c n) fun s => iprop(cred (tallyAt (kc 5 c s) () Nd) ∗ atPos ER (kc 5 c s) 0 ∅ 0))
    ∗ (bigSep (dn c n) fun s => iprop(atPos ER (kc 5 c s) 1 ∅ 0 ∗ bigSep (others c) fun p => iprop(catL c ↦[catSeg s]{lf p} norm)))
    ∗ Ow c ∅ ∅ ∅ (others c) ∗ (catL c ↦[rows 0 (64 * n)]{lf c} norm) ∗ ownLeaf norm c n)

theorem rows_zero : rows 0 (64 * 0) = ∅ := by
  ext i; simp [rows]
theorem rows_step (s : Dev nD) : rows 0 (64 * (s.val + 1)) = rows 0 (64 * s.val) ∪ catSeg s := by
  ext i; simp only [rows, catSeg, Finset.mem_filter, Finset.mem_univ, true_and, Finset.mem_union]; omega
theorem rows_disj (s : Dev nD) : Disjoint (rows 0 (64 * s.val)) (catSeg s) := by
  rw [Finset.disjoint_left]; intro i hi hj
  simp only [rows, catSeg, Finset.mem_filter, Finset.mem_univ, true_and] at hi hj; omega

theorem rows_join (s : Dev nD) :
    iprop((catL c ↦[rows 0 (64 * s.val)]{lf c} norm) ∗ (catL c ↦[catSeg s]{lf c} norm)) ⊢ ((catL c ↦[rows 0 (64 * (s.val + 1))]{lf c} norm) : sProp 𝕄) := by
  rw [rows_step]; exact (pointsTo_union (rows_disj s)).2

/-- The full share of a part of a device's buffer is sixteen shares, one for each device. -/
theorem leaves_any (d : Dev nD) (I : Finset (Idx (catL d))) (f : Buf (Elt F) (catL d)) :
    ((catL d ↦[I]{fullShare} f) : sProp 𝕄) = bigSep (Finset.univ : Finset (Dev nD)) fun p => iprop(catL d ↦[I]{lf p} f) :=
  ShareLeaves.pointsTo_leaves I f 4 fullShare

/-- A segment at the full share: the own share beside the others'. -/
theorem leaves_eq (s : Dev nD) :
    ((catL c ↦[catSeg s]{fullShare} norm) : sProp 𝕄) = iprop((catL c ↦[catSeg s]{lf c} norm) ∗ bigSep (others c) fun p => iprop(catL c ↦[catSeg s]{lf p} norm)) := by
  rw [leaves_any, bs_erase (Finset.mem_univ c)]

theorem got_one (s : Dev nD) (hs : s ≠ c) {o15 : Fin 1 → ℕ} (ho15 : o15 = ![s.val]) {i15}
    {src dst : Memref sig .tc .vmem S64x512 .bf16} (hcr : dst.view.dmaCredit = Nd)
    {a b} {K : Prog (TpuEff nD τ sig (Elt F) Λ₀ .tc) α} :
    iprop(CC ∗ DW norm c s.val)
      ⊢ iprop((DW norm c (s.val + 1) -∗ wpc c K Q)
        -∗ wpc c (Prog.lift (.waitDma2 ((cc0_scratch9.slice (Rect.unit (s := S16) o15 S1.size i15)).squeeze S_ squeezes_S1_S_).sem src dst a b) >>= fun _ => K) Q) := by
  have eown : ownLeaf (F := F) norm c (s.val + 1) = ownLeaf norm c s.val := by
    unfold ownLeaf
    have : c.val < s.val + 1 ↔ c.val < s.val := ⟨fun h => Nat.lt_of_le_of_ne (Nat.lt_succ_iff.mp h) (fun e => hs (Fin.ext e.symm)), fun h => by omega⟩
    simp only [this]
  unfold DW
  rw [eown, rem_step c s hs, bs_insert (rem_notMem c s), dn_step c s hs, bs_insert (dn_notMem c s)]
  iintro ⟨#Hc, ⟨⟨Hc5, Ha5⟩, Hrest⟩, Hdone, HO, Hrows, Hown⟩ Hk
  iapply (wait_kc cat stat norm κ c 5 s hs Nd (amount_kc5 cat stat norm c s s) ∅ ∅ ∅ (others c)
    (ctx_may cat stat norm κ c _ ∅ ∅ ∅ (others c) 3 (by rw [lv_kc]; decide) (.inl rfl) (.inl rfl) (.inl rfl) (.inr (by omega)))
    (dsem_eq 5 s 86 rfl _ o15 ho15 _ _) hcr) $$ [Hc5 Ha5 HO]
  · isplitr; · iexact Hc
    isplitl [Hc5]; · iexact Hc5
    isplitl [Ha5]; · iexact Ha5
    iexact HO
  rw [dmaPay5, leaves_eq]
  iintro ⟨Ha5, ⟨Hl, Hls⟩, HO⟩
  iapply Hk
  isplitl [Hrest]; · iexact Hrest
  isplitl [Ha5 Hls Hdone]
  · isplitl [Ha5 Hls]
    · isplitl [Ha5]; · iexact Ha5
      iexact Hls
    iexact Hdone
  isplitl [HO]; · iexact HO
  isplitl [Hrows Hl]
  · iapply (rows_join norm c s)
    isplitl [Hrows]; · iexact Hrows
    iexact Hl
  iexact Hown

/-- The wait for the segment of device `s`, when it is another device. -/
theorem got_if (s : Dev nD) {cnd : BitVec 1} (hcnd : cnd = 1#1 ↔ c ≠ s) {o15 : Fin 1 → ℕ} (ho15 : o15 = ![s.val]) {i15}
    {src dst : Memref sig .tc .vmem S64x512 .bf16} (hcr : dst.view.dmaCredit = Nd)
    {a b} {K : Prog (TpuEff nD τ sig (Elt F) Λ₀ .tc) α}
    (hk : G cat stat norm κ c X A (DW norm c (s.val + 1)) R ⊢ wpc c K Q) :
    G cat stat norm κ c X A (DW norm c s.val) R
      ⊢ wpc c (if h : cnd = 1#1 then
          (Prog.lift (.waitDma2 ((cc0_scratch9.slice (Rect.unit (s := S16) o15 S1.size i15)).squeeze S_ squeezes_S1_S_).sem src dst a b) >>= fun _ => K)
        else K) Q := by
  by_cases hcs : c = s
  · subst hcs
    rw [dif_neg (fun h => hcnd.mp h rfl)]
    refine .trans ?_ hk
    unfold DW ownLeaf
    rw [← rem_self, dn_self, if_neg (Nat.lt_irrefl _), if_pos (Nat.lt_succ_self _)]
    iintro ⟨Hc, HX, HA, ⟨H1, H2, H3, H4, H5⟩, HR⟩
    isplitl [Hc]; · iexact Hc
    isplitl [HX]; · iexact HX
    isplitl [HA]; · iexact HA
    isplitl [H1 H2 H3 H4 H5]
    · isplitl [H1]; · iexact H1
      isplitl [H2]; · iexact H2
      isplitl [H3]; · iexact H3
      isplitl [H4 H5]
      · iapply (rows_join norm c c)
        isplitl [H4]; · iexact H4
        iexact H5
      iempintro
    iexact HR
  · rw [dif_pos (hcnd.mpr hcs)]
    exact onB cat stat norm κ c (got_one cat stat norm κ c s (fun e => hcs e.symm) ho15 hcr) hk

/-- Four segments of the combined output. -/
def normGrp (g : Fin 4) : Vec F S256x512 .bf16 := fun j => norm (ix2 ⟨256 * g.val + (j 0).val, by
  have h : (j 0).val < 256 := (j 0).isLt; omega⟩ (j 1))

/-- A load of four segments that are all there. -/
theorem grp_load (g : Fin 4) (n : ℕ) (hn : 4 * (g.val + 1) ≤ n) {o : Fin 2 → ℕ} (ho : o = ![256 * g.val, 0])
    {inb : ∀ x, o x + S256x512.size x ≤ S1024x512.size x} {hl} {K : Vec F S256x512 .bf16 → Prog (TpuEff nD τ sig (Elt F) Λ₀ .tc) α}
    (hk : G cat stat norm κ c X A (DW norm c n) R ⊢ wpc c (K (normGrp norm g)) Q) :
    G cat stat norm κ c X A (DW norm c n) R
      ⊢ wpc c (Prog.lift (.load (Memref.whole cc0_scratch0 : Memref sig .tc .vmem S1024x512 .bf16) (Rect.unit (s := S1024x512) o S256x512.size inb).toLoadRect hl) >>= K) Q := by
  refine onB cat stat norm κ c ?_ hk
  unfold DW
  iintro ⟨-, H1, H2, H3, H4, H5⟩ Hk
  have hset : ((Memref.whole cc0_scratch0 : Memref sig .tc .vmem S1024x512 .bf16).access (Rect.unit (s := S1024x512) o S256x512.size inb)).set ⊆ rows 0 (64 * n) := by
    intro i hi
    have hi' : i ∈ rows (256 * g.val) (256 * g.val + 256) := by
      rw [← rows2_set (256 * g.val) 256 o ho inb]
      exact (View.set_slice_whole (sig := sig) (κ := .tc) cc0_scratch0 (Rect.unit (s := S1024x512) o S256x512.size inb)) ▸ hi
    simp only [rows, Finset.mem_filter, Finset.mem_univ, true_and] at hi' ⊢
    omega
  iapply (wp_load_rect 𝒱₀ (c : Thread nD τ) none Set.univ hset) $$ [H4]
  · iexact H4
  iintro H4
  have e : ((Memref.whole cc0_scratch0 : Memref sig .tc .vmem S1024x512 .bf16).access (Rect.unit (s := S1024x512) o S256x512.size inb)).read (Elt F) norm = normGrp norm g := by
    funext j
    obtain ⟨y, x, rfl⟩ : ∃ (y : Fin 256) (x : Fin 512), j = ix2 y x := ⟨j 0, j 1, eq_ix2 j⟩
    show norm ((Rect.unit (s := S1024x512) o S256x512.size inb).emb _) = norm (ix2 ⟨256 * g.val + y.val, _⟩ x)
    congr 1
    exact (emb2 (n0 := 1024) (n1 := 512) o ho inb y x (by omega) (by omega)).trans
      (by funext a; match a with
          | ⟨0, _⟩ => rfl
          | ⟨1, _⟩ => exact Fin.ext (Nat.zero_add _))
  rw [e]
  iapply Hk
  isplitl [H1]; · iexact H1
  isplitl [H2]; · iexact H2
  isplitl [H3]; · iexact H3
  isplitl [H4]; · iexact H4
  iexact H5

/-! ## The waits for the own copies -/

def swTok (p : Dev nD) : sProp 𝕄 :=
  iprop((cred (tallyAt (kc 0 c p) () Na) ∗ cred (tallyAt (kc 2 c p) () Nb) ∗ cred (tallyAt (kc 4 c p) () Nd))
    ∗ atPos ER (kc 0 c p) 0 ∅ 0 ∗ atPos ER (kc 2 c p) 0 ∅ 0 ∗ atPos ER (kc 4 c p) 0 ∅ 0)
def swGot (p : Dev nD) : sProp 𝕄 :=
  iprop((atPos ER (kc 0 c p) 1 ∅ 0 ∗ atPos ER (kc 2 c p) 1 ∅ 0 ∗ atPos ER (kc 4 c p) 1 ∅ 0)
    ∗ (statL c ↦[statRow (p.val / 2)]{hf p} stat c) ∗ (catL c ↦[catSeg c]{lf p} norm))

/-- While the own copies are waited for: those to the peers before `n` are done. -/
def SW (n : ℕ) : sProp 𝕄 :=
  iprop((bigSep (rem c n) fun p => swTok c p) ∗ (bigSep (dn c n) fun p => swGot stat norm c p) ∗ Ow c ∅ ∅ ∅ (others c))

theorem sent_one (p : Dev nD) (hp : p ≠ c) {o10 : Fin 1 → ℕ} (ho10 : o10 = ![p.val]) {o12 : Fin 1 → ℕ} (ho12 : o12 = ![p.val])
    {o14 : Fin 1 → ℕ} (ho14 : o14 = ![p.val]) {i10 i12 i14}
    {src1 dst1 : Memref sig .tc .vmem S2x512 .f32} (hc1 : dst1.view.dmaCredit = Na) {src2 dst2 : Memref sig .tc .vmem S64x512 .bf16} (hc2 : dst2.view.dmaCredit = Nb)
    {src3 dst3 : Memref sig .tc .vmem S64x512 .bf16} (hc3 : dst3.view.dmaCredit = Nd) {a1 b1 a2 b2 a3 b3} {K : Prog (TpuEff nD τ sig (Elt F) Λ₀ .tc) α} :
    iprop(CC ∗ SW stat norm c p.val)
      ⊢ iprop((SW stat norm c (p.val + 1) -∗ wpc c K Q)
        -∗ wpc c (Prog.lift (.waitDma2 ((cc0_scratch4.slice (Rect.unit (s := S16) o10 S1.size i10)).squeeze S_ squeezes_S1_S_).sem src1 dst1 a1 b1) >>= fun _ =>
            Prog.lift (.waitDma2 ((cc0_scratch6.slice (Rect.unit (s := S16) o12 S1.size i12)).squeeze S_ squeezes_S1_S_).sem src2 dst2 a2 b2) >>= fun _ =>
            Prog.lift (.waitDma2 ((cc0_scratch8.slice (Rect.unit (s := S16) o14 S1.size i14)).squeeze S_ squeezes_S1_S_).sem src3 dst3 a3 b3) >>= fun _ => K) Q) := by
  unfold SW
  rw [rem_step c p hp, bs_insert (rem_notMem c p), dn_step c p hp, bs_insert (dn_notMem c p)]
  unfold swTok swGot
  iintro ⟨#Hc, ⟨⟨⟨Hc0, Hc2, Hc4⟩, Ha0, Ha2, Ha4⟩, Hrest⟩, Hdone, HO⟩ Hk
  iapply (wait_kc cat stat norm κ c 0 p hp Na (amount_kc0 cat stat norm c p p) ∅ ∅ ∅ (others c)
    (ctx_may cat stat norm κ c _ ∅ ∅ ∅ (others c) 3 (by rw [lv_kc]; decide) (.inl rfl) (.inl rfl) (.inl rfl) (.inr (by omega)))
    (dsem_eq 0 p 6 rfl _ o10 ho10 _ _) hc1) $$ [Hc0 Ha0 HO]
  · isplitr; · iexact Hc
    isplitl [Hc0]; · iexact Hc0
    isplitl [Ha0]; · iexact Ha0
    iexact HO
  rw [dmaPay0]
  iintro ⟨Ha0, Hp0, HO⟩
  iapply (wait_kc cat stat norm κ c 2 p hp Nb (amount_kc2 cat stat norm c p p) ∅ ∅ ∅ (others c)
    (ctx_may cat stat norm κ c _ ∅ ∅ ∅ (others c) 3 (by rw [lv_kc]; decide) (.inl rfl) (.inl rfl) (.inl rfl) (.inr (by omega)))
    (dsem_eq 2 p 38 rfl _ o12 ho12 _ _) hc2) $$ [Hc2 Ha2 HO]
  · isplitr; · iexact Hc
    isplitl [Hc2]; · iexact Hc2
    isplitl [Ha2]; · iexact Ha2
    iexact HO
  iintro ⟨Ha2, -, HO⟩
  iapply (wait_kc cat stat norm κ c 4 p hp Nd (amount_kc4 cat stat norm c p p) ∅ ∅ ∅ (others c)
    (ctx_may cat stat norm κ c _ ∅ ∅ ∅ (others c) 3 (by rw [lv_kc]; decide) (.inl rfl) (.inl rfl) (.inl rfl) (.inr (by omega)))
    (dsem_eq 4 p 70 rfl _ o14 ho14 _ _) hc3) $$ [Hc4 Ha4 HO]
  · isplitr; · iexact Hc
    isplitl [Hc4]; · iexact Hc4
    isplitl [Ha4]; · iexact Ha4
    iexact HO
  rw [dmaPay4]
  iintro ⟨Ha4, Hp4, HO⟩
  iapply Hk
  isplitl [Hrest]; · iexact Hrest
  isplitl [Ha0 Ha2 Ha4 Hp0 Hp4 Hdone]
  · isplitl [Ha0 Ha2 Ha4 Hp0 Hp4]
    · isplitl [Ha0 Ha2 Ha4]
      · isplitl [Ha0]; · iexact Ha0
        isplitl [Ha2]; · iexact Ha2
        iexact Ha4
      isplitl [Hp0]; · iexact Hp0
      iexact Hp4
    iexact Hdone
  iexact HO

/-- The three waits for the copies to peer `p`, when it is another device. -/
theorem sent_if (p : Dev nD) {cnd : BitVec 1} (hcnd : cnd = 1#1 ↔ c ≠ p) {o10 : Fin 1 → ℕ} (ho10 : o10 = ![p.val]) {o12 : Fin 1 → ℕ} (ho12 : o12 = ![p.val])
    {o14 : Fin 1 → ℕ} (ho14 : o14 = ![p.val]) {i10 i12 i14}
    {src1 dst1 : Memref sig .tc .vmem S2x512 .f32} (hc1 : dst1.view.dmaCredit = Na) {src2 dst2 : Memref sig .tc .vmem S64x512 .bf16} (hc2 : dst2.view.dmaCredit = Nb)
    {src3 dst3 : Memref sig .tc .vmem S64x512 .bf16} (hc3 : dst3.view.dmaCredit = Nd) {a1 b1 a2 b2 a3 b3} {K : Prog (TpuEff nD τ sig (Elt F) Λ₀ .tc) α}
    (hk : G cat stat norm κ c X A (SW stat norm c (p.val + 1)) R ⊢ wpc c K Q) :
    G cat stat norm κ c X A (SW stat norm c p.val) R
      ⊢ wpc c (if h : cnd = 1#1 then
          (Prog.lift (.waitDma2 ((cc0_scratch4.slice (Rect.unit (s := S16) o10 S1.size i10)).squeeze S_ squeezes_S1_S_).sem src1 dst1 a1 b1) >>= fun _ =>
            Prog.lift (.waitDma2 ((cc0_scratch6.slice (Rect.unit (s := S16) o12 S1.size i12)).squeeze S_ squeezes_S1_S_).sem src2 dst2 a2 b2) >>= fun _ =>
            Prog.lift (.waitDma2 ((cc0_scratch8.slice (Rect.unit (s := S16) o14 S1.size i14)).squeeze S_ squeezes_S1_S_).sem src3 dst3 a3 b3) >>= fun _ => K)
        else K) Q := by
  by_cases hcp : c = p
  · subst hcp
    rw [dif_neg (fun h => hcnd.mp h rfl)]
    have e : SW stat norm c c.val = SW (F := F) stat norm c (c.val + 1) := by
      unfold SW; rw [rem_self, dn_self]
    rw [e]; exact hk
  · rw [dif_pos (hcnd.mpr hcp)]
    exact onB cat stat norm κ c (sent_one cat stat norm κ c p (fun e => hcp e.symm) ho10 ho12 ho14 hc1 hc2 hc3) hk

/-! ## The exit -/

theorem regSem_slice (base : ℕ) (hb : base + S15.numel ≤ sig.nSem) (o : Fin 1 → ℕ) (i : ℕ) (ho : o = ![i]) (hi : i < 15)
    (inb : ∀ x, o x + S1.size x ≤ S15.size x) (hs : S1.Squeezes S_) :
    (((SemArray.consecutive base S15 hb).slice (Rect.unit (s := S15) o S1.size inb)).squeeze S_ hs).sem
      = ⟨base + i, by have h15 : S15.numel = 15 := by decide
                      omega⟩ := by
  subst ho
  apply Fin.ext
  show base + (S15.rowMajor ((Rect.unit (s := S15) ![i] S1.size inb).emb (Shape.reshapeEquiv hs.numel_eq fun a => a.elim0))).val = base + i
  congr 1
  rw [Shape.rowMajor_val_one]
  rw [ValueKit.rect_emb_unit_val]
  exact Nat.add_eq_left.mpr (Nat.lt_one_iff.mp (show _ < 1 from Fin.isLt _))

/-- The `i`-th exit semaphore is the one a device `i + 1` places after pays. -/
theorem exSem_slice (d : Dev nD) (i : ℕ) (hd : d.val = i + 1) {o : Fin 1 → ℕ} (ho : o = ![i]) {inb : ∀ x, o x + S1.size x ≤ S15.size x} :
    ((cc0_scratch10.slice (Rect.unit (s := S15) o S1.size inb)).squeeze S_ squeezes_S1_S_).sem = exSem d := by
  have hd' : d.val < 16 := d.isLt
  refine (regSem_slice 0 _ o i ho (by omega) inb _).trans (Fin.ext ?_)
  show 0 + i = d.val - 1
  omega

/-- While the exit signals go out: `k` are sent. -/
def ES (k : ℕ) : sProp 𝕄 :=
  iprop((bigSep (remR c k) fun p => iprop(dutyTok ER (exC p c) 0 c ∗ reached ER (exC p c) 0)) ∗ Ow c ∅ ∅ ∅ (remR c k))

/-- The exit signal to the peer at distance `k + 1`. -/
theorem exit_signal (p : Dev nD) (k i : ℕ) (hp : (p - c).val = k + 1) (hi : (c - p).val = i + 1) {dv : ℕ} {hlt : dv < nD} (hdv : dv = p.val)
    {o : Fin 1 → ℕ} (ho : o = ![i]) {inb : ∀ x, o x + S1.size x ≤ S15.size x} {K : PUnit → Prog (TpuEff nD τ sig (Elt F) Λ₀ .tc) α}
    (hk : G cat stat norm κ c X A (ES c (k + 1)) R ⊢ wpc c (K ⟨⟩) Q) :
    G cat stat norm κ c X A (ES c k) R
      ⊢ wpc c (semSignalWord (⟨dv, hlt⟩ : Dev nD) ((cc0_scratch10.slice (Rect.unit (s := S15) o S1.size inb)).squeeze S_ squeezes_S1_S_).sem 1#32 >>= K) Q := by
  refine onB cat stat norm κ c ?_ hk
  subst hdv
  rw [exSem_slice (c - p) i hi ho]
  have hne := ne_of_dist c p k hp
  unfold ES
  rw [remR_step c p k hp, bs_insert (remR_notMem c p k hp)]
  unfold Ow
  iintro ⟨#Hc, ⟨⟨Htok, Hre⟩, Hrest⟩, ⟨%W, HO⟩⟩ Hk
  iapply (Rounds.wp_signal 𝒱₀ ER RR (c : Thread nD τ) none (dst := (p : Thread nD τ)) (sem := exSem (c - p)) (r := 0) (d := c) (κ := κ (exC p c))
      (by rw [duties_ex cat stat norm p c hne.symm]; exact Finset.mem_singleton_self _) (amount_reg cat stat norm p (exSem (c - p)) c) ()
      (Owed c ∅ ∅ ∅ (remR c (k + 1))) (Owed_e c p _ _ _ _ (remR_notMem c p k hp)))
    $$ [HO Htok Hre]
  · isplitr; · iapply (ctx_ex cat stat norm κ c p c); iexact Hc
    isplitl [HO]; · iexact HO
    isplitl [Htok]; · iexact Htok
    isplitr; · rw [payload_ex]; iempintro
    iexact Hre
  iintro HO
  iapply Hk
  isplitl [Hrest]; · iexact Hrest
  iexists W; iexact HO

/-- While the exit signals come in: `k` have. -/
def EW (k : ℕ) : sProp 𝕄 :=
  iprop((bigSep (remR c k) fun p => iprop(cred (tallyAt (exC c p) () 1) ∗ atPos ER (exC c p) 0 ∅ 0))
    ∗ (bigSep (dnR c k) fun p => iprop(atPos ER (exC c p) 1 ∅ 0)) ∗ Ow c ∅ ∅ ∅ ∅)

/-- The wait for the exit signal of the device at distance `k + 1`. -/
theorem exit_wait (p : Dev nD) (k : ℕ) (hp : (p - c).val = k + 1)
    {o : Fin 1 → ℕ} (ho : o = ![k]) {inb : ∀ x, o x + S1.size x ≤ S15.size x} {K : PUnit → Prog (TpuEff nD τ sig (Elt F) Λ₀ .tc) α}
    (hk : G cat stat norm κ c X A (EW c (k + 1)) R ⊢ wpc c (K ⟨⟩) Q) :
    G cat stat norm κ c X A (EW c k) R
      ⊢ wpc c (semWaitWord ((cc0_scratch10.slice (Rect.unit (s := S15) o S1.size inb)).squeeze S_ squeezes_S1_S_).sem 1#32 >>= K) Q := by
  refine onB cat stat norm κ c ?_ hk
  rw [exSem_slice (p - c) k hp ho]
  have hne := ne_of_dist c p k hp
  unfold EW
  rw [remR_step c p k hp, bs_insert (remR_notMem c p k hp), dnR_step c p k hp, bs_insert (dnR_notMem c p k hp)]
  unfold Ow
  iintro ⟨#Hc, ⟨⟨Hcr, Hat⟩, Hrest⟩, Hdone, ⟨%W, HO⟩⟩ Hk
  iapply (Rounds.wp_wait_rest_token 𝒱₀ ER RR (c : Thread nD τ) none (κ := κ (exC c p)) (sm := .reg (exSem (p - c))) (k' := 1)
      (wpE_semWait_eq 𝒱₀ (c : Thread nD τ) none Set.univ) (Set.mem_univ _) () (O := Owed c ∅ ∅ ∅ ∅) (W := W)
      (R := 0) (m := 0) (T := ∅) ((Nat.zero_add _).trans (expect_ex cat stat norm c p hne).symm)) $$ [HO Hcr Hat]
  · isplitr; · iapply (ctx_ex cat stat norm κ c c p); iexact Hc
    isplitl [Hcr]; · iexact Hcr
    isplitl [HO]; · iexact HO
    isplitr
    · iapply (ctx_may cat stat norm κ c (.reg (exSem (p - c))) ∅ ∅ ∅ ∅ 4 (le_of_eq (lv_ex c p)) (.inl rfl) (.inl rfl) (.inl rfl) (.inl rfl))
      iexact Hc
    iexact Hat
  iintro ⟨HO, Hat, -, -⟩
  iapply Hk
  isplitl [Hrest]; · iexact Hrest
  isplitl [Hat Hdone]
  · isplitl [Hat]; · iexact Hat
    iexact Hdone
  iexists _; iexact HO

end Cert.KernelIdeal.Attn

end
-- ==== Proof.Heads.lean ====
/- The operand blocks a device reads, its partial results per head, and the steps that store them. -/
module

public import proofs.«01_k».proof.Proof.Spread
public import proofs.«01_k».proof.Proof.Gen.KernelIdeal.Skeleton

@[expose] public section

set_option maxRecDepth 8000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

/-! ## What a device computes of its own operands -/

/-- The five operands of each device, as the kernel sees them. -/
structure Ins (F : FTy → Type) where
  x : Dev nD → Vec F S512x1024 .bf16
  wq : Dev nD → Vec F S1024x1024 .bf16
  wo : Dev nD → Vec F S1024x1024 .bf16
  k : Dev nD → Vec F S2048x1024 .bf16
  v : Dev nD → Vec F S2048x1024 .bf16

variable (I : Ins F) (c : Dev nD)

/-- The scaled queries of device `c`. -/
def qF : FVec F S512x1024 .bf16 := k0_pay1 (I.x c) (I.wq c)

/-- The columns of head `h` of an array of 2048 rows. -/
def kHead (f : Vec F S2048x1024 .bf16) (h : Fin 8) : Vec F S2048x128 .bf16 :=
  fun j => f (ix2 (j 0) ⟨128 * h.val + (j 1).val, by have h1 : (j 1).val < 128 := (j 1).isLt; omega⟩)

theorem qslices (h : Fin 8) : Shape.Slices S512x1024 ![0, 128 * h.val] S512x128 := by revert h; decide

/-- The queries of head `h`. -/
def qHead (q : FVec F S512x1024 .bf16) (h : Fin 8) : FVec F S512x128 .bf16 :=
  extractStridedSlice S512x128 ![0, 128 * h.val] q (qslices h)

/-- The statistics of device `c` for head `h`: row 0 the maxima, row 1 the sums. -/
def statH (h : Fin 8) : FVec F S2x512 .f32 := k0_pay13 (qHead (qF I c) h) (k0_pay3 (kHead (I.k c) h))
/-- The unnormalised output of device `c` for head `h`. -/
def outH (h : Fin 8) : FVec F S128x512 .f32 := k0_pay9 (qHead (qF I c) h) (k0_pay3 (kHead (I.k c) h)) (k0_pay4 (kHead (I.v c) h))

/-- The statistics of device `c`, head by head. -/
def statF (c : Dev nD) : Vec F S8x2x512 .f32 := fun i => statH I c (i 0) (ix2 (i 1) (i 2))
/-- The unnormalised outputs of device `c`, head by head. -/
def catF (c : Dev nD) : Vec F S1024x512 .bf16 := fun i =>
  truncf .bf16 (outH I c ⟨(i 0).val / 128, by have h : (i 0).val < 1024 := (i 0).isLt; omega⟩) bitsLt_bf16_f32
    (ix2 ⟨(i 0).val % 128, Nat.mod_lt _ (by decide)⟩ (i 1))

/-! ## The stored rows, entry by entry -/

theorem cast_1x64 {α : Type} (v : S64x512.Idx → α) (h1 : S64x512.ShapeCasts S1x64x512) (h2 : S1x64x512.ShapeCasts S1x64x512) (k : Fin 64) (j : Fin 512) :
    shapeCast S1x64x512 (shapeCast S1x64x512 v h1) h2 (ix3 ⟨0, Nat.one_pos⟩ k j) = v (ix2 k j) := by
  rw [shapeCast_self]
  exact shapeCast_ab_1ab_apply v h1 _ k j

theorem cast_1x2 {α : Type} (v : S2x512.Idx → α) (h1 : S2x512.ShapeCasts S1x2x512) (h2 : S1x2x512.ShapeCasts S1x2x512) (k : Fin 2) (j : Fin 512) :
    shapeCast S1x2x512 (shapeCast S1x2x512 v h1) h2 (ix3 ⟨0, Nat.one_pos⟩ k j) = v (ix2 k j) := by
  rw [shapeCast_self]
  exact shapeCast_ab_1ab_apply v h1 _ k j

theorem pair_m {α : Type} (a b : S1x512.Idx → α) (hc : S1x512.ShapeCasts S1x1x512) (h : Shape.Concatenates [S1x512, S1x512] S2x512 0) (x : Fin 512) :
    shapeCast S1x1x512 a hc (ix3 ⟨0, Nat.one_pos⟩ ⟨0, Nat.one_pos⟩ x) = concatenate S2x512 0 [⟨S1x512, a⟩, ⟨S1x512, b⟩] h (ix2 (0 : Fin 2) x) := by
  refine (shapeCast_ab_1ab_apply a hc _ _ x).trans (concatenate_pair_apply_left (t := S2x512) 0 a b h (ix2 (0 : Fin 2) x) rfl (ix2 ⟨0, Nat.one_pos⟩ x) fun b => ?_).symm
  match b with
  | ⟨0, _⟩ => rfl
  | ⟨1, _⟩ => rfl

theorem pair_l {α : Type} (a b : S1x512.Idx → α) (hc : S1x512.ShapeCasts S1x1x512) (h : Shape.Concatenates [S1x512, S1x512] S2x512 0) (x : Fin 512) :
    shapeCast S1x1x512 b hc (ix3 ⟨0, Nat.one_pos⟩ ⟨0, Nat.one_pos⟩ x) = concatenate S2x512 0 [⟨S1x512, a⟩, ⟨S1x512, b⟩] h (ix2 (1 : Fin 2) x) := by
  refine (shapeCast_ab_1ab_apply b hc _ _ x).trans (concatenate_pair_apply_right (t := S2x512) 0 a b h (ix2 (1 : Fin 2) x) rfl rfl (ix2 ⟨0, Nat.one_pos⟩ x) (fun b hb => ?_) rfl).symm
  match b with
  | ⟨0, _⟩ => exact absurd rfl hb
  | ⟨1, _⟩ => rfl

theorem pay10_apply (q : FVec F S512x128 .bf16) (k v : FVec F S2048x128 .bf16) (i) : k0_pay10 q k v i = truncf .bf16 (k0_pay9 q k v) bitsLt_bf16_f32 i := by
  unfold k0_pay10; rw [shapeCast_self]
theorem pay11_apply (q : FVec F S512x128 .bf16) (k : FVec F S2048x128 .bf16) (x : Fin 512) :
    k0_pay11 q k (ix3 ⟨0, Nat.one_pos⟩ ⟨0, Nat.one_pos⟩ x) = k0_pay13 q k (ix2 (0 : Fin 2) x) := by
  unfold k0_pay11 k0_pay13; exact pair_m _ _ _ _ x
theorem pay12_apply (q : FVec F S512x128 .bf16) (k : FVec F S2048x128 .bf16) (x : Fin 512) :
    k0_pay12 q k (ix3 ⟨0, Nat.one_pos⟩ ⟨0, Nat.one_pos⟩ x) = k0_pay13 q k (ix2 (1 : Fin 2) x) := by
  unfold k0_pay12 k0_pay13; exact pair_l _ _ _ _ x

theorem catF_apply (h : Fin 8) (y : Fin 128) (x : Fin 512) (hlt : 128 * h.val + y.val < 1024) :
    catF I c (ix2 ⟨128 * h.val + y.val, hlt⟩ x) = truncf .bf16 (outH I c h) bitsLt_bf16_f32 (ix2 y x) := by
  have e1 : (⟨(128 * h.val + y.val) / 128, by omega⟩ : Fin 8) = h := Fin.ext (by show (128 * h.val + y.val) / 128 = h.val; omega)
  have e2 : (⟨(128 * h.val + y.val) % 128, Nat.mod_lt _ (by decide)⟩ : Fin 128) = y := Fin.ext (by show (128 * h.val + y.val) % 128 = y.val; omega)
  show truncf .bf16 (outH I c ⟨(128 * h.val + y.val) / 128, _⟩) bitsLt_bf16_f32 (ix2 ⟨(128 * h.val + y.val) % 128, _⟩ x) = _
  rw [e1, e2]

/-- The rows of head `h` as they are stored. -/
theorem cat_row (h : Fin 8) (y : Fin 128) (x : Fin 512) :
    k0_pay10 (qHead (qF I c) h) (k0_pay3 (kHead (I.k c) h)) (k0_pay4 (kHead (I.v c) h)) (ix2 y x) = catF I c (ix2 ⟨128 * h.val + y.val, by omega⟩ x) := by
  rw [catF_apply, pay10_apply]; rfl

/-- Row 0 of the statistics. -/
theorem stat_m (h : Fin 8) (x : Fin 512) :
    k0_pay11 (qHead (qF I c) h) (k0_pay3 (kHead (I.k c) h)) (ix3 ⟨0, Nat.one_pos⟩ ⟨0, Nat.one_pos⟩ x) = statF I c (ix3 h (0 : Fin 2) x) :=
  pay11_apply _ _ x

/-- Row 1 of the statistics. -/
theorem stat_l (h : Fin 8) (x : Fin 512) :
    k0_pay12 (qHead (qF I c) h) (k0_pay3 (kHead (I.k c) h)) (ix3 ⟨0, Nat.one_pos⟩ ⟨0, Nat.one_pos⟩ x) = statF I c (ix3 h (1 : Fin 2) x) :=
  pay12_apply _ _ x

/-- Half `a` of head `h`, in the shape in which a device keeps its own. -/
def halfOf (w : FVec F S128x512 .f32) (a : ℕ) (ha : Shape.Slices S128x512 ![a, 0] S64x512) : Vec F S1x64x512 .bf16 :=
  shapeCast S1x64x512 (shapeCast S1x64x512 (truncf .bf16 (extractStridedSlice S64x512 ![a, 0] w ha) bitsLt_bf16_f32)
      shapeCasts_S64x512_S1x64x512) shapeCasts_S1x64x512_S1x64x512

theorem halfOf_apply (w : FVec F S128x512 .f32) (a : ℕ) (ha : Shape.Slices S128x512 ![a, 0] S64x512) (k : Fin 64) (j : Fin 512) (hk : a + k.val < 128) :
    halfOf w a ha (ix3 ⟨0, Nat.one_pos⟩ k j) = truncf .bf16 w bitsLt_bf16_f32 (ix2 ⟨a + k.val, hk⟩ j) := by
  unfold halfOf
  refine (cast_1x64 _ _ _ k j).trans ?_
  refine congrArg (FloatOps.truncf .bf16 bitsLt_bf16_f32) (extractStridedSlice_apply ![a, 0] w ha _ _ fun b => ?_)
  match b with
  | ⟨0, _⟩ => rfl
  | ⟨1, _⟩ => exact (Nat.zero_add _).symm

theorem own_half (h : Fin 8) (a : ℕ) (ha : Shape.Slices S128x512 ![a, 0] S64x512) (ha' : a ≤ 64) (e : 64 * c.val = 128 * h.val + a) (k : Fin 64) (j : Fin 512) :
    halfOf (outH I c h) a ha (ix3 ⟨0, Nat.one_pos⟩ k j) = osegF (catF I) c (ix3 c k j) := by
  have ex : (ix2 (⟨64 * c.val + k.val, by have hc : c.val < 16 := c.isLt; omega⟩ : Fin 1024) j : S1024x512.Idx) = ix2 ⟨128 * h.val + (⟨a + k.val, by omega⟩ : Fin 128).val, by show 128 * h.val + (a + k.val) < 1024; omega⟩ j := by
    congr 1; exact Fin.ext (by show 64 * c.val + k.val = 128 * h.val + (a + k.val); omega)
  show _ = catF I c (ix2 ⟨64 * c.val + k.val, _⟩ j)
  rw [halfOf_apply _ a ha k j (by omega), ex, catF_apply]

/-- The first half of head `h`, as the device of that half keeps it. -/
theorem own_low (h : Fin 8) (p : Dev nD) (hp : p.val = 2 * h.val) (e : c = p) (k : Fin 64) (j : Fin 512) :
    halfOf (outH I c h) 0 slices_S128x512_o0_0_S64x512 (ix3 ⟨0, Nat.one_pos⟩ k j) = osegF (catF I) c (ix3 c k j) :=
  own_half I c h 0 _ (by omega) (by rw [e]; omega) k j

/-- The second half of head `h`, as the device of that half keeps it. -/
theorem own_high (h : Fin 8) (p : Dev nD) (hp : p.val = 2 * h.val + 1) (e : c = p) (k : Fin 64) (j : Fin 512) :
    halfOf (outH I c h) 64 slices_S128x512_o64_0_S64x512 (ix3 ⟨0, Nat.one_pos⟩ k j) = osegF (catF I) c (ix3 c k j) :=
  own_half I c h 64 _ (by omega) (by rw [e]; omega) k j

/-- The statistics of head `h`, in the shape in which a device keeps its own. -/
def statOf (w : FVec F S2x512 .f32) : Vec F S1x2x512 .f32 :=
  shapeCast S1x2x512 (shapeCast S1x2x512 w shapeCasts_S2x512_S1x2x512) shapeCasts_S1x2x512_S1x2x512

theorem own_stat (h : Fin 8) (p : Dev nD) (hp : p.val / 2 = h.val) (e : c = p) (k : Fin 2) (j : Fin 512) :
    statOf (statH I c h) (ix3 ⟨0, Nat.one_pos⟩ k j) = statsF (statF I) c (ix3 c k j) := by
  have eh : (⟨c.val / 2, by have hc : c.val < 16 := c.isLt; omega⟩ : Fin 8) = h := Fin.ext (by rw [e]; exact hp)
  show _ = statH I c ⟨c.val / 2, _⟩ (ix2 k j)
  rw [eh]
  exact cast_1x2 _ _ _ k j

/-! ## The steps -/

variable (cat : Dev nD → Vec F S1024x512 .bf16) (stat : Dev nD → Vec F S8x2x512 .f32) (norm : Vec F S1024x512 .bf16)
  (κ : GSem nD τ sig → ℕ)

local notation "CC" => Ctx cat stat norm κ c

variable {α : Type} {X X' A A' B B' R : SP F} {Q : α → SP F}

abbrev xL (c : Dev nD) : Loc nD τ sig := (c : Thread nD τ).loc cc0_stg0_0
abbrev wqL (c : Dev nD) : Loc nD τ sig := (c : Thread nD τ).loc cc0_stg1_0
abbrev woL (c : Dev nD) : Loc nD τ sig := (c : Thread nD τ).loc cc0_stg2_0
abbrev kL (c : Dev nD) : Loc nD τ sig := (c : Thread nD τ).loc cc0_stg3_0
abbrev vL (c : Dev nD) : Loc nD τ sig := (c : Thread nD τ).loc cc0_stg4_0
abbrev outL (c : Dev nD) : Loc nD τ sig := (c : Thread nD τ).loc cc0_stg5_0

/-- The operand buffers of the kernel and its result buffer holding `o`. -/
def XB (o : Vec F S1x512x1024 .f32) : sProp 𝕄 :=
  iprop((xL c ↦[Finset.univ]{fullShare} I.x c) ∗ (wqL c ↦[Finset.univ]{fullShare} I.wq c) ∗ (woL c ↦[Finset.univ]{fullShare} I.wo c)
    ∗ (kL c ↦[Finset.univ]{fullShare} I.k c) ∗ (vL c ↦[Finset.univ]{fullShare} I.v c) ∗ (outL c ↦[Finset.univ]{fullShare} o))

variable (o : Vec F S1x512x1024 .f32)

theorem xb_x : XB I c o ⊢ iprop((xL c ↦[Finset.univ]{fullShare} I.x c) ∗ ((xL c ↦[Finset.univ]{fullShare} I.x c) -∗ XB I c o)) := by
  unfold XB
  iintro ⟨H, Hr⟩
  isplitl [H]; · iexact H
  iintro H
  isplitl [H]; · iexact H
  iexact Hr

theorem xb_wq : XB I c o ⊢ iprop((wqL c ↦[Finset.univ]{fullShare} I.wq c) ∗ ((wqL c ↦[Finset.univ]{fullShare} I.wq c) -∗ XB I c o)) := by
  unfold XB
  iintro ⟨H1, H, Hr⟩
  isplitl [H]; · iexact H
  iintro H
  isplitl [H1]; · iexact H1
  isplitl [H]; · iexact H
  iexact Hr

theorem xb_wo : XB I c o ⊢ iprop((woL c ↦[Finset.univ]{fullShare} I.wo c) ∗ ((woL c ↦[Finset.univ]{fullShare} I.wo c) -∗ XB I c o)) := by
  unfold XB
  iintro ⟨H1, H2, H, Hr⟩
  isplitl [H]; · iexact H
  iintro H
  isplitl [H1]; · iexact H1
  isplitl [H2]; · iexact H2
  isplitl [H]; · iexact H
  iexact Hr

theorem xb_k : XB I c o ⊢ iprop((kL c ↦[Finset.univ]{fullShare} I.k c) ∗ ((kL c ↦[Finset.univ]{fullShare} I.k c) -∗ XB I c o)) := by
  unfold XB
  iintro ⟨H1, H2, H3, H, Hr⟩
  isplitl [H]; · iexact H
  iintro H
  isplitl [H1]; · iexact H1
  isplitl [H2]; · iexact H2
  isplitl [H3]; · iexact H3
  isplitl [H]; · iexact H
  iexact Hr

theorem xb_v : XB I c o ⊢ iprop((vL c ↦[Finset.univ]{fullShare} I.v c) ∗ ((vL c ↦[Finset.univ]{fullShare} I.v c) -∗ XB I c o)) := by
  unfold XB
  iintro ⟨H1, H2, H3, H4, H, Hr⟩
  isplitl [H]; · iexact H
  iintro H
  isplitl [H1]; · iexact H1
  isplitl [H2]; · iexact H2
  isplitl [H3]; · iexact H3
  isplitl [H4]; · iexact H4
  isplitl [H]; · iexact H
  iexact Hr

theorem xb_out (o' : Vec F S1x512x1024 .f32) :
    XB I c o ⊢ iprop((outL c ↦[Finset.univ]{fullShare} o) ∗ ((outL c ↦[Finset.univ]{fullShare} o') -∗ XB I c o')) := by
  unfold XB
  iintro ⟨H1, H2, H3, H4, H5, H⟩
  isplitl [H]; · iexact H
  iintro H
  isplitl [H1]; · iexact H1
  isplitl [H2]; · iexact H2
  isplitl [H3]; · iexact H3
  isplitl [H4]; · iexact H4
  isplitl [H5]; · iexact H5
  iexact H

/-- The read of a block of a matrix. -/
theorem read2 {n0 n1 m0 m1 a b : ℕ} {e : EltTy} (m : Memref sig .tc .vmem ⟨2, ![n0, n1]⟩ e) (f : Buf (Elt F) (m.view.loc (c : Thread nD τ)))
    (o : Fin 2 → ℕ) (ho : o = ![a, b])
    (inb : ∀ x, o x + (⟨2, ![m0, m1]⟩ : Shape).size x ≤ (⟨2, ![n0, n1]⟩ : Shape).size x) (h0 : a + m0 ≤ n0) (h1 : b + m1 ≤ n1) :
    (m.access (Rect.unit (s := ⟨2, ![n0, n1]⟩) o (⟨2, ![m0, m1]⟩ : Shape).size inb)).read (Elt F) f
      = fun j => m.view.read (Elt F) f (ix2 (⟨a + (j 0).val, Nat.lt_of_lt_of_le (Nat.add_lt_add_left (j 0).isLt a) h0⟩ : Fin n0) (⟨b + (j 1).val, Nat.lt_of_lt_of_le (Nat.add_lt_add_left (j 1).isLt b) h1⟩ : Fin n1)) := by
  funext j
  show m.view.read (Elt F) f ((Rect.unit (s := ⟨2, ![n0, n1]⟩) o (⟨2, ![m0, m1]⟩ : Shape).size inb).emb j) = _
  congr 1
  conv_lhs => rw [eq_ix2 j]
  exact emb2 o ho inb (j 0) (j 1) _ _

end Cert.KernelIdeal.Attn

end
-- ==== Proof.Stores.lean ====
/- The loads of the operand blocks and the stores of the partial results and of the result, as steps. -/
module

public import proofs.«01_k».proof.Proof.Heads

@[expose] public section

set_option maxRecDepth 8000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (cat : Dev nD → Vec F S1024x512 .bf16) (stat : Dev nD → Vec F S8x2x512 .f32) (norm : Vec F S1024x512 .bf16)
  (κ : GSem nD τ sig → ℕ) (I : Ins F) (c : Dev nD) (o : Vec F S1x512x1024 .f32)

local notation "CC" => Ctx cat stat norm κ c

variable {α : Type} {X X' A A' B B' R : SP F} {Q : α → SP F}

/-- A step that uses and changes the first component only. -/
theorem onX' {p q : Prog (TpuEff nD τ sig (Elt F) Λ₀ .tc) α} (h : X ⊢ iprop((X' -∗ wpc c q Q) -∗ wpc c p Q)) (hk : G cat stat norm κ c X' A B R ⊢ wpc c q Q) :
    G cat stat norm κ c X A B R ⊢ wpc c p Q := by
  iintro ⟨#Hc, HX, HA, HB, HR⟩
  iapply h $$ HX
  iintro HX
  iapply hk
  isplitr; · iexact Hc
  isplitl [HX]; · iexact HX
  isplitl [HA]; · iexact HA
  isplitl [HB]; · iexact HB
  iexact HR

/-! ## Loads of the operands -/

theorem ix_zero {n0 n1 : ℕ} (i : (⟨2, ![n0, n1]⟩ : Shape).Idx) (h0 : 0 + (i 0).val < n0) (h1 : 0 + (i 1).val < n1) :
    (ix2 (⟨0 + (i 0).val, h0⟩ : Fin n0) (⟨0 + (i 1).val, h1⟩ : Fin n1) : (⟨2, ![n0, n1]⟩ : Shape).Idx) = i := by
  conv_rhs => rw [eq_ix2 i]
  congr 1 <;> exact Fin.ext (Nat.zero_add _)

theorem x_load {inb : ∀ x, (![0, 0] : Fin 2 → ℕ) x + S512x1024.size x ≤ S512x1024.size x} {hl} {K : Vec F S512x1024 .bf16 → Prog (TpuEff nD τ sig (Elt F) Λ₀ .tc) α}
    (hk : G cat stat norm κ c (XB I c o) A B R ⊢ wpc c (K (I.x c)) Q) :
    G cat stat norm κ c (XB I c o) A B R ⊢ wpc c (Prog.lift (.load (Memref.whole cc0_stg0_0 : Memref sig .tc .vmem S512x1024 .bf16)
      (Rect.unit (s := S512x1024) ![0, 0] S512x1024.size inb).toLoadRect hl) >>= K) Q := by
  refine onX cat stat norm κ c ?_ hk
  refine .trans (xb_x I c o) ?_
  iintro ⟨H, Hb⟩ Hk
  iapply (wp_load_rect 𝒱₀ (c : Thread nD τ) none Set.univ (Finset.subset_univ _)) $$ [H]
  · iexact H
  iintro H
  have e : ((Memref.whole cc0_stg0_0 : Memref sig .tc .vmem S512x1024 .bf16).access (Rect.unit (s := S512x1024) ![0, 0] S512x1024.size inb)).read (Elt F) (I.x c) = (I.x c) := by
    funext j
    obtain ⟨y, x, rfl⟩ : ∃ (y : Fin 512) (x : Fin 1024), j = ix2 y x := ⟨j 0, j 1, eq_ix2 j⟩
    show I.x c ((Rect.unit (s := S512x1024) ![0, 0] S512x1024.size inb).emb _) = I.x c (ix2 y x)
    exact congrArg (I.x c) ((emb2 (n0 := 512) (n1 := 1024) _ rfl inb y x (by omega) (by omega)).trans (congrArg₂ ix2 (Fin.ext (Nat.zero_add _)) (Fin.ext (Nat.zero_add _))))
  rw [e]
  iapply Hk
  iapply Hb
  iexact H

theorem wq_load {inb : ∀ x, (![0, 0] : Fin 2 → ℕ) x + S1024x1024.size x ≤ S1024x1024.size x} {hl} {K : Vec F S1024x1024 .bf16 → Prog (TpuEff nD τ sig (Elt F) Λ₀ .tc) α}
    (hk : G cat stat norm κ c (XB I c o) A B R ⊢ wpc c (K (I.wq c)) Q) :
    G cat stat norm κ c (XB I c o) A B R ⊢ wpc c (Prog.lift (.load (Memref.whole cc0_stg1_0 : Memref sig .tc .vmem S1024x1024 .bf16)
      (Rect.unit (s := S1024x1024) ![0, 0] S1024x1024.size inb).toLoadRect hl) >>= K) Q := by
  refine onX cat stat norm κ c ?_ hk
  refine .trans (xb_wq I c o) ?_
  iintro ⟨H, Hb⟩ Hk
  iapply (wp_load_rect 𝒱₀ (c : Thread nD τ) none Set.univ (Finset.subset_univ _)) $$ [H]
  · iexact H
  iintro H
  have e : ((Memref.whole cc0_stg1_0 : Memref sig .tc .vmem S1024x1024 .bf16).access (Rect.unit (s := S1024x1024) ![0, 0] S1024x1024.size inb)).read (Elt F) (I.wq c) = (I.wq c) := by
    funext j
    obtain ⟨y, x, rfl⟩ : ∃ (y : Fin 1024) (x : Fin 1024), j = ix2 y x := ⟨j 0, j 1, eq_ix2 j⟩
    show I.wq c ((Rect.unit (s := S1024x1024) ![0, 0] S1024x1024.size inb).emb _) = I.wq c (ix2 y x)
    exact congrArg (I.wq c) ((emb2 (n0 := 1024) (n1 := 1024) _ rfl inb y x (by omega) (by omega)).trans (congrArg₂ ix2 (Fin.ext (Nat.zero_add _)) (Fin.ext (Nat.zero_add _))))
  rw [e]
  iapply Hk
  iapply Hb
  iexact H

theorem k_load (h : Fin 8) {of : Fin 2 → ℕ} (ho : of = ![0, 128 * h.val]) {inb : ∀ x, of x + S2048x128.size x ≤ S2048x1024.size x} {hl} {K : Vec F S2048x128 .bf16 → Prog (TpuEff nD τ sig (Elt F) Λ₀ .tc) α}
    (hk : G cat stat norm κ c (XB I c o) A B R ⊢ wpc c (K (kHead (I.k c) h)) Q) :
    G cat stat norm κ c (XB I c o) A B R ⊢ wpc c (Prog.lift (.load (Memref.whole cc0_stg3_0 : Memref sig .tc .vmem S2048x1024 .bf16)
      (Rect.unit (s := S2048x1024) of S2048x128.size inb).toLoadRect hl) >>= K) Q := by
  refine onX cat stat norm κ c ?_ hk
  refine .trans (xb_k I c o) ?_
  iintro ⟨H, Hb⟩ Hk
  iapply (wp_load_rect 𝒱₀ (c : Thread nD τ) none Set.univ (Finset.subset_univ _)) $$ [H]
  · iexact H
  iintro H
  have e : ((Memref.whole cc0_stg3_0 : Memref sig .tc .vmem S2048x1024 .bf16).access (Rect.unit (s := S2048x1024) of S2048x128.size inb)).read (Elt F) (I.k c) = (kHead (I.k c) h) := by
    funext j
    obtain ⟨y, x, rfl⟩ : ∃ (y : Fin 2048) (x : Fin 128), j = ix2 y x := ⟨j 0, j 1, eq_ix2 j⟩
    show I.k c ((Rect.unit (s := S2048x1024) of S2048x128.size inb).emb _) = I.k c (ix2 y ⟨128 * h.val + x.val, _⟩)
    exact congrArg (I.k c) ((emb2 (n0 := 2048) (n1 := 1024) of ho inb y x (by omega) (by omega)).trans (congrArg₂ ix2 (Fin.ext (Nat.zero_add _)) rfl))
  rw [e]
  iapply Hk
  iapply Hb
  iexact H

theorem v_load (h : Fin 8) {of : Fin 2 → ℕ} (ho : of = ![0, 128 * h.val]) {inb : ∀ x, of x + S2048x128.size x ≤ S2048x1024.size x} {hl} {K : Vec F S2048x128 .bf16 → Prog (TpuEff nD τ sig (Elt F) Λ₀ .tc) α}
    (hk : G cat stat norm κ c (XB I c o) A B R ⊢ wpc c (K (kHead (I.v c) h)) Q) :
    G cat stat norm κ c (XB I c o) A B R ⊢ wpc c (Prog.lift (.load (Memref.whole cc0_stg4_0 : Memref sig .tc .vmem S2048x1024 .bf16)
      (Rect.unit (s := S2048x1024) of S2048x128.size inb).toLoadRect hl) >>= K) Q := by
  refine onX cat stat norm κ c ?_ hk
  refine .trans (xb_v I c o) ?_
  iintro ⟨H, Hb⟩ Hk
  iapply (wp_load_rect 𝒱₀ (c : Thread nD τ) none Set.univ (Finset.subset_univ _)) $$ [H]
  · iexact H
  iintro H
  have e : ((Memref.whole cc0_stg4_0 : Memref sig .tc .vmem S2048x1024 .bf16).access (Rect.unit (s := S2048x1024) of S2048x128.size inb)).read (Elt F) (I.v c) = (kHead (I.v c) h) := by
    funext j
    obtain ⟨y, x, rfl⟩ : ∃ (y : Fin 2048) (x : Fin 128), j = ix2 y x := ⟨j 0, j 1, eq_ix2 j⟩
    show I.v c ((Rect.unit (s := S2048x1024) of S2048x128.size inb).emb _) = I.v c (ix2 y ⟨128 * h.val + x.val, _⟩)
    exact congrArg (I.v c) ((emb2 (n0 := 2048) (n1 := 1024) of ho inb y x (by omega) (by omega)).trans (congrArg₂ ix2 (Fin.ext (Nat.zero_add _)) rfl))
  rw [e]
  iapply Hk
  iapply Hb
  iexact H

/-- Rows `256 g …` of the output matrix. -/
def woGrp (f : Vec F S1024x1024 .bf16) (g : Fin 4) : Vec F S256x1024 .bf16 := fun j => f (ix2 ⟨256 * g.val + (j 0).val, by
  have h : (j 0).val < 256 := (j 0).isLt; omega⟩ (j 1))

theorem wo_load (g : Fin 4) {of : Fin 2 → ℕ} (ho : of = ![256 * g.val, 0]) {inb : ∀ x, of x + S256x1024.size x ≤ S1024x1024.size x} {hl} {K : Vec F S256x1024 .bf16 → Prog (TpuEff nD τ sig (Elt F) Λ₀ .tc) α}
    (hk : G cat stat norm κ c (XB I c o) A B R ⊢ wpc c (K (woGrp (I.wo c) g)) Q) :
    G cat stat norm κ c (XB I c o) A B R ⊢ wpc c (Prog.lift (.load (Memref.whole cc0_stg2_0 : Memref sig .tc .vmem S1024x1024 .bf16)
      (Rect.unit (s := S1024x1024) of S256x1024.size inb).toLoadRect hl) >>= K) Q := by
  refine onX cat stat norm κ c ?_ hk
  refine .trans (xb_wo I c o) ?_
  iintro ⟨H, Hb⟩ Hk
  iapply (wp_load_rect 𝒱₀ (c : Thread nD τ) none Set.univ (Finset.subset_univ _)) $$ [H]
  · iexact H
  iintro H
  have e : ((Memref.whole cc0_stg2_0 : Memref sig .tc .vmem S1024x1024 .bf16).access (Rect.unit (s := S1024x1024) of S256x1024.size inb)).read (Elt F) (I.wo c) = (woGrp (I.wo c) g) := by
    funext j
    obtain ⟨y, x, rfl⟩ : ∃ (y : Fin 256) (x : Fin 1024), j = ix2 y x := ⟨j 0, j 1, eq_ix2 j⟩
    show I.wo c ((Rect.unit (s := S1024x1024) of S256x1024.size inb).emb _) = I.wo c (ix2 ⟨256 * g.val + y.val, _⟩ x)
    exact congrArg (I.wo c) ((emb2 (n0 := 1024) (n1 := 1024) of ho inb y x (by omega) (by omega)).trans (congrArg₂ ix2 rfl (Fin.ext (Nat.zero_add _))))
  rw [e]
  iapply Hk
  iapply Hb
  iexact H

theorem out_set (inb : ∀ x, (![0, 0, 0] : Fin 3 → ℕ) x + S1x512x1024.size x ≤ S1x512x1024.size x) (i : S1x512x1024.Idx) :
    (Rect.unit (s := S1x512x1024) ![0, 0, 0] S1x512x1024.size inb).emb i = i := by
  funext x
  apply Fin.ext
  rw [ValueKit.rect_emb_unit_val]
  match x with
  | ⟨0, _⟩ => exact Nat.zero_add _
  | ⟨1, _⟩ => exact Nat.zero_add _
  | ⟨2, _⟩ => exact Nat.zero_add _

theorem out_mem (inb : ∀ x, (![0, 0, 0] : Fin 3 → ℕ) x + S1x512x1024.size x ≤ S1x512x1024.size x) (i : S1x512x1024.Idx) :
    i ∈ (Rect.unit (s := S1x512x1024) ![0, 0, 0] S1x512x1024.size inb).set := by
  rw [Rect.mem_set_unit]
  intro x
  match x with
  | ⟨0, _⟩ => exact ⟨Nat.zero_le _, Nat.lt_of_lt_of_eq (i 0).isLt (Nat.zero_add _).symm⟩
  | ⟨1, _⟩ => exact ⟨Nat.zero_le _, Nat.lt_of_lt_of_eq (i 1).isLt (Nat.zero_add _).symm⟩
  | ⟨2, _⟩ => exact ⟨Nat.zero_le _, Nat.lt_of_lt_of_eq (i 2).isLt (Nat.zero_add _).symm⟩

/-- The result: a load of its buffer and the store. -/
theorem out_store {inb : ∀ x, (![0, 0, 0] : Fin 3 → ℕ) x + S1x512x1024.size x ≤ S1x512x1024.size x} {hl hx hm} {w : Vec F S1x512x1024 .f32}
    {K : Prog (TpuEff nD τ sig (Elt F) Λ₀ .tc) α}
    (hk : G cat stat norm κ c (XB I c w) A B R ⊢ wpc c K Q) :
    G cat stat norm κ c (XB I c o) A B R
      ⊢ wpc c (Prog.lift (.load (Memref.whole cc0_stg5_0 : Memref sig .tc .vmem S1x512x1024 .f32) (Rect.unit (s := S1x512x1024) ![0, 0, 0] S1x512x1024.size inb).toLoadRect hl) >>= fun _ =>
          Prog.lift (.store (Memref.whole cc0_stg5_0 : Memref sig .tc .vmem S1x512x1024 .f32) (Rect.unit (s := S1x512x1024) ![0, 0, 0] S1x512x1024.size inb) w Finset.univ hx hm) >>= fun _ => K) Q := by
  refine onX' cat stat norm κ c ?_ hk
  refine .trans (xb_out I c o w) ?_
  iintro ⟨H, Hb⟩ Hk
  iapply (wp_load_rect 𝒱₀ (c : Thread nD τ) none Set.univ (Finset.subset_univ _)) $$ [H]
  · iexact H
  iintro H
  iapply (wp_store 𝒱₀ (c : Thread nD τ) none Set.univ (Finset.subset_univ _)) $$ [H]
  · iexact H
  iintro H
  iapply Hk
  iapply Hb
  have e2 : ((outL c ↦[Finset.univ]{fullShare} ((((Memref.whole cc0_stg5_0 : Memref sig .tc .vmem S1x512x1024 .f32).access (Rect.unit (s := S1x512x1024) ![0, 0, 0] S1x512x1024.size inb)).write (Elt F) o w Finset.univ) : Vec F S1x512x1024 .f32)) : sProp 𝕄)
      = (outL c ↦[Finset.univ]{fullShare} w) := by
    refine pointsTo_congr fun i hi => ?_
    refine write_agrees ((View.whole cc0_stg5_0).slice (Rect.unit (s := S1x512x1024) ![0, 0, 0] S1x512x1024.size inb)) o w w (fun x => ?_) i ?_
    · show w x = w ((Rect.unit (s := S1x512x1024) ![0, 0, 0] S1x512x1024.size inb).emb x)
      rw [out_set inb x]
    · rw [View.set_slice_whole]
      exact out_mem inb i
  rw [← e2]; iexact H

/-! ## Stores of the partial results -/

/-- Before head `h`: the parts of the two buffers that are still free. -/
def T0 (h : ℕ) : sProp 𝕄 :=
  iprop((∃ f : Vec F S1024x512 .bf16, catL c ↦[rows (128 * h) 1024]{fullShare} f) ∗ ∃ f : Vec F S8x2x512 .f32, statL c ↦[Finset.univ.filter fun i => h ≤ (i 0).val]{fullShare} f)
/-- The output of head `h` is stored. -/
def T1 (h : ℕ) : sProp 𝕄 :=
  iprop(((∃ f : Vec F S1024x512 .bf16, catL c ↦[rows (128 * (h + 1)) 1024]{fullShare} f) ∗ (catL c ↦[rows (128 * h) (128 * h + 128)]{fullShare} cat c))
    ∗ ∃ f : Vec F S8x2x512 .f32, statL c ↦[Finset.univ.filter fun i => h ≤ (i 0).val]{fullShare} f)
/-- A load of a head's rows of the row buffer before they are stored; what it reads is not used. -/
theorem cat_peek (h : Fin 8) {of : Fin 2 → ℕ} (ho : of = ![128 * h.val, 0]) {inb : ∀ x, of x + S128x512.size x ≤ S1024x512.size x} {hl}
    {K : Vec F S128x512 .bf16 → Prog (TpuEff nD τ sig (Elt F) Λ₀ .tc) α}
    (hk : ∀ v, G cat stat norm κ c X (T0 c h.val) B R ⊢ wpc c (K v) Q) :
    G cat stat norm κ c X (T0 c h.val) B R
      ⊢ wpc c (Prog.lift (.load (Memref.whole cc0_scratch0 : Memref sig .tc .vmem S1024x512 .bf16) (Rect.unit (s := S1024x512) of S128x512.size inb).toLoadRect hl) >>= K) Q := by
  have e : ((Memref.whole cc0_scratch0 : Memref sig .tc .vmem S1024x512 .bf16).access (Rect.unit (s := S1024x512) of S128x512.size inb)).set = rows (128 * h.val) (128 * h.val + 128) :=
    (View.set_slice_whole _ _).trans (rows2_set _ 128 of ho _)
  have es : rows (128 * h.val) (128 * h.val + 128) ⊆ rows (128 * h.val) 1024 := by
    intro i hi
    simp only [rows, Finset.mem_filter, Finset.mem_univ, true_and] at hi ⊢; omega
  iintro ⟨#Hc, HX, HA, HB, HR⟩
  unfold T0
  icases HA with ⟨⟨%f, H⟩, Hs⟩
  iapply (wp_load_rect 𝒱₀ (c : Thread nD τ) none Set.univ ((le_of_eq e).trans es)) $$ [H]
  · iexact H
  iintro H
  iapply hk
  isplitr; · iexact Hc
  isplitl [HX]; · iexact HX
  isplitl [H Hs]
  · unfold T0
    isplitl [H]; · iexists f; iexact H
    iexact Hs
  isplitl [HB]; · iexact HB
  iexact HR

/-- And the first row of its statistics. -/
def T2 (h : ℕ) : sProp 𝕄 :=
  iprop(((∃ f : Vec F S1024x512 .bf16, catL c ↦[rows (128 * (h + 1)) 1024]{fullShare} f) ∗ (catL c ↦[rows (128 * h) (128 * h + 128)]{fullShare} cat c))
    ∗ ∃ f : Vec F S8x2x512 .f32, ⌜∀ i : S8x2x512.Idx, (i 0).val = h → (i 1).val = 0 → f i = stat c i⌝ ∗ (statL c ↦[Finset.univ.filter fun i => h ≤ (i 0).val]{fullShare} f))

/-- The store of the rows of a head in the row buffer. -/
theorem cat_put (h : Fin 8) {of : Fin 2 → ℕ} (ho : of = ![128 * h.val, 0]) {inb : ∀ x, of x + S128x512.size x ≤ S1024x512.size x} {hx hm} {w : Vec F S128x512 .bf16}
    (hw : ∀ y x, w (ix2 y x) = cat c (ix2 ⟨128 * h.val + y.val, by omega⟩ x))
    {K : Prog (TpuEff nD τ sig (Elt F) Λ₀ .tc) α}
    (hk : G cat stat norm κ c X (T1 cat c h.val) B R ⊢ wpc c K Q) :
    G cat stat norm κ c X (T0 c h.val) B R
      ⊢ wpc c (Prog.lift (.store (Memref.whole cc0_scratch0 : Memref sig .tc .vmem S1024x512 .bf16) (Rect.unit (s := S1024x512) of S128x512.size inb) w Finset.univ hx hm) >>= fun _ => K) Q := by
  refine onA cat stat norm κ c ?_ hk
  have e : ((Memref.whole cc0_scratch0 : Memref sig .tc .vmem S1024x512 .bf16).access (Rect.unit (s := S1024x512) of S128x512.size inb)).set = rows (128 * h.val) (128 * h.val + 128) :=
    (View.set_slice_whole _ _).trans (rows2_set _ 128 of ho _)
  have es : rows (128 * h.val) 1024 = rows (128 * h.val) (128 * h.val + 128) ∪ rows (128 * (h.val + 1)) 1024 := by
    ext i; simp only [rows, Finset.mem_filter, Finset.mem_univ, true_and, Finset.mem_union]; omega
  have ed : Disjoint (rows (128 * h.val) (128 * h.val + 128)) (rows (128 * (h.val + 1)) 1024) := by
    rw [Finset.disjoint_left]; intro i hi hj
    simp only [rows, Finset.mem_filter, Finset.mem_univ, true_and] at hi hj; omega
  unfold T0 T1
  iintro ⟨⟨%f, H⟩, Hs⟩ Hk
  rw [es]
  ihave H := (pointsTo_union ed).1 $$ H
  icases H with ⟨H, Hrest⟩
  iapply (wp_store 𝒱₀ (c : Thread nD τ) none Set.univ (le_of_eq e)) $$ [H]
  · iexact H
  iintro H
  iapply Hk
  isplitl [H Hrest]
  · isplitl [Hrest]; · iexists f; iexact Hrest
    have e2 : ((catL c ↦[rows (128 * h.val) (128 * h.val + 128)]{fullShare} (((Memref.whole cc0_scratch0).access (Rect.unit (s := S1024x512) of S128x512.size inb)).write (Elt F) f w Finset.univ)) : sProp 𝕄)
        = (catL c ↦[rows (128 * h.val) (128 * h.val + 128)]{fullShare} cat c) := by
      refine pointsTo_congr fun i hi => ?_
      refine write_agrees ((View.whole cc0_scratch0).slice (Rect.unit (s := S1024x512) of S128x512.size inb)) f (cat c) w (fun x => ?_) i
        (by rw [View.set_slice_whole, rows2_set _ 128 of ho]; exact hi)
      obtain ⟨y, j, rfl⟩ : ∃ (y : Fin 128) (j : Fin 512), x = ix2 y j := ⟨x 0, x 1, eq_ix2 x⟩
      show w _ = cat c ((Rect.unit (s := S1024x512) of S128x512.size inb).emb _)
      rw [hw]
      exact congrArg (cat c) ((emb2 (n0 := 1024) (n1 := 512) of ho inb y j (by omega) (by omega)).trans
        (congrArg₂ ix2 rfl (Fin.ext (Nat.zero_add _)))).symm
    rw [← e2]; iexact H
  iexact Hs

/-- The same store with the load before it. -/
theorem cat_store (h : Fin 8) {of : Fin 2 → ℕ} (ho : of = ![128 * h.val, 0]) {inb : ∀ x, of x + S128x512.size x ≤ S1024x512.size x} {hl hx hm} {w : Vec F S128x512 .bf16}
    (hw : ∀ y x, w (ix2 y x) = cat c (ix2 ⟨128 * h.val + y.val, by omega⟩ x))
    {K : Prog (TpuEff nD τ sig (Elt F) Λ₀ .tc) α}
    (hk : G cat stat norm κ c X (T1 cat c h.val) B R ⊢ wpc c K Q) :
    G cat stat norm κ c X (T0 c h.val) B R
      ⊢ wpc c (Prog.lift (.load (Memref.whole cc0_scratch0 : Memref sig .tc .vmem S1024x512 .bf16) (Rect.unit (s := S1024x512) of S128x512.size inb).toLoadRect hl) >>= fun _ =>
          Prog.lift (.store (Memref.whole cc0_scratch0 : Memref sig .tc .vmem S1024x512 .bf16) (Rect.unit (s := S1024x512) of S128x512.size inb) w Finset.univ hx hm) >>= fun _ => K) Q := by
  exact cat_peek cat stat norm κ c h ho fun _ => cat_put cat stat norm κ c h ho hw hk

theorem stat_sub (h k : ℕ) (of : Fin 3 → ℕ) (ho : of = ![h, k, 0]) (inb : ∀ x, of x + S1x1x512.size x ≤ S8x2x512.size x) :
    ((Memref.whole cc0_scratch1 : Memref sig .tc .vmem S8x2x512 .f32).access (Rect.unit (s := S8x2x512) of S1x1x512.size inb)).set
      ⊆ Finset.univ.filter fun i : S8x2x512.Idx => h ≤ (i 0).val := by
  intro i hi
  have hi' := (View.set_slice_whole (sig := sig) (κ := .tc) cc0_scratch1 (Rect.unit (s := S8x2x512) of S1x1x512.size inb)) ▸ hi
  rw [statK_set h k of ho] at hi'
  simp only [Finset.mem_filter, Finset.mem_univ, true_and] at hi' ⊢
  omega

/-- A load of a row of statistics whose value is not used. -/
theorem stat_peek1 (h : Fin 8) (k : ℕ) {of : Fin 3 → ℕ} (ho : of = ![h.val, k, 0]) {inb : ∀ x, of x + S1x1x512.size x ≤ S8x2x512.size x} {hl}
    {K : Prog (TpuEff nD τ sig (Elt F) Λ₀ .tc) α}
    (hk : G cat stat norm κ c X (T1 cat c h.val) B R ⊢ wpc c K Q) :
    G cat stat norm κ c X (T1 cat c h.val) B R
      ⊢ wpc c (Prog.lift (.load (Memref.whole cc0_scratch1 : Memref sig .tc .vmem S8x2x512 .f32) (Rect.unit (s := S8x2x512) of S1x1x512.size inb).toLoadRect hl) >>= fun _ => K) Q := by
  refine onA cat stat norm κ c ?_ hk
  unfold T1
  iintro ⟨Hc, ⟨%f, H⟩⟩ Hk
  iapply (wp_load_rect 𝒱₀ (c : Thread nD τ) none Set.univ (stat_sub h.val k of ho inb)) $$ [H]
  · iexact H
  iintro H
  iapply Hk
  isplitl [Hc]; · iexact Hc
  iexists f; iexact H

theorem stat_peek2 (h : Fin 8) (k : ℕ) {of : Fin 3 → ℕ} (ho : of = ![h.val, k, 0]) {inb : ∀ x, of x + S1x1x512.size x ≤ S8x2x512.size x} {hl}
    {K : Prog (TpuEff nD τ sig (Elt F) Λ₀ .tc) α}
    (hk : G cat stat norm κ c X (T2 cat stat c h.val) B R ⊢ wpc c K Q) :
    G cat stat norm κ c X (T2 cat stat c h.val) B R
      ⊢ wpc c (Prog.lift (.load (Memref.whole cc0_scratch1 : Memref sig .tc .vmem S8x2x512 .f32) (Rect.unit (s := S8x2x512) of S1x1x512.size inb).toLoadRect hl) >>= fun _ => K) Q := by
  refine onA cat stat norm κ c ?_ hk
  unfold T2
  iintro ⟨Hc, ⟨%f, %hrow, H⟩⟩ Hk
  iapply (wp_load_rect 𝒱₀ (c : Thread nD τ) none Set.univ (stat_sub h.val k of ho inb)) $$ [H]
  · iexact H
  iintro H
  iapply Hk
  isplitl [Hc]; · iexact Hc
  iexists f
  isplitr; · ipureintro; exact hrow
  iexact H

/-- What a store of row `k` of head `h` leaves. -/
theorem stat_write (h : Fin 8) (k : Fin 2) (of : Fin 3 → ℕ) (ho : of = ![h.val, k.val, 0]) (inb : ∀ x, of x + S1x1x512.size x ≤ S8x2x512.size x) (f : Vec F S8x2x512 .f32)
    (w : Vec F S1x1x512 .f32) (hw : ∀ x, w (ix3 ⟨0, Nat.one_pos⟩ ⟨0, Nat.one_pos⟩ x) = stat c (ix3 h k x)) (i : S8x2x512.Idx) (h0 : (i 0).val = h.val) (h1 : (i 1).val = k.val) :
    (((Memref.whole cc0_scratch1 : Memref sig .tc .vmem S8x2x512 .f32).access (Rect.unit (s := S8x2x512) of S1x1x512.size inb)).write (Elt F) f w Finset.univ : Vec F S8x2x512 .f32) i = stat c i := by
  refine write_agrees ((View.whole cc0_scratch1).slice (Rect.unit (s := S8x2x512) of S1x1x512.size inb)) f (stat c) w (fun x => ?_) i
    (by rw [View.set_slice_whole, statK_set h.val k.val of ho]; simp only [Finset.mem_filter, Finset.mem_univ, true_and]; exact ⟨h0, h1⟩)
  obtain ⟨z, y, j, rfl⟩ : ∃ (z : Fin 1) (y : Fin 1) (j : Fin 512), x = ix3 z y j := ⟨x 0, x 1, x 2, eq_ix3 x⟩
  obtain rfl : z = ⟨0, Nat.one_pos⟩ := Subsingleton.elim _ _
  obtain rfl : y = ⟨0, Nat.one_pos⟩ := Subsingleton.elim _ _
  show w _ = stat c ((Rect.unit (s := S8x2x512) of S1x1x512.size inb).emb _)
  rw [hw]
  exact congrArg (stat c) ((emb3 (n0 := 8) (n1 := 2) (n2 := 512) of ho inb ⟨0, Nat.one_pos⟩ ⟨0, Nat.one_pos⟩ j h.isLt k.isLt (by omega)).trans
    (by funext a; match a with
        | ⟨0, _⟩ => rfl
        | ⟨1, _⟩ => rfl
        | ⟨2, _⟩ => exact Fin.ext (Nat.zero_add _))).symm

/-- And it leaves the other rows alone. -/
theorem stat_keep (h : Fin 8) (k : Fin 2) (of : Fin 3 → ℕ) (ho : of = ![h.val, k.val, 0]) (inb : ∀ x, of x + S1x1x512.size x ≤ S8x2x512.size x) (f : Vec F S8x2x512 .f32)
    (w : Vec F S1x1x512 .f32) (i : S8x2x512.Idx) (h1 : (i 1).val ≠ k.val) :
    (((Memref.whole cc0_scratch1 : Memref sig .tc .vmem S8x2x512 .f32).access (Rect.unit (s := S8x2x512) of S1x1x512.size inb)).write (Elt F) f w Finset.univ : Vec F S8x2x512 .f32) i = f i := by
  refine View.write_of_not_mem (v := (Memref.whole cc0_scratch1 : Memref sig .tc .vmem S8x2x512 .f32).access (Rect.unit (s := S8x2x512) of S1x1x512.size inb)) f w Finset.univ (fun hi => h1 ?_)
  have hi' : i ∈ (Rect.unit (s := S8x2x512) of S1x1x512.size inb).set := by
    rw [← View.set_slice_whole (sig := sig) (κ := .tc) cc0_scratch1 (Rect.unit (s := S8x2x512) of S1x1x512.size inb)]; exact hi
  rw [statK_set h.val k.val of ho] at hi'
  exact (Finset.mem_filter.mp hi').2.2

theorem stat_store_m (h : Fin 8) {of : Fin 3 → ℕ} (ho : of = ![h.val, 0, 0]) {inb : ∀ x, of x + S1x1x512.size x ≤ S8x2x512.size x} {hx hm} {w : Vec F S1x1x512 .f32}
    (hw : ∀ x, w (ix3 ⟨0, Nat.one_pos⟩ ⟨0, Nat.one_pos⟩ x) = stat c (ix3 h (0 : Fin 2) x))
    {K : Prog (TpuEff nD τ sig (Elt F) Λ₀ .tc) α}
    (hk : G cat stat norm κ c X (T2 cat stat c h.val) B R ⊢ wpc c K Q) :
    G cat stat norm κ c X (T1 cat c h.val) B R
      ⊢ wpc c (Prog.lift (.store (Memref.whole cc0_scratch1 : Memref sig .tc .vmem S8x2x512 .f32) (Rect.unit (s := S8x2x512) of S1x1x512.size inb) w Finset.univ hx hm) >>= fun _ => K) Q := by
  refine onA cat stat norm κ c ?_ hk
  unfold T1 T2
  iintro ⟨Hc, ⟨%f, H⟩⟩ Hk
  iapply (wp_store 𝒱₀ (c : Thread nD τ) none Set.univ (stat_sub h.val 0 of ho inb)) $$ [H]
  · iexact H
  iintro H
  iapply Hk
  isplitl [Hc]; · iexact Hc
  iexists _
  isplitr
  rotate_left
  · iexact H
  · ipureintro
    intro i h0 h1
    exact stat_write stat c h 0 of ho inb f w hw i h0 h1

/-- A row of statistics, in the two halves of its share. -/
theorem stat_halves (S : Finset S8x2x512.Idx) (f : Vec F S8x2x512 .f32) (p p' : Dev nD) (hp : p.val % 2 = 0) (hp' : p'.val % 2 = 1) :
    ((statL c ↦[S]{fullShare} f) : sProp 𝕄) = iprop((statL c ↦[S]{hf p} f) ∗ (statL c ↦[S]{hf p'} f)) := by
  have e0 : hf p = ShareLeaves.leaf 1 fullShare (0 : Fin 2) := congrArg (ShareLeaves.leaf 1 fullShare) (Fin.ext hp)
  have e1 : hf p' = ShareLeaves.leaf 1 fullShare (1 : Fin 2) := congrArg (ShareLeaves.leaf 1 fullShare) (Fin.ext hp')
  have h := ShareLeaves.pointsTo_leaves (ℓ := statL c) (Name := ℕ) (U := UU) (Lvl := ℕ) (Ix := Unit) S f 1 fullShare
  refine h.trans ?_
  rw [show (Finset.univ : Finset (Fin (2 ^ 1))) = insert (0 : Fin 2) {(1 : Fin 2)} from rfl, bs_insert (by decide), e0, e1]
  exact congrArg (fun P => iprop((statL c ↦[S]{ShareLeaves.leaf 1 fullShare (0 : Fin 2)} f) ∗ P)) bigSep_singleton

theorem stat_store_l (h : Fin 8) (p p' : Dev nD) (hp : p.val = 2 * h.val) (hp' : p'.val = 2 * h.val + 1)
    {of : Fin 3 → ℕ} (ho : of = ![h.val, 1, 0]) {inb : ∀ x, of x + S1x1x512.size x ≤ S8x2x512.size x} {hx hm} {w : Vec F S1x1x512 .f32}
    (hw : ∀ x, w (ix3 ⟨0, Nat.one_pos⟩ ⟨0, Nat.one_pos⟩ x) = stat c (ix3 h (1 : Fin 2) x))
    {K : Prog (TpuEff nD τ sig (Elt F) Λ₀ .tc) α}
    (hk : G cat stat norm κ c X iprop(Src cat stat c p ∗ Src cat stat c p' ∗ T0 c (h.val + 1)) B R ⊢ wpc c K Q) :
    G cat stat norm κ c X (T2 cat stat c h.val) B R
      ⊢ wpc c (Prog.lift (.store (Memref.whole cc0_scratch1 : Memref sig .tc .vmem S8x2x512 .f32) (Rect.unit (s := S8x2x512) of S1x1x512.size inb) w Finset.univ hx hm) >>= fun _ => K) Q := by
  refine onA cat stat norm κ c ?_ hk
  have hq : p.val / 2 = h.val := by omega
  have hq' : p'.val / 2 = h.val := by omega
  have es : (Finset.univ.filter fun i : S8x2x512.Idx => h.val ≤ (i 0).val) = statRow h.val ∪ (Finset.univ.filter fun i : S8x2x512.Idx => h.val + 1 ≤ (i 0).val) := by
    ext i; simp only [statRow, Finset.mem_filter, Finset.mem_univ, true_and, Finset.mem_union]; omega
  have ed : Disjoint (statRow h.val) (Finset.univ.filter fun i : S8x2x512.Idx => h.val + 1 ≤ (i 0).val) := by
    rw [Finset.disjoint_left]; intro i hi hj
    simp only [statRow, Finset.mem_filter, Finset.mem_univ, true_and] at hi hj; omega
  have ec : rows (128 * h.val) (128 * h.val + 128) = catSeg p ∪ catSeg p' := by
    ext i; simp only [rows, catSeg, Finset.mem_filter, Finset.mem_univ, true_and, Finset.mem_union]; omega
  have ecd : Disjoint (catSeg p) (catSeg p') := by
    rw [Finset.disjoint_left]; intro i hi hj
    simp only [catSeg, Finset.mem_filter, Finset.mem_univ, true_and] at hi hj; omega
  unfold T2 T0 Src
  iintro ⟨⟨Hc0, Hc⟩, ⟨%f, %hrow, H⟩⟩ Hk
  iapply (wp_store 𝒱₀ (c : Thread nD τ) none Set.univ (stat_sub h.val 1 of ho inb)) $$ [H]
  · iexact H
  rw [es, ec, hq, hq']
  iintro H
  ihave H := (pointsTo_union ed).1 $$ H
  icases H with ⟨H, Hrest⟩
  ihave Hc := (pointsTo_union ecd).1 $$ Hc
  icases Hc with ⟨Hcp, Hcp'⟩
  have e2 : ((statL c ↦[statRow h.val]{fullShare} ((((Memref.whole cc0_scratch1 : Memref sig .tc .vmem S8x2x512 .f32).access (Rect.unit (s := S8x2x512) of S1x1x512.size inb)).write (Elt F) f w Finset.univ) : Vec F S8x2x512 .f32)) : sProp 𝕄)
      ⊢ iprop((statL c ↦[statRow h.val]{hf p} stat c) ∗ (statL c ↦[statRow h.val]{hf p'} stat c)) := by
    refine .trans (Entails.of_eq (pointsTo_congr fun i hi => ?_)) (Entails.of_eq (stat_halves c (statRow h.val) (stat c) p p' (by omega) (by omega)))
    have h0 : (i 0).val = h.val := (Finset.mem_filter.mp hi).2
    rcases Nat.lt_or_ge (i 1).val 1 with h1 | h1
    · refine (stat_keep h 1 of ho inb f w i (by show (i 1).val ≠ 1; omega)).trans (hrow i h0 (by omega))
    · exact stat_write stat c h 1 of ho inb f w hw i h0 (by have h2 : (i 1).val < 2 := (i 1).isLt; show (i 1).val = 1; omega)
  ihave H := e2 $$ H
  icases H with ⟨Hs, Hs'⟩
  iapply Hk
  isplitl [Hcp Hs]
  · isplitl [Hcp]; · iexact Hcp
    iexact Hs
  isplitl [Hcp' Hs']
  · isplitl [Hcp']; · iexact Hcp'
    iexact Hs'
  isplitl [Hc0]; · iexact Hc0
  iexists _; iexact Hrest

end Cert.KernelIdeal.Attn

end
-- ==== Proof.Parts.lean ====
/- The parts of the body that compute and exchange the partial results, one lemma each. -/
module

public import proofs.«01_k».proof.Proof.Stores

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (norm : Vec F S1024x512 .bf16) (κ : GSem nD τ sig → ℕ) (I : Ins F) (c : Dev nD) (o : Vec F S1x512x1024 .f32) {R : SP F}

/-- A step that only returns. -/
theorem ret_step {α : Type} {P : SP F} {a : α} {Q : α → SP F} (h : P ⊢ Q a) : P ⊢ wpc c (pure a) Q :=
  h.trans (fupd_intro ..)

theorem part4 {Q'} (hk : G (catF I) (statF I) norm κ c (XB I c o) (iprop(Src (catF I) (statF I) c 1 ∗ T0 c 1)) (AB (catF I) (statF I) c 1 1) (iprop(PostR c ∗ R))
      ⊢ Q' ⟨k0_pay13 (qHead (qF I c) 0) (k0_pay3 (kHead (I.k c) 0)), k0_pay16 (qHead (qF I c) 0) (k0_pay3 (kHead (I.k c) 0)) (k0_pay4 (kHead (I.v c) 0))⟩) (v2 : BitVec 32) :
    G (catF I) (statF I) norm κ c (XB I c o) (T0 c 0) (BS c 15) (iprop(PreR c ∗ R))
      ⊢ wpc c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (SemArray.scalar (d := S_.size) barrier0) (qHead (qF I c) 0) (k0_pay3 (kHead (I.k c) 0)) (k0_pay4 (kHead (I.v c) 0))) Q' := by
  rw [k0_part4_eq_skeleton]
  unfold k0_part4_skel
  refine cat_store (catF I) (statF I) norm κ c 0 rfl (cat_row I c 0) ?_
  refine stat_peek1 (catF I) (statF I) norm κ c 0 0 rfl ?_
  refine stat_store_m (catF I) (statF I) norm κ c 0 rfl (stat_m I c 0) ?_
  refine stat_peek2 (catF I) (statF I) norm κ c 0 1 rfl ?_
  refine stat_store_l (catF I) (statF I) norm κ c 0 0 1 rfl rfl rfl (stat_l I c 0) ?_
  refine bar_wait (catF I) (statF I) norm κ c ?_
  refine own_if (catF I) (statF I) norm κ c 0 (by clear hk; revert c; decide) (by clear hk; revert c; decide) (by clear hk; revert c; decide) (own_low I c 0 0 rfl) (own_stat I c 0 0 rfl) ?_
  refine send_if (catF I) (statF I) norm κ c 0 (by clear hk; revert c; decide) rfl (by clear hk; revert c; decide) rfl (by clear hk; revert c; decide) rfl (by clear hk; revert c; decide) rfl (by clear hk; revert c; decide) rfl rfl ?_
  exact ret_step c hk

theorem part5 {Q'} (hk : G (catF I) (statF I) norm κ c (XB I c o) (iprop(Src (catF I) (statF I) c 2 ∗ Src (catF I) (statF I) c 3 ∗ T0 c 2)) (AB (catF I) (statF I) c 3 2) (iprop(PostR c ∗ R))
      ⊢ Q' ⟨k0_pay23 (qF I c) (kHead (I.k c) 1) (kHead (I.v c) 1), k0_pay27 (qF I c) (kHead (I.k c) 1)⟩) (v2 : BitVec 32) :
    G (catF I) (statF I) norm κ c (XB I c o) (iprop(Src (catF I) (statF I) c 1 ∗ T0 c 1)) (AB (catF I) (statF I) c 1 1) (iprop(PostR c ∗ R))
      ⊢ wpc c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (qF I c) (k0_pay13 (qHead (qF I c) 0) (k0_pay3 (kHead (I.k c) 0))) (k0_pay16 (qHead (qF I c) 0) (k0_pay3 (kHead (I.k c) 0)) (k0_pay4 (kHead (I.v c) 0)))) Q' := by
  rw [k0_part5_eq_skeleton]
  unfold k0_part5_skel
  refine own_if (catF I) (statF I) norm κ c 1 (by clear hk; revert c; decide) (by clear hk; revert c; decide) (by clear hk; revert c; decide) (own_high I c 0 1 rfl) (own_stat I c 0 1 rfl) ?_
  refine send_if (catF I) (statF I) norm κ c 1 (by clear hk; revert c; decide) rfl (by clear hk; revert c; decide) rfl (by clear hk; revert c; decide) rfl (by clear hk; revert c; decide) rfl (by clear hk; revert c; decide) rfl rfl ?_
  refine k_load (catF I) (statF I) norm κ I c o 1 rfl ?_
  refine v_load (catF I) (statF I) norm κ I c o 1 rfl ?_
  refine cat_store (catF I) (statF I) norm κ c 1 rfl (cat_row I c 1) ?_
  refine stat_peek1 (catF I) (statF I) norm κ c 1 0 rfl ?_
  refine stat_store_m (catF I) (statF I) norm κ c 1 rfl (stat_m I c 1) ?_
  refine stat_peek2 (catF I) (statF I) norm κ c 1 1 rfl ?_
  refine stat_store_l (catF I) (statF I) norm κ c 1 2 3 rfl rfl rfl (stat_l I c 1) ?_
  refine own_if (catF I) (statF I) norm κ c 2 (by clear hk; revert c; decide) (by clear hk; revert c; decide) (by clear hk; revert c; decide) (own_low I c 1 2 rfl) (own_stat I c 1 2 rfl) ?_
  exact ret_step c hk

theorem part6 {Q'} (hk : G (catF I) (statF I) norm κ c (XB I c o) (T2 (catF I) (statF I) c 2) (AB (catF I) (statF I) c 4 4) (iprop(PostR c ∗ R))
      ⊢ Q' ⟨k0_pay33 (qF I c) (kHead (I.k c) 2), k0_pay35 (qF I c) (kHead (I.k c) 2), k0_pay36 (qF I c) (kHead (I.k c) 2) (kHead (I.v c) 2)⟩) (v2 : BitVec 32) :
    G (catF I) (statF I) norm κ c (XB I c o) (iprop(Src (catF I) (statF I) c 2 ∗ Src (catF I) (statF I) c 3 ∗ T0 c 2)) (AB (catF I) (statF I) c 3 2) (iprop(PostR c ∗ R))
      ⊢ wpc c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (qF I c) (k0_pay23 (qF I c) (kHead (I.k c) 1) (kHead (I.v c) 1)) (k0_pay27 (qF I c) (kHead (I.k c) 1))) Q' := by
  rw [k0_part6_eq_skeleton]
  unfold k0_part6_skel
  refine send_if (catF I) (statF I) norm κ c 2 (by clear hk; revert c; decide) rfl (by clear hk; revert c; decide) rfl (by clear hk; revert c; decide) rfl (by clear hk; revert c; decide) rfl (by clear hk; revert c; decide) rfl rfl ?_
  refine own_if (catF I) (statF I) norm κ c 3 (by clear hk; revert c; decide) (by clear hk; revert c; decide) (by clear hk; revert c; decide) (own_high I c 1 3 rfl) (own_stat I c 1 3 rfl) ?_
  refine send_if (catF I) (statF I) norm κ c 3 (by clear hk; revert c; decide) rfl (by clear hk; revert c; decide) rfl (by clear hk; revert c; decide) rfl (by clear hk; revert c; decide) rfl (by clear hk; revert c; decide) rfl rfl ?_
  refine k_load (catF I) (statF I) norm κ I c o 2 rfl ?_
  refine v_load (catF I) (statF I) norm κ I c o 2 rfl ?_
  refine cat_store (catF I) (statF I) norm κ c 2 rfl (cat_row I c 2) ?_
  refine stat_peek1 (catF I) (statF I) norm κ c 2 0 rfl ?_
  refine stat_store_m (catF I) (statF I) norm κ c 2 rfl (stat_m I c 2) ?_
  exact ret_step c hk

theorem part7 {Q'} (hk : ∀ v214, G (catF I) (statF I) norm κ c (XB I c o) (T0 c 3) (AB (catF I) (statF I) c 6 6) (iprop(PostR c ∗ R))
      ⊢ Q' ⟨k0_pay46 (qF I c) (kHead (I.k c) 3), k0_pay48 (qF I c) (kHead (I.k c) 3), k0_pay49 (qF I c) (kHead (I.k c) 3) (kHead (I.v c) 3), k0_pay50 (qF I c) (kHead (I.k c) 3) (kHead (I.v c) 3), v214⟩) (v2 : BitVec 32) :
    G (catF I) (statF I) norm κ c (XB I c o) (T2 (catF I) (statF I) c 2) (AB (catF I) (statF I) c 4 4) (iprop(PostR c ∗ R))
      ⊢ wpc c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (qF I c) (k0_pay33 (qF I c) (kHead (I.k c) 2)) (k0_pay35 (qF I c) (kHead (I.k c) 2)) (k0_pay36 (qF I c) (kHead (I.k c) 2) (kHead (I.v c) 2))) Q' := by
  rw [k0_part7_eq_skeleton]
  unfold k0_part7_skel
  refine stat_peek2 (catF I) (statF I) norm κ c 2 1 rfl ?_
  refine stat_store_l (catF I) (statF I) norm κ c 2 4 5 rfl rfl rfl (stat_l I c 2) ?_
  refine own_if (catF I) (statF I) norm κ c 4 (by clear hk; revert c; decide) (by clear hk; revert c; decide) (by clear hk; revert c; decide) (own_low I c 2 4 rfl) (own_stat I c 2 4 rfl) ?_
  refine send_if (catF I) (statF I) norm κ c 4 (by clear hk; revert c; decide) rfl (by clear hk; revert c; decide) rfl (by clear hk; revert c; decide) rfl (by clear hk; revert c; decide) rfl (by clear hk; revert c; decide) rfl rfl ?_
  refine own_if (catF I) (statF I) norm κ c 5 (by clear hk; revert c; decide) (by clear hk; revert c; decide) (by clear hk; revert c; decide) (own_high I c 2 5 rfl) (own_stat I c 2 5 rfl) ?_
  refine send_if (catF I) (statF I) norm κ c 5 (by clear hk; revert c; decide) rfl (by clear hk; revert c; decide) rfl (by clear hk; revert c; decide) rfl (by clear hk; revert c; decide) rfl (by clear hk; revert c; decide) rfl rfl ?_
  refine k_load (catF I) (statF I) norm κ I c o 3 rfl ?_
  refine v_load (catF I) (statF I) norm κ I c o 3 rfl ?_
  refine cat_peek (catF I) (statF I) norm κ c 3 rfl fun v214 => ?_
  exact ret_step c (hk v214)

theorem part8 {Q'} (hk : G (catF I) (statF I) norm κ c (XB I c o) (T0 c 4) (AB (catF I) (statF I) c 8 8) (iprop(PostR c ∗ R))
      ⊢ Q' ⟨k0_pay59 (kHead (I.v c) 4), k0_pay60 (qF I c) (kHead (I.k c) 4), k0_pay61 (qF I c) (kHead (I.k c) 4)⟩) (v2 : BitVec 32) (v214 : Vec F S128x512 .bf16) :
    G (catF I) (statF I) norm κ c (XB I c o) (T0 c 3) (AB (catF I) (statF I) c 6 6) (iprop(PostR c ∗ R))
      ⊢ wpc c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (qF I c) (k0_pay46 (qF I c) (kHead (I.k c) 3)) (k0_pay48 (qF I c) (kHead (I.k c) 3)) (k0_pay49 (qF I c) (kHead (I.k c) 3) (kHead (I.v c) 3)) (k0_pay50 (qF I c) (kHead (I.k c) 3) (kHead (I.v c) 3)) v214) Q' := by
  rw [k0_part8_eq_skeleton]
  unfold k0_part8_skel
  refine cat_put (catF I) (statF I) norm κ c 3 rfl (cat_row I c 3) ?_
  refine stat_peek1 (catF I) (statF I) norm κ c 3 0 rfl ?_
  refine stat_store_m (catF I) (statF I) norm κ c 3 rfl (stat_m I c 3) ?_
  refine stat_peek2 (catF I) (statF I) norm κ c 3 1 rfl ?_
  refine stat_store_l (catF I) (statF I) norm κ c 3 6 7 rfl rfl rfl (stat_l I c 3) ?_
  refine own_if (catF I) (statF I) norm κ c 6 (by clear hk; revert c; decide) (by clear hk; revert c; decide) (by clear hk; revert c; decide) (own_low I c 3 6 rfl) (own_stat I c 3 6 rfl) ?_
  refine send_if (catF I) (statF I) norm κ c 6 (by clear hk; revert c; decide) rfl (by clear hk; revert c; decide) rfl (by clear hk; revert c; decide) rfl (by clear hk; revert c; decide) rfl (by clear hk; revert c; decide) rfl rfl ?_
  refine own_if (catF I) (statF I) norm κ c 7 (by clear hk; revert c; decide) (by clear hk; revert c; decide) (by clear hk; revert c; decide) (own_high I c 3 7 rfl) (own_stat I c 3 7 rfl) ?_
  refine send_if (catF I) (statF I) norm κ c 7 (by clear hk; revert c; decide) rfl (by clear hk; revert c; decide) rfl (by clear hk; revert c; decide) rfl (by clear hk; revert c; decide) rfl (by clear hk; revert c; decide) rfl rfl ?_
  refine k_load (catF I) (statF I) norm κ I c o 4 rfl ?_
  refine v_load (catF I) (statF I) norm κ I c o 4 rfl ?_
  exact ret_step c hk

theorem part9 {Q'} (hk : G (catF I) (statF I) norm κ c (XB I c o) (T0 c 5) (AB (catF I) (statF I) c 10 10) (iprop(PostR c ∗ R))
      ⊢ Q' ((k0_pay73 (qF I c)))) (v2 : BitVec 32) :
    G (catF I) (statF I) norm κ c (XB I c o) (T0 c 4) (AB (catF I) (statF I) c 8 8) (iprop(PostR c ∗ R))
      ⊢ wpc c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (qF I c) (k0_pay59 (kHead (I.v c) 4)) (k0_pay60 (qF I c) (kHead (I.k c) 4)) (k0_pay61 (qF I c) (kHead (I.k c) 4))) Q' := by
  rw [k0_part9_eq_skeleton]
  unfold k0_part9_skel
  refine cat_store (catF I) (statF I) norm κ c 4 rfl (cat_row I c 4) ?_
  refine stat_peek1 (catF I) (statF I) norm κ c 4 0 rfl ?_
  refine stat_store_m (catF I) (statF I) norm κ c 4 rfl (stat_m I c 4) ?_
  refine stat_peek2 (catF I) (statF I) norm κ c 4 1 rfl ?_
  refine stat_store_l (catF I) (statF I) norm κ c 4 8 9 rfl rfl rfl (stat_l I c 4) ?_
  refine own_if (catF I) (statF I) norm κ c 8 (by clear hk; revert c; decide) (by clear hk; revert c; decide) (by clear hk; revert c; decide) (own_low I c 4 8 rfl) (own_stat I c 4 8 rfl) ?_
  refine send_if (catF I) (statF I) norm κ c 8 (by clear hk; revert c; decide) rfl (by clear hk; revert c; decide) rfl (by clear hk; revert c; decide) rfl (by clear hk; revert c; decide) rfl (by clear hk; revert c; decide) rfl rfl ?_
  refine own_if (catF I) (statF I) norm κ c 9 (by clear hk; revert c; decide) (by clear hk; revert c; decide) (by clear hk; revert c; decide) (own_high I c 4 9 rfl) (own_stat I c 4 9 rfl) ?_
  refine send_if (catF I) (statF I) norm κ c 9 (by clear hk; revert c; decide) rfl (by clear hk; revert c; decide) rfl (by clear hk; revert c; decide) rfl (by clear hk; revert c; decide) rfl (by clear hk; revert c; decide) rfl rfl ?_
  exact ret_step c hk

theorem part10 {Q'} (hk : G (catF I) (statF I) norm κ c (XB I c o) (iprop(Src (catF I) (statF I) c 11 ∗ T0 c 6)) (AB (catF I) (statF I) c 11 11) (iprop(PostR c ∗ R))
      ⊢ Q' ⟨k0_pay82 (k0_pay73 (qF I c)) (kHead (I.k c) 5), k0_pay85 (k0_pay73 (qF I c)) (kHead (I.k c) 5) (kHead (I.v c) 5)⟩) (v2 : BitVec 32) :
    G (catF I) (statF I) norm κ c (XB I c o) (T0 c 5) (AB (catF I) (statF I) c 10 10) (iprop(PostR c ∗ R))
      ⊢ wpc c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (k0_pay73 (qF I c))) Q' := by
  rw [k0_part10_eq_skeleton]
  unfold k0_part10_skel
  refine k_load (catF I) (statF I) norm κ I c o 5 rfl ?_
  refine v_load (catF I) (statF I) norm κ I c o 5 rfl ?_
  refine cat_store (catF I) (statF I) norm κ c 5 rfl (cat_row I c 5) ?_
  refine stat_peek1 (catF I) (statF I) norm κ c 5 0 rfl ?_
  refine stat_store_m (catF I) (statF I) norm κ c 5 rfl (stat_m I c 5) ?_
  refine stat_peek2 (catF I) (statF I) norm κ c 5 1 rfl ?_
  refine stat_store_l (catF I) (statF I) norm κ c 5 10 11 rfl rfl rfl (stat_l I c 5) ?_
  refine own_if (catF I) (statF I) norm κ c 10 (by clear hk; revert c; decide) (by clear hk; revert c; decide) (by clear hk; revert c; decide) (own_low I c 5 10 rfl) (own_stat I c 5 10 rfl) ?_
  refine send_if (catF I) (statF I) norm κ c 10 (by clear hk; revert c; decide) rfl (by clear hk; revert c; decide) rfl (by clear hk; revert c; decide) rfl (by clear hk; revert c; decide) rfl (by clear hk; revert c; decide) rfl rfl ?_
  exact ret_step c hk

theorem part11 {Q'} (hk : G (catF I) (statF I) norm κ c (XB I c o) (iprop(Src (catF I) (statF I) c 12 ∗ Src (catF I) (statF I) c 13 ∗ T0 c 7)) (AB (catF I) (statF I) c 12 12) (iprop(PostR c ∗ R))
      ⊢ Q' ⟨k0_pay92 (qF I c) (kHead (I.k c) 6) (kHead (I.v c) 6), k0_pay96 (qF I c) (kHead (I.k c) 6), k0_pay97 (qF I c) (kHead (I.k c) 6) (kHead (I.v c) 6), 12#32⟩) (v2 : BitVec 32) :
    G (catF I) (statF I) norm κ c (XB I c o) (iprop(Src (catF I) (statF I) c 11 ∗ T0 c 6)) (AB (catF I) (statF I) c 11 11) (iprop(PostR c ∗ R))
      ⊢ wpc c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (qF I c) (k0_pay82 (k0_pay73 (qF I c)) (kHead (I.k c) 5)) (k0_pay85 (k0_pay73 (qF I c)) (kHead (I.k c) 5) (kHead (I.v c) 5))) Q' := by
  rw [k0_part11_eq_skeleton]
  unfold k0_part11_skel
  refine own_if (catF I) (statF I) norm κ c 11 (by clear hk; revert c; decide) (by clear hk; revert c; decide) (by clear hk; revert c; decide) (own_high I c 5 11 rfl) (own_stat I c 5 11 rfl) ?_
  refine send_if (catF I) (statF I) norm κ c 11 (by clear hk; revert c; decide) rfl (by clear hk; revert c; decide) rfl (by clear hk; revert c; decide) rfl (by clear hk; revert c; decide) rfl (by clear hk; revert c; decide) rfl rfl ?_
  refine k_load (catF I) (statF I) norm κ I c o 6 rfl ?_
  refine v_load (catF I) (statF I) norm κ I c o 6 rfl ?_
  refine cat_store (catF I) (statF I) norm κ c 6 rfl (cat_row I c 6) ?_
  refine stat_peek1 (catF I) (statF I) norm κ c 6 0 rfl ?_
  refine stat_store_m (catF I) (statF I) norm κ c 6 rfl (stat_m I c 6) ?_
  refine stat_peek2 (catF I) (statF I) norm κ c 6 1 rfl ?_
  refine stat_store_l (catF I) (statF I) norm κ c 6 12 13 rfl rfl rfl (stat_l I c 6) ?_
  exact ret_step c hk

theorem part12 {Q'} (hk : G (catF I) (statF I) norm κ c (XB I c o) (T1 (catF I) c 7) (AB (catF I) (statF I) c 14 14) (iprop(PostR c ∗ R))
      ⊢ Q' ⟨k0_pay103 (qF I c) (kHead (I.k c) 7), k0_pay105 (qF I c) (kHead (I.k c) 7), k0_pay106 (qF I c) (kHead (I.k c) 7) (kHead (I.v c) 7)⟩) (v2 : BitVec 32) (c12_i32_213 : BitVec 32) :
    G (catF I) (statF I) norm κ c (XB I c o) (iprop(Src (catF I) (statF I) c 12 ∗ Src (catF I) (statF I) c 13 ∗ T0 c 7)) (AB (catF I) (statF I) c 12 12) (iprop(PostR c ∗ R))
      ⊢ wpc c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c v2 (qF I c) (k0_pay92 (qF I c) (kHead (I.k c) 6) (kHead (I.v c) 6)) (k0_pay96 (qF I c) (kHead (I.k c) 6)) (k0_pay97 (qF I c) (kHead (I.k c) 6) (kHead (I.v c) 6)) c12_i32_213) Q' := by
  rw [k0_part12_eq_skeleton]
  unfold k0_part12_skel
  refine own_if (catF I) (statF I) norm κ c 12 (by clear hk; revert c; decide) (by clear hk; revert c; decide) (by clear hk; revert c; decide) (own_low I c 6 12 rfl) (own_stat I c 6 12 rfl) ?_
  refine send_if (catF I) (statF I) norm κ c 12 (by clear hk; revert c; decide) rfl (by clear hk; revert c; decide) rfl (by clear hk; revert c; decide) rfl (by clear hk; revert c; decide) rfl (by clear hk; revert c; decide) rfl rfl ?_
  refine own_if (catF I) (statF I) norm κ c 13 (by clear hk; revert c; decide) (by clear hk; revert c; decide) (by clear hk; revert c; decide) (own_high I c 6 13 rfl) (own_stat I c 6 13 rfl) ?_
  refine send_if (catF I) (statF I) norm κ c 13 (by clear hk; revert c; decide) rfl (by clear hk; revert c; decide) rfl (by clear hk; revert c; decide) rfl (by clear hk; revert c; decide) rfl (by clear hk; revert c; decide) rfl rfl ?_
  refine k_load (catF I) (statF I) norm κ I c o 7 rfl ?_
  refine v_load (catF I) (statF I) norm κ I c o 7 rfl ?_
  refine cat_store (catF I) (statF I) norm κ c 7 rfl (cat_row I c 7) ?_
  refine stat_peek1 (catF I) (statF I) norm κ c 7 0 rfl ?_
  exact ret_step c hk

end Cert.KernelIdeal.Attn

end
-- ==== Proof.Turns.lean ====
/- How one phase of the kernel hands over to the next. -/
module

public import proofs.«01_k».proof.Proof.Stores

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (cat : Dev nD → Vec F S1024x512 .bf16) (stat : Dev nD → Vec F S8x2x512 .f32) (norm : Vec F S1024x512 .bf16)
  (κ : GSem nD τ sig → ℕ) (c : Dev nD)

local notation "CC" => Ctx cat stat norm κ c

variable {α : Type} {X A A' B B' R R' P : SP F} {Q : α → SP F}

/-- Exchanging everything but the operands by an entailment. -/
theorem turn (h : iprop(A ∗ B ∗ R) ⊢ iprop(A' ∗ B' ∗ R')) (hk : G cat stat norm κ c X A' B' R' ⊢ P) : G cat stat norm κ c X A B R ⊢ P := by
  iintro ⟨#Hc, HX, HABR⟩
  iapply hk
  isplitr; · iexact Hc
  isplitl [HX]; · iexact HX
  iapply h; iexact HABR

/-! ## What each phase brings from the start -/

/-- For the waits on what arrives. -/
def L1 : sProp 𝕄 := bigSep (others c) fun s => rwTok c s
/-- For sending the finished rows. -/
def L2 : sProp 𝕄 := bigSep (others c) fun p => iprop(dutyTok ER (kc 4 c p) 0 p ∗ dutyTok ER (kc 5 p c) 0 c)
/-- For the waits on the others' finished rows. -/
def L3 : sProp 𝕄 := bigSep (others c) fun s => iprop(cred (tallyAt (kc 5 c s) () Nd) ∗ atPos ER (kc 5 c s) 0 ∅ 0)
/-- For the waits on the copies sent. -/
def L4 : sProp 𝕄 := bigSep (others c) fun p => iprop(atPos ER (kc 0 c p) 0 ∅ 0 ∗ atPos ER (kc 2 c p) 0 ∅ 0 ∗ atPos ER (kc 4 c p) 0 ∅ 0)
/-- For the signals at the end. -/
def L5 : sProp 𝕄 := bigSep (others c) fun p => dutyTok ER (exC p c) 0 c
/-- For the waits at the end. -/
def L6 : sProp 𝕄 := bigSep (others c) fun p => iprop(cred (tallyAt (exC c p) () 1) ∗ atPos ER (exC c p) 0 ∅ 0)
/-- The credits of the copies sent first. -/
def C02 : sProp 𝕄 := bigSep (others c) fun p => iprop(cred (tallyAt (kc 0 c p) () Na) ∗ cred (tallyAt (kc 2 c p) () Nb))

/-- What the barrier's wait leaves, with what the later phases bring. -/
def R0 : sProp 𝕄 := iprop(PostR c ∗ L1 c ∗ L2 c ∗ L3 c ∗ L4 c ∗ L5 c ∗ L6 c)

/-- Beside the waits on what arrives. -/
def R1 : sProp 𝕄 :=
  iprop((C02 c ∗ ((statsL c ↦[statsRow c]{fullShare} statsF stat c) ∗ (osegL c ↦[osegRow c]{fullShare} osegF cat c)) ∗ Src cat stat c c)
    ∗ PostR c ∗ L2 c ∗ L3 c ∗ L4 c ∗ L5 c ∗ L6 c)

/-- From the exchange to the waits on what arrives. -/
theorem turn1 (hk : G cat stat norm κ c X A (RW cat stat c 0) (iprop(R1 cat stat c ∗ R)) ⊢ P) :
    G cat stat norm κ c X A (AB cat stat c 16 16) (iprop(PostR c ∗ L1 c ∗ L2 c ∗ L3 c ∗ L4 c ∗ L5 c ∗ L6 c ∗ R)) ⊢ P := by
  refine turn cat stat norm κ c ?_ hk
  unfold AB RW R1 ownS ownSrc L1 C02
  rw [if_pos c.isLt, if_pos c.isLt, rem_all, dn_all, rem_zero, dn_zero]
  iintro ⟨HA, ⟨-, Hcr, HO, Hown, Hsrc⟩, HP, H1, H2, H3, H4, H5, H6, HR⟩
  isplitl [HA]; · iexact HA
  isplitl [H1 HO]
  · isplitl [H1]; · iexact H1
    isplitr
    · rw [bigSep_empty]; iempintro
    iexact HO
  isplitr [HR]
  · isplitl [Hcr Hown Hsrc]
    · isplitl [Hcr]; · iexact Hcr
      isplitl [Hown]; · iexact Hown
      iexact Hsrc
    isplitl [HP]; · iexact HP
    isplitl [H2]; · iexact H2
    isplitl [H3]; · iexact H3
    isplitl [H4]; · iexact H4
    isplitl [H5]; · iexact H5
    iexact H6
  iexact HR

/-- The statistics received, block by block, are the whole buffer. -/
theorem stats_all (f : Vec F S16x2x512 .f32) :
    ((statsL c ↦[Finset.univ]{fullShare} f) : sProp 𝕄) = bigSep (Finset.univ : Finset (Dev nD)) fun s => iprop(statsL c ↦[statsRow s]{fullShare} f) := by
  have hu : (Finset.univ : Finset S16x2x512.Idx) = (Finset.univ : Finset (Dev nD)).biUnion statsRow := by
    ext i; simp only [Finset.mem_univ, Finset.mem_biUnion, statsRow, Finset.mem_filter, true_and, true_iff]; exact ⟨i 0, rfl⟩
  refine (congrArg (fun S => ((statsL c ↦[S]{fullShare} f) : sProp 𝕄)) hu).trans (pointsTo_biUnion _ _ fun s _ s' _ hne => ?_)
  rw [Finset.disjoint_left]; intro i hi hj
  simp only [statsRow, Finset.mem_filter, Finset.mem_univ, true_and] at hi hj
  exact hne (Fin.ext (hi.symm.trans hj))

/-- The outputs received, block by block, are the whole buffer. -/
theorem oseg_all (f : Vec F S16x64x512 .bf16) :
    ((osegL c ↦[Finset.univ]{fullShare} f) : sProp 𝕄) = bigSep (Finset.univ : Finset (Dev nD)) fun s => iprop(osegL c ↦[osegRow s]{fullShare} f) := by
  have hu : (Finset.univ : Finset S16x64x512.Idx) = (Finset.univ : Finset (Dev nD)).biUnion osegRow := by
    ext i; simp only [Finset.mem_univ, Finset.mem_biUnion, osegRow, Finset.mem_filter, true_and, true_iff]; exact ⟨i 0, rfl⟩
  refine (congrArg (fun S => ((osegL c ↦[S]{fullShare} f) : sProp 𝕄)) hu).trans (pointsTo_biUnion _ _ fun s _ s' _ hne => ?_)
  rw [Finset.disjoint_left]; intro i hi hj
  simp only [osegRow, Finset.mem_filter, Finset.mem_univ, true_and] at hi hj
  exact hne (Fin.ext (hi.symm.trans hj))

/-- The row buffer, block by block. -/
theorem cat_all (q : PosShare TreeShare) (f : Vec F S1024x512 .bf16) :
    ((catL c ↦[Finset.univ]{q} f) : sProp 𝕄) = bigSep (Finset.univ : Finset (Dev nD)) fun s => iprop(catL c ↦[catSeg s]{q} f) := by
  have hu : (Finset.univ : Finset S1024x512.Idx) = (Finset.univ : Finset (Dev nD)).biUnion catSeg := by
    ext i; simp only [Finset.mem_univ, Finset.mem_biUnion, catSeg, Finset.mem_filter, true_and, true_iff]
    have h : (i 0).val < 1024 := (i 0).isLt
    exact ⟨⟨(i 0).val / 64, by have : nD = 16 := rfl; omega⟩, rfl⟩
  refine (congrArg (fun S => ((catL c ↦[S]{q} f) : sProp 𝕄)) hu).trans (pointsTo_biUnion _ _ fun s _ s' _ hne => ?_)
  rw [Finset.disjoint_left]; intro i hi hj
  simp only [catSeg, Finset.mem_filter, Finset.mem_univ, true_and] at hi hj
  exact hne (Fin.ext (hi.symm.trans hj))

/-- What stays beside the buffers once everything has arrived. -/
def R2 : sProp 𝕄 :=
  iprop((C02 c ∗ (statL c ↦[statRow (c.val / 2)]{hf c} stat c) ∗ (bigSep (others c) fun s => iprop(atPos ER (kc 1 c s) 1 ∅ 0 ∗ atPos ER (kc 3 c s) 1 ∅ 0))
      ∗ (bigSep (others c) fun s => iprop(catL s ↦[catSeg c]{fullShare} cat s)) ∗ Ow c ∅ ∅ (others c) (others c))
    ∗ PostR c ∗ L2 c ∗ L3 c ∗ L4 c ∗ L5 c ∗ L6 c)

/-- From the last wait on what arrives to the combination. -/
theorem turn2 (hk : G cat stat norm κ c X (SA cat stat c) (catL c ↦[catSeg c]{fullShare} cat c) (iprop(R2 cat stat c ∗ R)) ⊢ P) :
    G cat stat norm κ c X A (RW cat stat c 16) (iprop(R1 cat stat c ∗ R)) ⊢ P := by
  refine turn cat stat norm κ c ?_ hk
  unfold RW R1 R2 rwGot SA Src
  simp only [bs_sep]
  rw [rem_all, dn_all, stats_all, oseg_all, bs_erase (Finset.mem_univ c), bs_erase (Finset.mem_univ c)]
  iintro ⟨-, ⟨-, ⟨Hat, Hst, Hos, Hcat⟩, HO⟩, ⟨⟨Hcr, ⟨Hs, Ho⟩, ⟨Hc, Hstat⟩⟩, HP⟩, HR⟩
  isplitl [Hst Hos Hs Ho]
  · isplitl [Hst Hs]
    · isplitl [Hs]; · iexact Hs
      iexact Hst
    isplitl [Ho]; · iexact Ho
    iexact Hos
  isplitl [Hc]; · iexact Hc
  isplitr [HR]
  · isplitr [HP]
    · isplitl [Hcr]; · iexact Hcr
      isplitl [Hstat]; · iexact Hstat
      isplitl [Hat]; · iexact Hat
      isplitl [Hcat]; · iexact Hcat
      iexact HO
    iexact HP
  iexact HR

/-- What only the end takes up again. -/
def Kp : sProp 𝕄 :=
  iprop((statL c ↦[statRow (c.val / 2)]{hf c} stat c) ∗ (bigSep (others c) fun s => iprop(atPos ER (kc 1 c s) 1 ∅ 0 ∗ atPos ER (kc 3 c s) 1 ∅ 0))
    ∗ atPos ER (barC c) 1 ∅ 0)
/-- That the peers have opened the cells of the signals at the end. -/
def Rex : sProp 𝕄 := bigSep (others c) fun p => reached ER (exC p c) 0
/-- Beside the sending of the finished rows. -/
def R3 : sProp 𝕄 :=
  iprop(Kp stat c ∗ Rex c ∗ C02 c ∗ (catL c ↦[catSeg c]{lf c} norm) ∗ L3 c ∗ L4 c ∗ L5 c ∗ L6 c)

/-- From the combination to the sending of the finished rows. -/
theorem turn3 (hk : G cat stat norm κ c X A (DS cat norm c 0) (iprop(R3 stat norm c ∗ R)) ⊢ P) :
    G cat stat norm κ c X A (catL c ↦[catSeg c]{fullShare} norm) (iprop(R2 cat stat c ∗ R)) ⊢ P := by
  refine turn cat stat norm κ c ?_ hk
  unfold DS R2 R3 dD PostR L2 Kp Rex
  simp only [bs_sep]
  rw [rem_zero, dn_zero, leaves_eq]
  iintro ⟨HA, ⟨Hown, Hlf⟩, ⟨⟨Hcr, Hstat, Hat, Hcat, HO⟩, ⟨Hb, Hr5, Hre⟩, ⟨Ht4, Ht5⟩, HL⟩, HR⟩
  isplitl [HA]; · iexact HA
  isplitl [Hlf Hcat Ht4 Ht5 Hr5 HO]
  · isplitl [Hlf Hcat Ht4 Ht5 Hr5]
    · isplitl [Hlf Hcat]
      · isplitl [Hcat]; · iexact Hcat
        iexact Hlf
      isplitl [Ht4 Ht5]
      · isplitl [Ht4]; · iexact Ht4
        iexact Ht5
      iexact Hr5
    isplitr
    · rw [bigSep_empty]; iempintro
    iexact HO
  isplitr [HR]
  · isplitl [Hstat Hat Hb]
    · isplitl [Hstat]; · iexact Hstat
      isplitl [Hat]; · iexact Hat
      iexact Hb
    isplitl [Hre]; · iexact Hre
    isplitl [Hcr]; · iexact Hcr
    isplitl [Hown]; · iexact Hown
    iexact HL
  iexact HR

/-- The credits of the copies of the finished rows. -/
def C4 : sProp 𝕄 := bigSep (others c) fun p => iprop(cred (tallyAt (kc 4 c p) () Nd))
/-- Beside the waits on the others' finished rows. -/
def R4 : sProp 𝕄 := iprop(Kp stat c ∗ Rex c ∗ C02 c ∗ C4 c ∗ L4 c ∗ L5 c ∗ L6 c)

/-- From the sending of the finished rows to the waits on the others'. -/
theorem turn4 (hk : G cat stat norm κ c X A (DW norm c 0) (iprop(R4 stat c ∗ R)) ⊢ P) :
    G cat stat norm κ c X A (DS cat norm c 16) (iprop(R3 stat norm c ∗ R)) ⊢ P := by
  refine turn cat stat norm κ c ?_ hk
  unfold DS DW R3 R4 C4 L3 ownLeaf
  rw [rem_all, dn_all, rem_zero, dn_zero, rows_zero, if_neg (Nat.not_lt_zero _), pointsTo_empty]
  iintro ⟨HA, ⟨-, Hcr, HO⟩, ⟨HK, He, HC, Hown, H3, HL⟩, HR⟩
  isplitl [HA]; · iexact HA
  isplitl [H3 HO Hown]
  · isplitl [H3]; · iexact H3
    isplitr
    · rw [bigSep_empty]; iempintro
    isplitl [HO]; · iexact HO
    isplitr
    · iempintro
    iexact Hown
  isplitr [HR]
  · isplitl [HK]; · iexact HK
    isplitl [He]; · iexact He
    isplitl [HC]; · iexact HC
    isplitl [Hcr]; · iexact Hcr
    iexact HL
  iexact HR

/-- The finished rows of all devices, as the waits leave them. -/
def Fin1 : sProp 𝕄 :=
  iprop((bigSep (others c) fun s => iprop(atPos ER (kc 5 c s) 1 ∅ 0 ∗ bigSep (others c) fun p => iprop(catL c ↦[catSeg s]{lf p} norm)))
    ∗ (catL c ↦[rows 0 (64 * 16)]{lf c} norm))
/-- Beside the waits on the copies sent. -/
def R5 : sProp 𝕄 := iprop(Kp stat c ∗ Fin1 norm c ∗ Rex c ∗ L5 c ∗ L6 c)

/-- From the waits on the others' finished rows to the waits on the copies sent. -/
theorem turn5 (hk : G cat stat norm κ c X A (SW stat norm c 0) (iprop(R5 stat norm c ∗ R)) ⊢ P) :
    G cat stat norm κ c X A (DW norm c 16) (iprop(R4 stat c ∗ R)) ⊢ P := by
  refine turn cat stat norm κ c ?_ hk
  unfold DW SW R4 R5 C4 C02 L4 swTok Fin1 ownLeaf
  rw [rem_all, dn_all, rem_zero, dn_zero, if_pos c.isLt, bs_sep (Φ := fun p => iprop(cred (tallyAt (kc 0 c p) () Na) ∗ cred (tallyAt (kc 2 c p) () Nb) ∗ cred (tallyAt (kc 4 c p) () Nd))),
    bs_sep (Φ := fun p => cred (tallyAt (kc 0 c p) () Na)) (Ψ := fun p => iprop(cred (tallyAt (kc 2 c p) () Nb) ∗ cred (tallyAt (kc 4 c p) () Nd))),
    bs_sep (Φ := fun p => cred (tallyAt (kc 2 c p) () Nb)), bs_sep (Φ := fun p => cred (tallyAt (kc 0 c p) () Na)) (Ψ := fun p => cred (tallyAt (kc 2 c p) () Nb))]
  iintro ⟨HA, ⟨-, Hd, HO, Hrows, -⟩, ⟨HK, He, ⟨H0, H2⟩, H4, Hat, HL⟩, HR⟩
  isplitl [HA]; · iexact HA
  isplitl [H0 H2 H4 Hat HO]
  · isplitl [H0 H2 H4 Hat]
    · isplitl [H0 H2 H4]
      · isplitl [H0]; · iexact H0
        isplitl [H2]; · iexact H2
        iexact H4
      iexact Hat
    isplitr
    · rw [bigSep_empty]; iempintro
    iexact HO
  isplitr [HR]
  · isplitl [HK]; · iexact HK
    isplitl [Hd Hrows]
    · isplitl [Hd]; · iexact Hd
      iexact Hrows
    isplitl [He]; · iexact He
    iexact HL
  iexact HR

/-- Beside the signals at the end. -/
def R6 : sProp 𝕄 := iprop(Kp stat c ∗ Fin1 norm c ∗ (bigSep (others c) fun p => swGot stat norm c p) ∗ L6 c)

/-- From the waits on the copies sent to the signals at the end. -/
theorem turn6 (hk : G cat stat norm κ c X A (ES c 0) (iprop(R6 stat norm c ∗ R)) ⊢ P) :
    G cat stat norm κ c X A (SW stat norm c 16) (iprop(R5 stat norm c ∗ R)) ⊢ P := by
  refine turn cat stat norm κ c ?_ hk
  unfold SW ES R5 R6 L5 Rex
  rw [rem_all, dn_all, remR_zero, bs_sep]
  iintro ⟨HA, ⟨-, Hg, HO⟩, ⟨HK, Hf, He, Ht, HL⟩, HR⟩
  isplitl [HA]; · iexact HA
  isplitl [He Ht HO]
  · isplitl [He Ht]
    · isplitl [Ht]; · iexact Ht
      iexact He
    iexact HO
  isplitr [HR]
  · isplitl [HK]; · iexact HK
    isplitl [Hf]; · iexact Hf
    isplitl [Hg]; · iexact Hg
    iexact HL
  iexact HR

/-- Beside the waits at the end. -/
def R7 : sProp 𝕄 := iprop(Kp stat c ∗ Fin1 norm c ∗ (bigSep (others c) fun p => swGot stat norm c p))

/-- From the signals at the end to the waits at the end. -/
theorem turn7 (hk : G cat stat norm κ c X A (EW c 0) (iprop(R7 stat norm c ∗ R)) ⊢ P) :
    G cat stat norm κ c X A (ES c 15) (iprop(R6 stat norm c ∗ R)) ⊢ P := by
  refine turn cat stat norm κ c ?_ hk
  unfold EW ES R6 R7 L6
  rw [remR_all, remR_zero, dnR_zero]
  iintro ⟨HA, ⟨-, HO⟩, ⟨HK, Hf, Hg, HL⟩, HR⟩
  isplitl [HA]; · iexact HA
  isplitl [HL HO]
  · isplitl [HL]; · iexact HL
    isplitr
    · rw [bigSep_empty]; iempintro
    iexact HO
  isplitr [HR]
  · isplitl [HK]; · iexact HK
    isplitl [Hf]; · iexact Hf
    iexact Hg
  iexact HR

/-! ## The end -/

/-- A finite conjunction, cut in two by a condition. -/
theorem bs_filter (S : Finset (Dev nD)) (p : Dev nD → Prop) [DecidablePred p] (Φ : Dev nD → SP F) :
    bigSep S Φ = iprop(bigSep (S.filter p) Φ ∗ bigSep (S.filter fun i => ¬ p i) Φ) := bigSep_filter_split S p

/-- The order of two finite conjunctions does not matter. -/
theorem bs_swap (S T : Finset (Dev nD)) (Φ : Dev nD → Dev nD → SP F) :
    (bigSep S fun i => bigSep T fun j => Φ i j) = bigSep T fun j => bigSep S fun i => Φ i j := by
  induction S using Finset.induction_on with
  | empty => simp only [bigSep_empty, bigSep_emp_const]
  | insert i S hi ih =>
    rw [bs_insert hi, ih, ← bs_sep]
    exact bigSep_congr fun j _ => (bs_insert hi (Φ := fun i => Φ i j)).symm

/-- The statistics' rows, each held twice by half, are the whole buffer. -/
theorem stat_join (f : Vec F S8x2x512 .f32) :
    (bigSep (Finset.univ : Finset (Dev nD)) fun p => iprop(statL c ↦[statRow (p.val / 2)]{hf p} f)) ⊢ ((statL c ↦[Finset.univ]{fullShare} f) : sProp 𝕄) := by
  have half : ∀ (S : Finset (Dev nD)) (q : PosShare TreeShare) (b : ℕ), (∀ p ∈ S, hf p = q ∧ p.val % 2 = b) → (∀ h : Fin 8, ∃ p ∈ S, p.val / 2 = h.val) →
      (bigSep S fun p => iprop(statL c ↦[statRow (p.val / 2)]{hf p} f)) = ((statL c ↦[Finset.univ]{q} f) : sProp 𝕄) := by
    intro S q b hS hc
    have hu : (Finset.univ : Finset S8x2x512.Idx) = S.biUnion fun p => statRow (p.val / 2) := by
      ext i; simp only [Finset.mem_univ, Finset.mem_biUnion, statRow, Finset.mem_filter, true_and, true_iff]
      obtain ⟨p, hp, e⟩ := hc (i 0); exact ⟨p, hp, e.symm⟩
    have e1 : (bigSep S fun p => iprop(statL c ↦[statRow (p.val / 2)]{hf p} f)) = (bigSep S fun p => ((statL c ↦[statRow (p.val / 2)]{q} f) : sProp 𝕄)) :=
      bigSep_congr fun p hp => by
        obtain ⟨h1, -⟩ := hS p hp
        generalize hf p = q' at h1
        rw [h1]
    have hd : ∀ s ∈ S, ∀ s' ∈ S, s ≠ s' → Disjoint (statRow (s.val / 2)) (statRow (s'.val / 2)) := by
      intro s hs s' hs' hne
      rw [Finset.disjoint_left]; intro i hi hj
      simp only [statRow, Finset.mem_filter, Finset.mem_univ, true_and] at hi hj
      have h1 := (hS s hs).2; have h2 := (hS s' hs').2
      exact hne (Fin.ext (by omega))
    have e2 : ((statL c ↦[S.biUnion fun p => statRow (p.val / 2)]{q} f) : sProp 𝕄) = (bigSep S fun p => ((statL c ↦[statRow (p.val / 2)]{q} f) : sProp 𝕄)) :=
      pointsTo_biUnion S _ hd
    rw [e1, ← e2, ← hu]
  have he := half (Finset.univ.filter fun p : Dev nD => p.val % 2 = 0) (hf (0 : Dev nD)) 0
    (fun p hp => by
      have h0 : p.val % 2 = 0 := (Finset.mem_filter.mp hp).2
      exact ⟨congrArg (ShareLeaves.leaf 1 fullShare) (Fin.ext h0), h0⟩)
    (fun h => ⟨⟨2 * h.val, by have : nD = 16 := rfl; omega⟩, Finset.mem_filter.mpr ⟨Finset.mem_univ _, by dsimp only; omega⟩, by dsimp only; omega⟩)
  have ho := half (Finset.univ.filter fun p : Dev nD => ¬ p.val % 2 = 0) (hf (1 : Dev nD)) 1
    (fun p hp => by
      have h1 : p.val % 2 = 1 := by have := (Finset.mem_filter.mp hp).2; omega
      exact ⟨congrArg (ShareLeaves.leaf 1 fullShare) (Fin.ext h1), h1⟩)
    (fun h => ⟨⟨2 * h.val + 1, by have : nD = 16 := rfl; omega⟩, Finset.mem_filter.mpr ⟨Finset.mem_univ _, by dsimp only; omega⟩, by dsimp only; omega⟩)
  rw [bs_filter Finset.univ (fun p : Dev nD => p.val % 2 = 0), he, ho, stat_halves c Finset.univ f 0 1 rfl rfl]

/-- What the body leaves: the buffers, each counter's cell one round on, nothing owed. -/
def Fin0 : sProp 𝕄 :=
  iprop(((∃ f : Vec F S1024x512 .bf16, catL c ↦[Finset.univ]{fullShare} f) ∗ (∃ f : Vec F S8x2x512 .f32, statL c ↦[Finset.univ]{fullShare} f)
      ∗ (∃ f : Vec F S16x64x512 .bf16, osegL c ↦[Finset.univ]{fullShare} f) ∗ (∃ f : Vec F S16x2x512 .f32, statsL c ↦[Finset.univ]{fullShare} f))
    ∗ (atPos ER (barC c) 1 ∅ 0 ∗ (bigSep (others c) fun s => iprop(atPos ER (kc 1 c s) 1 ∅ 0 ∗ atPos ER (kc 3 c s) 1 ∅ 0))
      ∗ (bigSep (others c) fun s => atPos ER (kc 5 c s) 1 ∅ 0)
      ∗ (bigSep (others c) fun s => iprop(atPos ER (kc 0 c s) 1 ∅ 0 ∗ atPos ER (kc 2 c s) 1 ∅ 0 ∗ atPos ER (kc 4 c s) 1 ∅ 0))
      ∗ (bigSep (others c) fun p => atPos ER (exC c p) 1 ∅ 0))
    ∗ Ow c ∅ ∅ ∅ ∅)

/-- What is held after the last wait gives that. -/
theorem the_end : iprop(SA cat stat c ∗ EW c 15 ∗ R7 stat norm c) ⊢ (Fin0 c : SP F) := by
  unfold SA EW R7 Kp Fin1 swGot Fin0
  simp only [bs_sep]
  rw [remR_all, dnR_all]
  iintro ⟨⟨Hst, Hos⟩, ⟨-, Hx, HO⟩, ⟨Hs0, H13, Hb⟩, ⟨⟨H5, Hlv⟩, Hrows⟩, H024, Hs1, Hl1⟩
  isplitl [Hst Hos Hs0 Hs1 Hlv Hrows Hl1]
  · isplitl [Hlv Hrows Hl1]
    · iexists norm
      have e : ((catL c ↦[Finset.univ]{fullShare} norm) : sProp 𝕄)
          = iprop((catL c ↦[rows 0 (64 * 16)]{lf c} norm) ∗ bigSep (others c) fun s => iprop((catL c ↦[catSeg c]{lf s} norm) ∗ bigSep (others c) fun p => iprop(catL c ↦[catSeg p]{lf s} norm))) := by
        have hr : rows 0 (64 * 16) = (Finset.univ : Finset S1024x512.Idx) := by
          ext i; simp only [rows, Finset.mem_filter, Finset.mem_univ, true_and, iff_true]
          have h : (i 0).val < 1024 := (i 0).isLt; omega
        rw [leaves_any, bs_erase (Finset.mem_univ c), hr]
        refine congrArg (fun P => iprop((catL c ↦[Finset.univ]{lf c} norm) ∗ P)) (bigSep_congr fun s _ => ?_)
        rw [cat_all, bs_erase (Finset.mem_univ c)]
      rw [e]
      isplitl [Hrows]; · iexact Hrows
      rw [bs_sep]
      isplitl [Hl1]; · iexact Hl1
      have sw := bs_swap (others c) (others c) fun p s => ((catL c ↦[catSeg p]{lf s} norm) : sProp 𝕄)
      rw [← sw]
      iexact Hlv
    isplitl [Hs0 Hs1]
    · iexists (stat c)
      iapply (stat_join c (stat c))
      rw [bs_erase (Finset.mem_univ c)]
      isplitl [Hs0]; · iexact Hs0
      iexact Hs1
    isplitl [Hos]; · iexists _; iexact Hos
    iexists _; iexact Hst
  isplitr [HO]
  · isplitl [Hb]; · iexact Hb
    isplitl [H13]; · iexact H13
    isplitl [H5]; · iexact H5
    isplitl [H024]; · iexact H024
    iexact Hx
  iexact HO

end Cert.KernelIdeal.Attn

end
-- ==== Proof.Gather.lean ====
/- The parts of the body that wait for the partial results and load them, one lemma each, and what they combine to. -/
module

public import proofs.«01_k».proof.Proof.Parts
public import proofs.«01_k».proof.Proof.Turns

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

/-! ## The values combined -/

/-- The greatest of the first seven maxima. -/
def top7 (cat : Dev nD → Vec F S1024x512 .bf16) (stat : Dev nD → Vec F S8x2x512 .f32) (c : Dev nD) : FVec F S1x512 .f32 := k0_pay147 (k0_pay115 (ldM stat c 0 0)) (k0_pay116 (ldM stat c 1 0)) (k0_pay117 (ldM stat c 2 0)) (k0_pay118 (ldM stat c 3 0)) (k0_pay119 (ldM stat c 4 0)) (k0_pay120 (ldM stat c 5 0)) (k0_pay121 (ldM stat c 6 0))
/-- The greatest maximum. -/
def top (cat : Dev nD → Vec F S1024x512 .bf16) (stat : Dev nD → Vec F S8x2x512 .f32) (c : Dev nD) : FVec F S1x512 .f32 := k0_pay148 (k0_pay122 (ldM stat c 7 0)) (k0_pay123 (ldM stat c 8 0)) (k0_pay124 (ldM stat c 9 0)) (k0_pay125 (ldM stat c 10 0)) (k0_pay126 (ldM stat c 11 0)) (k0_pay127 (ldM stat c 12 0)) (k0_pay128 (ldM stat c 13 0)) (k0_pay129 (ldM stat c 14 0)) (k0_pay130 (ldM stat c 15 0)) (top7 cat stat c)
/-- The outputs of the first three devices, each by its weight. -/
def sumO3 (cat : Dev nD → Vec F S1024x512 .bf16) (stat : Dev nD → Vec F S8x2x512 .f32) (c : Dev nD) : FVec F S64x512 .f32 := k0_pay152 (k0_pay115 (ldM stat c 0 0)) (k0_pay116 (ldM stat c 1 0)) (k0_pay117 (ldM stat c 2 0)) (k0_pay122 (ldM stat c 7 0)) (k0_pay123 (ldM stat c 8 0)) (k0_pay124 (ldM stat c 9 0)) (k0_pay125 (ldM stat c 10 0)) (k0_pay126 (ldM stat c 11 0)) (k0_pay127 (ldM stat c 12 0)) (k0_pay128 (ldM stat c 13 0)) (k0_pay129 (ldM stat c 14 0)) (k0_pay130 (ldM stat c 15 0)) (top7 cat stat c) (ldO cat c 0) (ldO cat c 1) (ldO cat c 2)
/-- The sums of the first five devices, each by its weight. -/
def sumL5 (cat : Dev nD → Vec F S1024x512 .bf16) (stat : Dev nD → Vec F S8x2x512 .f32) (c : Dev nD) : FVec F S1x512 .f32 := k0_pay153 (k0_pay115 (ldM stat c 0 0)) (k0_pay116 (ldM stat c 1 0)) (k0_pay117 (ldM stat c 2 0)) (k0_pay122 (ldM stat c 7 0)) (k0_pay123 (ldM stat c 8 0)) (k0_pay124 (ldM stat c 9 0)) (k0_pay125 (ldM stat c 10 0)) (k0_pay126 (ldM stat c 11 0)) (k0_pay127 (ldM stat c 12 0)) (k0_pay128 (ldM stat c 13 0)) (k0_pay129 (ldM stat c 14 0)) (k0_pay130 (ldM stat c 15 0)) (k0_pay131 (ldM stat c 0 1)) (k0_pay132 (ldM stat c 1 1)) (k0_pay133 (ldM stat c 2 1)) (top7 cat stat c)
/-- The weight of device 3. -/
def wgt3 (cat : Dev nD → Vec F S1024x512 .bf16) (stat : Dev nD → Vec F S8x2x512 .f32) (c : Dev nD) : FVec F S1x512 .f32 := k0_pay154 (k0_pay118 (ldM stat c 3 0)) (k0_pay122 (ldM stat c 7 0)) (k0_pay123 (ldM stat c 8 0)) (k0_pay124 (ldM stat c 9 0)) (k0_pay125 (ldM stat c 10 0)) (k0_pay126 (ldM stat c 11 0)) (k0_pay127 (ldM stat c 12 0)) (k0_pay128 (ldM stat c 13 0)) (k0_pay129 (ldM stat c 14 0)) (k0_pay130 (ldM stat c 15 0)) (top7 cat stat c)
/-- The outputs of device 3. -/
def out3 (cat : Dev nD → Vec F S1024x512 .bf16) (stat : Dev nD → Vec F S8x2x512 .f32) (c : Dev nD) : FVec F S64x512 .f32 := k0_pay155 (ldO cat c 3)
/-- The outputs of the first eight devices, each by its weight. -/
def sumO8 (cat : Dev nD → Vec F S1024x512 .bf16) (stat : Dev nD → Vec F S8x2x512 .f32) (c : Dev nD) : FVec F S64x512 .f32 := k0_pay160 (k0_pay119 (ldM stat c 4 0)) (k0_pay120 (ldM stat c 5 0)) (k0_pay121 (ldM stat c 6 0)) (k0_pay122 (ldM stat c 7 0)) (top cat stat c) (sumO3 cat stat c) (wgt3 cat stat c) (out3 cat stat c) (ldO cat c 4) (ldO cat c 5) (ldO cat c 6) (ldO cat c 7)
/-- The sums of the first nine devices, each by its weight. -/
def sumL9 (cat : Dev nD → Vec F S1024x512 .bf16) (stat : Dev nD → Vec F S8x2x512 .f32) (c : Dev nD) : FVec F S1x512 .f32 := k0_pay161 (k0_pay119 (ldM stat c 4 0)) (k0_pay120 (ldM stat c 5 0)) (k0_pay121 (ldM stat c 6 0)) (k0_pay122 (ldM stat c 7 0)) (k0_pay134 (ldM stat c 3 1)) (k0_pay135 (ldM stat c 4 1)) (k0_pay136 (ldM stat c 5 1)) (k0_pay137 (ldM stat c 6 1)) (k0_pay138 (ldM stat c 7 1)) (top cat stat c) (sumL5 cat stat c) (wgt3 cat stat c)
/-- The weight of device 8. -/
def wgt8 (cat : Dev nD → Vec F S1024x512 .bf16) (stat : Dev nD → Vec F S8x2x512 .f32) (c : Dev nD) : FVec F S1x512 .f32 := k0_pay162 (k0_pay123 (ldM stat c 8 0)) (top cat stat c)
/-- The sums of the first thirteen devices, each by its weight. -/
def sumL13 (cat : Dev nD → Vec F S1024x512 .bf16) (stat : Dev nD → Vec F S8x2x512 .f32) (c : Dev nD) : FVec F S1x512 .f32 := k0_pay166 (k0_pay124 (ldM stat c 9 0)) (k0_pay125 (ldM stat c 10 0)) (k0_pay126 (ldM stat c 11 0)) (k0_pay139 (ldM stat c 8 1)) (k0_pay140 (ldM stat c 9 1)) (k0_pay141 (ldM stat c 10 1)) (k0_pay142 (ldM stat c 11 1)) (top cat stat c) (sumL9 cat stat c) (wgt8 cat stat c)
/-- The weight of device 13. -/
def wgt13 (cat : Dev nD → Vec F S1024x512 .bf16) (stat : Dev nD → Vec F S8x2x512 .f32) (c : Dev nD) : FVec F S1x512 .f32 := k0_pay167 (k0_pay127 (ldM stat c 12 0)) (top cat stat c)
/-- The outputs of the first thirteen devices, each by its weight. -/
def sumO13 (cat : Dev nD → Vec F S1024x512 .bf16) (stat : Dev nD → Vec F S8x2x512 .f32) (c : Dev nD) : FVec F S64x512 .f32 := k0_pay168 (k0_pay124 (ldM stat c 9 0)) (k0_pay125 (ldM stat c 10 0)) (k0_pay126 (ldM stat c 11 0)) (k0_pay127 (ldM stat c 12 0)) (top cat stat c) (sumO8 cat stat c) (wgt8 cat stat c) (ldO cat c 8) (ldO cat c 9) (ldO cat c 10) (ldO cat c 11) (ldO cat c 12)
/-- The combined rows of device `c`, normalised and rounded. -/
def comb (cat : Dev nD → Vec F S1024x512 .bf16) (stat : Dev nD → Vec F S8x2x512 .f32) (c : Dev nD) : FVec F S64x512 .bf16 := (k0_pay169 (k0_pay128 (ldM stat c 13 0)) (k0_pay129 (ldM stat c 14 0)) (k0_pay130 (ldM stat c 15 0)) (k0_pay143 (ldM stat c 12 1)) (k0_pay144 (ldM stat c 13 1)) (k0_pay145 (ldM stat c 14 1)) (k0_pay146 (ldM stat c 15 1)) (top cat stat c) (sumL13 cat stat c) (wgt13 cat stat c) (sumO13 cat stat c) (ldO cat c 13) (ldO cat c 14) (ldO cat c 15))

/-- Every device's combined rows, one below the other. -/
def normF (I : Ins F) : Vec F S1024x512 .bf16 := fun i =>
  comb (catF I) (statF I) ⟨(i 0).val / 64, by have h : (i 0).val < 1024 := (i 0).isLt; have : nD = 16 := rfl; omega⟩
    (ix2 ⟨(i 0).val % 64, by omega⟩ (i 1))

theorem normF_row (I : Ins F) (c : Dev nD) (k : Fin 64) (j : Fin 512) :
    comb (catF I) (statF I) c (ix2 k j) = normF I (ix2 ⟨64 * c.val + k.val, by have h : c.val < 16 := c.isLt; omega⟩ j) := by
  have hk : k.val < 64 := k.isLt
  have e1 : (64 * c.val + k.val) / 64 = c.val := by omega
  have e2 : (64 * c.val + k.val) % 64 = k.val := by omega
  show _ = comb (catF I) (statF I) ⟨(64 * c.val + k.val) / 64, _⟩ (ix2 ⟨(64 * c.val + k.val) % 64, _⟩ j)
  exact congr (congrArg _ (Fin.ext e1.symm)) (congrArg (fun a => ix2 a j) (Fin.ext e2.symm))

/-- The first two quarters of the output product. -/
def half (I : Ins F) (norm : Vec F S1024x512 .bf16) (c : Dev nD) : FVec F S512x1024 .f32 :=
  k0_pay171 (k0_pay170 (F := F)) (normGrp norm 0) (woGrp (I.wo c) 0) (normGrp norm 1) (woGrp (I.wo c) 1)
/-- The output. -/
def outF (I : Ins F) (norm : Vec F S1024x512 .bf16) (c : Dev nD) : FVec F S1x512x1024 .f32 :=
  k0_pay172 (half I norm c) (normGrp norm 2) (woGrp (I.wo c) 2) (normGrp norm 3) (woGrp (I.wo c) 3)

/-- The device's own place, as the program computes it. -/
abbrev wd (c : Dev nD) : BitVec 32 := Scalar.remsi (Scalar.divsi (Dev.word c) 1#32) 16#32

/-! ## The parts -/

variable (norm : Vec F S1024x512 .bf16) (κ : GSem nD τ sig → ℕ) (I : Ins F) (c : Dev nD) (o : Vec F S1x512x1024 .f32) {R : SP F}

theorem part13 {Q'} (hk : G (catF I) (statF I) norm κ c (XB I c o) (T0 c 8) (RW (catF I) (statF I) c 3) (iprop(R1 (catF I) (statF I) c ∗ R))
      ⊢ Q' ⟨(Scalar.extui (Scalar.cmpi .ne (wd c) 3#32)), 0#32⟩) :
    G (catF I) (statF I) norm κ c (XB I c o) (T1 (catF I) c 7) (AB (catF I) (statF I) c 14 14) (iprop(PostR c ∗ L1 c ∗ L2 c ∗ L3 c ∗ L4 c ∗ L5 c ∗ L6 c ∗ R))
      ⊢ wpc c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) (k0_pay103 (qF I c) (kHead (I.k c) 7)) (k0_pay105 (qF I c) (kHead (I.k c) 7)) (k0_pay106 (qF I c) (kHead (I.k c) 7) (kHead (I.v c) 7))) Q' := by
  rw [k0_part13_eq_skeleton]
  unfold k0_part13_skel
  refine stat_store_m (catF I) (statF I) norm κ c 7 rfl (stat_m I c 7) ?_
  refine stat_peek2 (catF I) (statF I) norm κ c 7 1 rfl ?_
  refine stat_store_l (catF I) (statF I) norm κ c 7 14 15 rfl rfl rfl (stat_l I c 7) ?_
  refine own_if (catF I) (statF I) norm κ c 14 (by clear hk; revert c; decide) (by clear hk; revert c; decide) (by clear hk; revert c; decide) (own_low I c 7 14 rfl) (own_stat I c 7 14 rfl) ?_
  refine send_if (catF I) (statF I) norm κ c 14 (by clear hk; revert c; decide) rfl (by clear hk; revert c; decide) rfl (by clear hk; revert c; decide) rfl (by clear hk; revert c; decide) rfl (by clear hk; revert c; decide) rfl rfl ?_
  refine own_if (catF I) (statF I) norm κ c 15 (by clear hk; revert c; decide) (by clear hk; revert c; decide) (by clear hk; revert c; decide) (own_high I c 7 15 rfl) (own_stat I c 7 15 rfl) ?_
  refine send_if (catF I) (statF I) norm κ c 15 (by clear hk; revert c; decide) rfl (by clear hk; revert c; decide) rfl (by clear hk; revert c; decide) rfl (by clear hk; revert c; decide) rfl (by clear hk; revert c; decide) rfl rfl ?_
  refine turn1 (catF I) (statF I) norm κ c ?_
  refine recv_if (catF I) (statF I) norm κ c 0 (by clear hk; revert c; decide) rfl rfl rfl rfl ?_
  refine recv_if (catF I) (statF I) norm κ c 1 (by clear hk; revert c; decide) rfl rfl rfl rfl ?_
  refine recv_if (catF I) (statF I) norm κ c 2 (by clear hk; revert c; decide) rfl rfl rfl rfl ?_
  exact ret_step c hk

theorem part14 {Q'} (hk : G (catF I) (statF I) norm κ c (XB I c o) (T0 c 8) (RW (catF I) (statF I) c 13) (iprop(R1 (catF I) (statF I) c ∗ R))
      ⊢ Q' ⟨(Scalar.extui (Scalar.cmpi .ne (wd c) 13#32)), 0#32⟩) :
    G (catF I) (statF I) norm κ c (XB I c o) (T0 c 8) (RW (catF I) (statF I) c 3) (iprop(R1 (catF I) (statF I) c ∗ R))
      ⊢ wpc c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (wd c) (Scalar.extui (Scalar.cmpi .ne (wd c) 3#32)) 0#32) Q' := by
  rw [k0_part14_eq_skeleton]
  unfold k0_part14_skel
  refine recv_if (catF I) (statF I) norm κ c 3 (by clear hk; revert c; decide) rfl rfl rfl rfl ?_
  refine recv_if (catF I) (statF I) norm κ c 4 (by clear hk; revert c; decide) rfl rfl rfl rfl ?_
  refine recv_if (catF I) (statF I) norm κ c 5 (by clear hk; revert c; decide) rfl rfl rfl rfl ?_
  refine recv_if (catF I) (statF I) norm κ c 6 (by clear hk; revert c; decide) rfl rfl rfl rfl ?_
  refine recv_if (catF I) (statF I) norm κ c 7 (by clear hk; revert c; decide) rfl rfl rfl rfl ?_
  refine recv_if (catF I) (statF I) norm κ c 8 (by clear hk; revert c; decide) rfl rfl rfl rfl ?_
  refine recv_if (catF I) (statF I) norm κ c 9 (by clear hk; revert c; decide) rfl rfl rfl rfl ?_
  refine recv_if (catF I) (statF I) norm κ c 10 (by clear hk; revert c; decide) rfl rfl rfl rfl ?_
  refine recv_if (catF I) (statF I) norm κ c 11 (by clear hk; revert c; decide) rfl rfl rfl rfl ?_
  refine recv_if (catF I) (statF I) norm κ c 12 (by clear hk; revert c; decide) rfl rfl rfl rfl ?_
  exact ret_step c hk

theorem part15 {Q'} (hk : G (catF I) (statF I) norm κ c (XB I c o) (SA (catF I) (statF I) c) (catL c ↦[catSeg c]{fullShare} catF I c) (iprop(R2 (catF I) (statF I) c ∗ R))
      ⊢ Q' ⟨k0_pay115 (ldM (statF I) c 0 0), k0_pay116 (ldM (statF I) c 1 0), k0_pay117 (ldM (statF I) c 2 0), k0_pay118 (ldM (statF I) c 3 0), k0_pay119 (ldM (statF I) c 4 0), k0_pay120 (ldM (statF I) c 5 0), k0_pay121 (ldM (statF I) c 6 0), k0_pay122 (ldM (statF I) c 7 0), k0_pay123 (ldM (statF I) c 8 0)⟩) :
    G (catF I) (statF I) norm κ c (XB I c o) (T0 c 8) (RW (catF I) (statF I) c 13) (iprop(R1 (catF I) (statF I) c ∗ R))
      ⊢ wpc c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (wd c) (Scalar.extui (Scalar.cmpi .ne (wd c) 13#32)) 0#32) Q' := by
  rw [k0_part15_eq_skeleton]
  unfold k0_part15_skel
  refine recv_if (catF I) (statF I) norm κ c 13 (by clear hk; revert c; decide) rfl rfl rfl rfl ?_
  refine recv_if (catF I) (statF I) norm κ c 14 (by clear hk; revert c; decide) rfl rfl rfl rfl ?_
  refine recv_if (catF I) (statF I) norm κ c 15 (by clear hk; revert c; decide) rfl rfl rfl rfl ?_
  refine turn2 (catF I) (statF I) norm κ c ?_
  refine stats_load (catF I) (statF I) norm κ c 0 0 rfl ?_
  refine stats_load (catF I) (statF I) norm κ c 1 0 rfl ?_
  refine stats_load (catF I) (statF I) norm κ c 2 0 rfl ?_
  refine stats_load (catF I) (statF I) norm κ c 3 0 rfl ?_
  refine stats_load (catF I) (statF I) norm κ c 4 0 rfl ?_
  refine stats_load (catF I) (statF I) norm κ c 5 0 rfl ?_
  refine stats_load (catF I) (statF I) norm κ c 6 0 rfl ?_
  refine stats_load (catF I) (statF I) norm κ c 7 0 rfl ?_
  refine stats_load (catF I) (statF I) norm κ c 8 0 rfl ?_
  exact ret_step c hk

theorem part16 {Q'} (hk : G (catF I) (statF I) norm κ c (XB I c o) (SA (catF I) (statF I) c) (catL c ↦[catSeg c]{fullShare} catF I c) (iprop(R2 (catF I) (statF I) c ∗ R))
      ⊢ Q' ⟨k0_pay124 (ldM (statF I) c 9 0), k0_pay125 (ldM (statF I) c 10 0), k0_pay126 (ldM (statF I) c 11 0), k0_pay127 (ldM (statF I) c 12 0), k0_pay128 (ldM (statF I) c 13 0), k0_pay129 (ldM (statF I) c 14 0), k0_pay130 (ldM (statF I) c 15 0), k0_pay131 (ldM (statF I) c 0 1), k0_pay132 (ldM (statF I) c 1 1), k0_pay133 (ldM (statF I) c 2 1), k0_pay134 (ldM (statF I) c 3 1), k0_pay135 (ldM (statF I) c 4 1)⟩) :
    G (catF I) (statF I) norm κ c (XB I c o) (SA (catF I) (statF I) c) (catL c ↦[catSeg c]{fullShare} catF I c) (iprop(R2 (catF I) (statF I) c ∗ R))
      ⊢ wpc c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 ) Q' := by
  rw [k0_part16_eq_skeleton]
  unfold k0_part16_skel
  refine stats_load (catF I) (statF I) norm κ c 9 0 rfl ?_
  refine stats_load (catF I) (statF I) norm κ c 10 0 rfl ?_
  refine stats_load (catF I) (statF I) norm κ c 11 0 rfl ?_
  refine stats_load (catF I) (statF I) norm κ c 12 0 rfl ?_
  refine stats_load (catF I) (statF I) norm κ c 13 0 rfl ?_
  refine stats_load (catF I) (statF I) norm κ c 14 0 rfl ?_
  refine stats_load (catF I) (statF I) norm κ c 15 0 rfl ?_
  refine stats_load (catF I) (statF I) norm κ c 0 1 rfl ?_
  refine stats_load (catF I) (statF I) norm κ c 1 1 rfl ?_
  refine stats_load (catF I) (statF I) norm κ c 2 1 rfl ?_
  refine stats_load (catF I) (statF I) norm κ c 3 1 rfl ?_
  refine stats_load (catF I) (statF I) norm κ c 4 1 rfl ?_
  exact ret_step c hk

theorem part17 {Q'} (hk : G (catF I) (statF I) norm κ c (XB I c o) (SA (catF I) (statF I) c) (catL c ↦[catSeg c]{fullShare} catF I c) (iprop(R2 (catF I) (statF I) c ∗ R))
      ⊢ Q' ⟨k0_pay136 (ldM (statF I) c 5 1), k0_pay137 (ldM (statF I) c 6 1), k0_pay138 (ldM (statF I) c 7 1), k0_pay139 (ldM (statF I) c 8 1), k0_pay140 (ldM (statF I) c 9 1), k0_pay141 (ldM (statF I) c 10 1), k0_pay142 (ldM (statF I) c 11 1), k0_pay143 (ldM (statF I) c 12 1), k0_pay144 (ldM (statF I) c 13 1), k0_pay145 (ldM (statF I) c 14 1), k0_pay146 (ldM (statF I) c 15 1), (top7 (catF I) (statF I) c)⟩) :
    G (catF I) (statF I) norm κ c (XB I c o) (SA (catF I) (statF I) c) (catL c ↦[catSeg c]{fullShare} catF I c) (iprop(R2 (catF I) (statF I) c ∗ R))
      ⊢ wpc c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (k0_pay115 (ldM (statF I) c 0 0)) (k0_pay116 (ldM (statF I) c 1 0)) (k0_pay117 (ldM (statF I) c 2 0)) (k0_pay118 (ldM (statF I) c 3 0)) (k0_pay119 (ldM (statF I) c 4 0)) (k0_pay120 (ldM (statF I) c 5 0)) (k0_pay121 (ldM (statF I) c 6 0))) Q' := by
  rw [k0_part17_eq_skeleton]
  unfold k0_part17_skel
  refine stats_load (catF I) (statF I) norm κ c 5 1 rfl ?_
  refine stats_load (catF I) (statF I) norm κ c 6 1 rfl ?_
  refine stats_load (catF I) (statF I) norm κ c 7 1 rfl ?_
  refine stats_load (catF I) (statF I) norm κ c 8 1 rfl ?_
  refine stats_load (catF I) (statF I) norm κ c 9 1 rfl ?_
  refine stats_load (catF I) (statF I) norm κ c 10 1 rfl ?_
  refine stats_load (catF I) (statF I) norm κ c 11 1 rfl ?_
  refine stats_load (catF I) (statF I) norm κ c 12 1 rfl ?_
  refine stats_load (catF I) (statF I) norm κ c 13 1 rfl ?_
  refine stats_load (catF I) (statF I) norm κ c 14 1 rfl ?_
  refine stats_load (catF I) (statF I) norm κ c 15 1 rfl ?_
  exact ret_step c hk

theorem part18 {Q'} (hk : G (catF I) (statF I) norm κ c (XB I c o) (SA (catF I) (statF I) c) (catL c ↦[catSeg c]{fullShare} catF I c) (iprop(R2 (catF I) (statF I) c ∗ R))
      ⊢ Q' ⟨(top (catF I) (statF I) c), (sumO3 (catF I) (statF I) c), (sumL5 (catF I) (statF I) c), (wgt3 (catF I) (statF I) c), (out3 (catF I) (statF I) c)⟩) :
    G (catF I) (statF I) norm κ c (XB I c o) (SA (catF I) (statF I) c) (catL c ↦[catSeg c]{fullShare} catF I c) (iprop(R2 (catF I) (statF I) c ∗ R))
      ⊢ wpc c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (k0_pay115 (ldM (statF I) c 0 0)) (k0_pay116 (ldM (statF I) c 1 0)) (k0_pay117 (ldM (statF I) c 2 0)) (k0_pay118 (ldM (statF I) c 3 0)) (k0_pay122 (ldM (statF I) c 7 0)) (k0_pay123 (ldM (statF I) c 8 0)) (k0_pay124 (ldM (statF I) c 9 0)) (k0_pay125 (ldM (statF I) c 10 0)) (k0_pay126 (ldM (statF I) c 11 0)) (k0_pay127 (ldM (statF I) c 12 0)) (k0_pay128 (ldM (statF I) c 13 0)) (k0_pay129 (ldM (statF I) c 14 0)) (k0_pay130 (ldM (statF I) c 15 0)) (k0_pay131 (ldM (statF I) c 0 1)) (k0_pay132 (ldM (statF I) c 1 1)) (k0_pay133 (ldM (statF I) c 2 1)) (top7 (catF I) (statF I) c)) Q' := by
  rw [k0_part18_eq_skeleton]
  unfold k0_part18_skel
  refine oseg_load (catF I) (statF I) norm κ c 0 rfl ?_
  refine oseg_load (catF I) (statF I) norm κ c 1 rfl ?_
  refine oseg_load (catF I) (statF I) norm κ c 2 rfl ?_
  refine oseg_load (catF I) (statF I) norm κ c 3 rfl ?_
  exact ret_step c hk

theorem part19 {Q'} (hk : G (catF I) (statF I) norm κ c (XB I c o) (SA (catF I) (statF I) c) (catL c ↦[catSeg c]{fullShare} catF I c) (iprop(R2 (catF I) (statF I) c ∗ R))
      ⊢ Q' ⟨(sumO8 (catF I) (statF I) c), (sumL9 (catF I) (statF I) c), (wgt8 (catF I) (statF I) c)⟩) :
    G (catF I) (statF I) norm κ c (XB I c o) (SA (catF I) (statF I) c) (catL c ↦[catSeg c]{fullShare} catF I c) (iprop(R2 (catF I) (statF I) c ∗ R))
      ⊢ wpc c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (k0_pay119 (ldM (statF I) c 4 0)) (k0_pay120 (ldM (statF I) c 5 0)) (k0_pay121 (ldM (statF I) c 6 0)) (k0_pay122 (ldM (statF I) c 7 0)) (k0_pay123 (ldM (statF I) c 8 0)) (k0_pay134 (ldM (statF I) c 3 1)) (k0_pay135 (ldM (statF I) c 4 1)) (k0_pay136 (ldM (statF I) c 5 1)) (k0_pay137 (ldM (statF I) c 6 1)) (k0_pay138 (ldM (statF I) c 7 1)) (top (catF I) (statF I) c) (sumO3 (catF I) (statF I) c) (sumL5 (catF I) (statF I) c) (wgt3 (catF I) (statF I) c) (out3 (catF I) (statF I) c)) Q' := by
  rw [k0_part19_eq_skeleton]
  unfold k0_part19_skel
  refine oseg_load (catF I) (statF I) norm κ c 4 rfl ?_
  refine oseg_load (catF I) (statF I) norm κ c 5 rfl ?_
  refine oseg_load (catF I) (statF I) norm κ c 6 rfl ?_
  refine oseg_load (catF I) (statF I) norm κ c 7 rfl ?_
  exact ret_step c hk

theorem part20 {Q'} (hk : G (catF I) (statF I) norm κ c (XB I c o) (SA (catF I) (statF I) c) (catL c ↦[catSeg c]{fullShare} catF I c) (iprop(R2 (catF I) (statF I) c ∗ R))
      ⊢ Q' ⟨(sumL13 (catF I) (statF I) c), (wgt13 (catF I) (statF I) c), (sumO13 (catF I) (statF I) c)⟩) :
    G (catF I) (statF I) norm κ c (XB I c o) (SA (catF I) (statF I) c) (catL c ↦[catSeg c]{fullShare} catF I c) (iprop(R2 (catF I) (statF I) c ∗ R))
      ⊢ wpc c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (k0_pay124 (ldM (statF I) c 9 0)) (k0_pay125 (ldM (statF I) c 10 0)) (k0_pay126 (ldM (statF I) c 11 0)) (k0_pay127 (ldM (statF I) c 12 0)) (k0_pay139 (ldM (statF I) c 8 1)) (k0_pay140 (ldM (statF I) c 9 1)) (k0_pay141 (ldM (statF I) c 10 1)) (k0_pay142 (ldM (statF I) c 11 1)) (top (catF I) (statF I) c) (sumO8 (catF I) (statF I) c) (sumL9 (catF I) (statF I) c) (wgt8 (catF I) (statF I) c)) Q' := by
  rw [k0_part20_eq_skeleton]
  unfold k0_part20_skel
  refine oseg_load (catF I) (statF I) norm κ c 8 rfl ?_
  refine oseg_load (catF I) (statF I) norm κ c 9 rfl ?_
  refine oseg_load (catF I) (statF I) norm κ c 10 rfl ?_
  refine oseg_load (catF I) (statF I) norm κ c 11 rfl ?_
  refine oseg_load (catF I) (statF I) norm κ c 12 rfl ?_
  exact ret_step c hk

end Cert.KernelIdeal.Attn

end
-- ==== Proof.Finish.lean ====
/- The parts of the body that spread the combined rows, multiply them out and take leave, one lemma each. -/
module

public import proofs.«01_k».proof.Proof.Gather

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (norm : Vec F S1024x512 .bf16) (κ : GSem nD τ sig → ℕ) (I : Ins F) (c : Dev nD) (o : Vec F S1x512x1024 .f32) {R : SP F}

theorem part21 {Q'} (hn : ∀ (k : Fin 64) (j : Fin 512), comb (catF I) (statF I) c (ix2 k j) = norm (ix2 ⟨64 * c.val + k.val, by have h : c.val < 16 := c.isLt; omega⟩ j))
    (hk : G (catF I) (statF I) norm κ c (XB I c o) (SA (catF I) (statF I) c) (DS (catF I) norm c 1) (iprop(R3 (statF I) norm c ∗ R))
      ⊢ Q' (Scalar.cmpi .ne (wd c) 1#32)) :
    G (catF I) (statF I) norm κ c (XB I c o) (SA (catF I) (statF I) c) (catL c ↦[catSeg c]{fullShare} catF I c) (iprop(R2 (catF I) (statF I) c ∗ R))
      ⊢ wpc c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) (k0_pay128 (ldM (statF I) c 13 0)) (k0_pay129 (ldM (statF I) c 14 0)) (k0_pay130 (ldM (statF I) c 15 0)) (k0_pay143 (ldM (statF I) c 12 1)) (k0_pay144 (ldM (statF I) c 13 1)) (k0_pay145 (ldM (statF I) c 14 1)) (k0_pay146 (ldM (statF I) c 15 1)) (top (catF I) (statF I) c) (sumL13 (catF I) (statF I) c) (wgt13 (catF I) (statF I) c) (sumO13 (catF I) (statF I) c)) Q' := by
  rw [k0_part21_eq_skeleton]
  unfold k0_part21_skel
  refine oseg_load (catF I) (statF I) norm κ c 13 rfl ?_
  refine oseg_load (catF I) (statF I) norm κ c 14 rfl ?_
  refine oseg_load (catF I) (statF I) norm κ c 15 rfl ?_
  refine comb_store (catF I) (statF I) norm κ c (by clear hk hn; revert c; decide) hn ?_
  refine turn3 (catF I) (statF I) norm κ c ?_
  refine spread_if (catF I) (statF I) norm κ c 0 (by clear hk hn; revert c; decide) rfl (by clear hk hn; revert c; decide) (by clear hk hn; revert c; decide) (by clear hk hn; revert c; decide) (by clear hk hn; revert c; decide) ?_
  exact ret_step c hk

theorem part22 {Q'} (hk : G (catF I) (statF I) norm κ c (XB I c o) (SA (catF I) (statF I) c) (DS (catF I) norm c 11) (iprop(R3 (statF I) norm c ∗ R))
      ⊢ Q' (Scalar.cmpi .ne (wd c) 11#32)) (v708 : BitVec 1) :
    G (catF I) (statF I) norm κ c (XB I c o) (SA (catF I) (statF I) c) (DS (catF I) norm c 1) (iprop(R3 (statF I) norm c ∗ R))
      ⊢ wpc c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) v708) Q' := by
  rw [k0_part22_eq_skeleton]
  unfold k0_part22_skel
  refine spread_if (catF I) (statF I) norm κ c 1 (by clear hk; revert c; decide) rfl (by clear hk; revert c; decide) (by clear hk; revert c; decide) (by clear hk; revert c; decide) (by clear hk; revert c; decide) ?_
  refine spread_if (catF I) (statF I) norm κ c 2 (by clear hk; revert c; decide) rfl (by clear hk; revert c; decide) (by clear hk; revert c; decide) (by clear hk; revert c; decide) (by clear hk; revert c; decide) ?_
  refine spread_if (catF I) (statF I) norm κ c 3 (by clear hk; revert c; decide) rfl (by clear hk; revert c; decide) (by clear hk; revert c; decide) (by clear hk; revert c; decide) (by clear hk; revert c; decide) ?_
  refine spread_if (catF I) (statF I) norm κ c 4 (by clear hk; revert c; decide) rfl (by clear hk; revert c; decide) (by clear hk; revert c; decide) (by clear hk; revert c; decide) (by clear hk; revert c; decide) ?_
  refine spread_if (catF I) (statF I) norm κ c 5 (by clear hk; revert c; decide) rfl (by clear hk; revert c; decide) (by clear hk; revert c; decide) (by clear hk; revert c; decide) (by clear hk; revert c; decide) ?_
  refine spread_if (catF I) (statF I) norm κ c 6 (by clear hk; revert c; decide) rfl (by clear hk; revert c; decide) (by clear hk; revert c; decide) (by clear hk; revert c; decide) (by clear hk; revert c; decide) ?_
  refine spread_if (catF I) (statF I) norm κ c 7 (by clear hk; revert c; decide) rfl (by clear hk; revert c; decide) (by clear hk; revert c; decide) (by clear hk; revert c; decide) (by clear hk; revert c; decide) ?_
  refine spread_if (catF I) (statF I) norm κ c 8 (by clear hk; revert c; decide) rfl (by clear hk; revert c; decide) (by clear hk; revert c; decide) (by clear hk; revert c; decide) (by clear hk; revert c; decide) ?_
  refine spread_if (catF I) (statF I) norm κ c 9 (by clear hk; revert c; decide) rfl (by clear hk; revert c; decide) (by clear hk; revert c; decide) (by clear hk; revert c; decide) (by clear hk; revert c; decide) ?_
  refine spread_if (catF I) (statF I) norm κ c 10 (by clear hk; revert c; decide) rfl (by clear hk; revert c; decide) (by clear hk; revert c; decide) (by clear hk; revert c; decide) (by clear hk; revert c; decide) ?_
  exact ret_step c hk

theorem part23 {Q'} (hk : G (catF I) (statF I) norm κ c (XB I c o) (SA (catF I) (statF I) c) (DW norm c 4) (iprop(R4 (statF I) c ∗ R))
      ⊢ Q' ⟨k0_pay170 (F := F), (normGrp norm 0), (woGrp (I.wo c) 0)⟩) (v738 : BitVec 1) :
    G (catF I) (statF I) norm κ c (XB I c o) (SA (catF I) (statF I) c) (DS (catF I) norm c 11) (iprop(R3 (statF I) norm c ∗ R))
      ⊢ wpc c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) v738) Q' := by
  rw [k0_part23_eq_skeleton]
  unfold k0_part23_skel
  refine spread_if (catF I) (statF I) norm κ c 11 (by clear hk; revert c; decide) rfl (by clear hk; revert c; decide) (by clear hk; revert c; decide) (by clear hk; revert c; decide) (by clear hk; revert c; decide) ?_
  refine spread_if (catF I) (statF I) norm κ c 12 (by clear hk; revert c; decide) rfl (by clear hk; revert c; decide) (by clear hk; revert c; decide) (by clear hk; revert c; decide) (by clear hk; revert c; decide) ?_
  refine spread_if (catF I) (statF I) norm κ c 13 (by clear hk; revert c; decide) rfl (by clear hk; revert c; decide) (by clear hk; revert c; decide) (by clear hk; revert c; decide) (by clear hk; revert c; decide) ?_
  refine spread_if (catF I) (statF I) norm κ c 14 (by clear hk; revert c; decide) rfl (by clear hk; revert c; decide) (by clear hk; revert c; decide) (by clear hk; revert c; decide) (by clear hk; revert c; decide) ?_
  refine spread_if (catF I) (statF I) norm κ c 15 (by clear hk; revert c; decide) rfl (by clear hk; revert c; decide) (by clear hk; revert c; decide) (by clear hk; revert c; decide) (by clear hk; revert c; decide) ?_
  refine turn4 (catF I) (statF I) norm κ c ?_
  refine got_if (catF I) (statF I) norm κ c 0 (by clear hk; revert c; decide) rfl rfl ?_
  refine got_if (catF I) (statF I) norm κ c 1 (by clear hk; revert c; decide) rfl rfl ?_
  refine got_if (catF I) (statF I) norm κ c 2 (by clear hk; revert c; decide) rfl rfl ?_
  refine got_if (catF I) (statF I) norm κ c 3 (by clear hk; revert c; decide) rfl rfl ?_
  refine grp_load (catF I) (statF I) norm κ c 0 4 (by decide) rfl ?_
  refine wo_load (catF I) (statF I) norm κ I c o 0 rfl ?_
  exact ret_step c hk

theorem part24 {Q'} (hk : G (catF I) (statF I) norm κ c (XB I c o) (SA (catF I) (statF I) c) (DW norm c 11) (iprop(R4 (statF I) c ∗ R))
      ⊢ Q' ⟨half I norm c, (Scalar.extui (Scalar.cmpi .ne (wd c) 11#32)), 0#32⟩) :
    G (catF I) (statF I) norm κ c (XB I c o) (SA (catF I) (statF I) c) (DW norm c 4) (iprop(R4 (statF I) c ∗ R))
      ⊢ wpc c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (wd c) (k0_pay170 (F := F)) (normGrp norm 0) (woGrp (I.wo c) 0)) Q' := by
  rw [k0_part24_eq_skeleton]
  unfold k0_part24_skel
  refine got_if (catF I) (statF I) norm κ c 4 (by clear hk; revert c; decide) rfl rfl ?_
  refine got_if (catF I) (statF I) norm κ c 5 (by clear hk; revert c; decide) rfl rfl ?_
  refine got_if (catF I) (statF I) norm κ c 6 (by clear hk; revert c; decide) rfl rfl ?_
  refine got_if (catF I) (statF I) norm κ c 7 (by clear hk; revert c; decide) rfl rfl ?_
  refine grp_load (catF I) (statF I) norm κ c 1 8 (by decide) rfl ?_
  refine wo_load (catF I) (statF I) norm κ I c o 1 rfl ?_
  refine got_if (catF I) (statF I) norm κ c 8 (by clear hk; revert c; decide) rfl rfl ?_
  refine got_if (catF I) (statF I) norm κ c 9 (by clear hk; revert c; decide) rfl rfl ?_
  refine got_if (catF I) (statF I) norm κ c 10 (by clear hk; revert c; decide) rfl rfl ?_
  exact ret_step c hk

theorem part25 {Q'} (hk : G (catF I) (statF I) norm κ c (XB I c (outF I norm c)) (SA (catF I) (statF I) c) (SW (statF I) norm c 1) (iprop(R5 (statF I) norm c ∗ R))
      ⊢ Q' 1#32) :
    G (catF I) (statF I) norm κ c (XB I c o) (SA (catF I) (statF I) c) (DW norm c 11) (iprop(R4 (statF I) c ∗ R))
      ⊢ wpc c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (wd c) (half I norm c) (Scalar.extui (Scalar.cmpi .ne (wd c) 11#32)) 0#32) Q' := by
  rw [k0_part25_eq_skeleton]
  unfold k0_part25_skel
  refine got_if (catF I) (statF I) norm κ c 11 (by clear hk; revert c; decide) rfl rfl ?_
  refine grp_load (catF I) (statF I) norm κ c 2 12 (by decide) rfl ?_
  refine wo_load (catF I) (statF I) norm κ I c o 2 rfl ?_
  refine got_if (catF I) (statF I) norm κ c 12 (by clear hk; revert c; decide) rfl rfl ?_
  refine got_if (catF I) (statF I) norm κ c 13 (by clear hk; revert c; decide) rfl rfl ?_
  refine got_if (catF I) (statF I) norm κ c 14 (by clear hk; revert c; decide) rfl rfl ?_
  refine got_if (catF I) (statF I) norm κ c 15 (by clear hk; revert c; decide) rfl rfl ?_
  refine grp_load (catF I) (statF I) norm κ c 3 16 (by decide) rfl ?_
  refine wo_load (catF I) (statF I) norm κ I c o 3 rfl ?_
  refine out_store (catF I) (statF I) norm κ I c o ?_
  refine turn5 (catF I) (statF I) norm κ c ?_
  refine sent_if (catF I) (statF I) norm κ c 0 (by clear hk; revert c; decide) rfl rfl rfl rfl rfl rfl ?_
  exact ret_step c hk

theorem part26 {Q'} (hk : G (catF I) (statF I) norm κ c (XB I c (outF I norm c)) (SA (catF I) (statF I) c) (SW (statF I) norm c 11) (iprop(R5 (statF I) norm c ∗ R))
      ⊢ Q' 11#32) :
    G (catF I) (statF I) norm κ c (XB I c (outF I norm c)) (SA (catF I) (statF I) c) (SW (statF I) norm c 1) (iprop(R5 (statF I) norm c ∗ R))
      ⊢ wpc c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 (wd c) 1#32) Q' := by
  rw [k0_part26_eq_skeleton]
  unfold k0_part26_skel
  refine sent_if (catF I) (statF I) norm κ c 1 (by clear hk; revert c; decide) rfl rfl rfl rfl rfl rfl ?_
  refine sent_if (catF I) (statF I) norm κ c 2 (by clear hk; revert c; decide) rfl rfl rfl rfl rfl rfl ?_
  refine sent_if (catF I) (statF I) norm κ c 3 (by clear hk; revert c; decide) rfl rfl rfl rfl rfl rfl ?_
  refine sent_if (catF I) (statF I) norm κ c 4 (by clear hk; revert c; decide) rfl rfl rfl rfl rfl rfl ?_
  refine sent_if (catF I) (statF I) norm κ c 5 (by clear hk; revert c; decide) rfl rfl rfl rfl rfl rfl ?_
  refine sent_if (catF I) (statF I) norm κ c 6 (by clear hk; revert c; decide) rfl rfl rfl rfl rfl rfl ?_
  refine sent_if (catF I) (statF I) norm κ c 7 (by clear hk; revert c; decide) rfl rfl rfl rfl rfl rfl ?_
  refine sent_if (catF I) (statF I) norm κ c 8 (by clear hk; revert c; decide) rfl rfl rfl rfl rfl rfl ?_
  refine sent_if (catF I) (statF I) norm κ c 9 (by clear hk; revert c; decide) rfl rfl rfl rfl rfl rfl ?_
  refine sent_if (catF I) (statF I) norm κ c 10 (by clear hk; revert c; decide) rfl rfl rfl rfl rfl rfl ?_
  exact ret_step c hk

theorem part27 {Q'} (hk : G (catF I) (statF I) norm κ c (XB I c (outF I norm c)) (SA (catF I) (statF I) c) (ES c 2) (iprop(R6 (statF I) norm c ∗ R))
      ⊢ Q' (Scalar.remsi (Scalar.addi (wd c) 3#32) 16#32)) :
    G (catF I) (statF I) norm κ c (XB I c (outF I norm c)) (SA (catF I) (statF I) c) (SW (statF I) norm c 11) (iprop(R5 (statF I) norm c ∗ R))
      ⊢ wpc c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) 11#32) Q' := by
  rw [k0_part27_eq_skeleton]
  unfold k0_part27_skel
  refine sent_if (catF I) (statF I) norm κ c 11 (by clear hk; revert c; decide) rfl rfl rfl rfl rfl rfl ?_
  refine sent_if (catF I) (statF I) norm κ c 12 (by clear hk; revert c; decide) rfl rfl rfl rfl rfl rfl ?_
  refine sent_if (catF I) (statF I) norm κ c 13 (by clear hk; revert c; decide) rfl rfl rfl rfl rfl rfl ?_
  refine sent_if (catF I) (statF I) norm κ c 14 (by clear hk; revert c; decide) rfl rfl rfl rfl rfl rfl ?_
  refine sent_if (catF I) (statF I) norm κ c 15 (by clear hk; revert c; decide) rfl rfl rfl rfl rfl rfl ?_
  refine turn6 (catF I) (statF I) norm κ c ?_
  refine exit_signal (catF I) (statF I) norm κ c (c + 1) 0 14 (by clear hk; revert c; decide) (by clear hk; revert c; decide) (by clear hk; revert c; decide) rfl ?_
  refine exit_signal (catF I) (statF I) norm κ c (c + 2) 1 13 (by clear hk; revert c; decide) (by clear hk; revert c; decide) (by clear hk; revert c; decide) rfl ?_
  exact ret_step c hk

theorem part28 {Q'} (hk : G (catF I) (statF I) norm κ c (XB I c (outF I norm c)) (SA (catF I) (statF I) c) (ES c 7) (iprop(R6 (statF I) norm c ∗ R))
      ⊢ Q' ⟨⟩) (v886 : BitVec 32) :
    G (catF I) (statF I) norm κ c (XB I c (outF I norm c)) (SA (catF I) (statF I) c) (ES c 2) (iprop(R6 (statF I) norm c ∗ R))
      ⊢ wpc c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) v886) Q' := by
  rw [k0_part28_eq_skeleton]
  unfold k0_part28_skel
  refine exit_signal (catF I) (statF I) norm κ c (c + 3) 2 12 (by clear hk; revert c; decide) (by clear hk; revert c; decide) (by clear hk; revert c; decide) rfl ?_
  refine exit_signal (catF I) (statF I) norm κ c (c + 4) 3 11 (by clear hk; revert c; decide) (by clear hk; revert c; decide) (by clear hk; revert c; decide) rfl ?_
  refine exit_signal (catF I) (statF I) norm κ c (c + 5) 4 10 (by clear hk; revert c; decide) (by clear hk; revert c; decide) (by clear hk; revert c; decide) rfl ?_
  refine exit_signal (catF I) (statF I) norm κ c (c + 6) 5 9 (by clear hk; revert c; decide) (by clear hk; revert c; decide) (by clear hk; revert c; decide) rfl ?_
  refine exit_signal (catF I) (statF I) norm κ c (c + 7) 6 8 (by clear hk; revert c; decide) (by clear hk; revert c; decide) (by clear hk; revert c; decide) rfl ?_
  exact ret_step c hk

theorem part29 {Q'} (hk : G (catF I) (statF I) norm κ c (XB I c (outF I norm c)) (SA (catF I) (statF I) c) (ES c 11) (iprop(R6 (statF I) norm c ∗ R))
      ⊢ Q' (Scalar.remsi (Scalar.addi (wd c) 12#32) 16#32)) :
    G (catF I) (statF I) norm κ c (XB I c (outF I norm c)) (SA (catF I) (statF I) c) (ES c 7) (iprop(R6 (statF I) norm c ∗ R))
      ⊢ wpc c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c)) Q' := by
  rw [k0_part29_eq_skeleton]
  unfold k0_part29_skel
  refine exit_signal (catF I) (statF I) norm κ c (c + 8) 7 7 (by clear hk; revert c; decide) (by clear hk; revert c; decide) (by clear hk; revert c; decide) rfl ?_
  refine exit_signal (catF I) (statF I) norm κ c (c + 9) 8 6 (by clear hk; revert c; decide) (by clear hk; revert c; decide) (by clear hk; revert c; decide) rfl ?_
  refine exit_signal (catF I) (statF I) norm κ c (c + 10) 9 5 (by clear hk; revert c; decide) (by clear hk; revert c; decide) (by clear hk; revert c; decide) rfl ?_
  refine exit_signal (catF I) (statF I) norm κ c (c + 11) 10 4 (by clear hk; revert c; decide) (by clear hk; revert c; decide) (by clear hk; revert c; decide) rfl ?_
  exact ret_step c hk

theorem part30 {Q'} (hk : G (catF I) (statF I) norm κ c (XB I c (outF I norm c)) (SA (catF I) (statF I) c) (EW c 2) (iprop(R7 (statF I) norm c ∗ R))
      ⊢ Q' ⟨⟩) (v940 : BitVec 32) :
    G (catF I) (statF I) norm κ c (XB I c (outF I norm c)) (SA (catF I) (statF I) c) (ES c 11) (iprop(R6 (statF I) norm c ∗ R))
      ⊢ wpc c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) v940) Q' := by
  rw [k0_part30_eq_skeleton]
  unfold k0_part30_skel
  refine exit_signal (catF I) (statF I) norm κ c (c + 12) 11 3 (by clear hk; revert c; decide) (by clear hk; revert c; decide) (by clear hk; revert c; decide) rfl ?_
  refine exit_signal (catF I) (statF I) norm κ c (c + 13) 12 2 (by clear hk; revert c; decide) (by clear hk; revert c; decide) (by clear hk; revert c; decide) rfl ?_
  refine exit_signal (catF I) (statF I) norm κ c (c + 14) 13 1 (by clear hk; revert c; decide) (by clear hk; revert c; decide) (by clear hk; revert c; decide) rfl ?_
  refine exit_signal (catF I) (statF I) norm κ c (c + 15) 14 0 (by clear hk; revert c; decide) (by clear hk; revert c; decide) (by clear hk; revert c; decide) rfl ?_
  refine turn7 (catF I) (statF I) norm κ c ?_
  refine exit_wait (catF I) (statF I) norm κ c (c + 1) 0 (by clear hk; revert c; decide) rfl ?_
  refine exit_wait (catF I) (statF I) norm κ c (c + 2) 1 (by clear hk; revert c; decide) rfl ?_
  exact ret_step c hk

theorem part31 {Q'} (hk : G (catF I) (statF I) norm κ c (XB I c (outF I norm c)) (SA (catF I) (statF I) c) (EW c 12) (iprop(R7 (statF I) norm c ∗ R))
      ⊢ Q' ⟨⟩) :
    G (catF I) (statF I) norm κ c (XB I c (outF I norm c)) (SA (catF I) (statF I) c) (EW c 2) (iprop(R7 (statF I) norm c ∗ R))
      ⊢ wpc c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 ) Q' := by
  rw [k0_part31_eq_skeleton]
  unfold k0_part31_skel
  refine exit_wait (catF I) (statF I) norm κ c (c + 3) 2 (by clear hk; revert c; decide) rfl ?_
  refine exit_wait (catF I) (statF I) norm κ c (c + 4) 3 (by clear hk; revert c; decide) rfl ?_
  refine exit_wait (catF I) (statF I) norm κ c (c + 5) 4 (by clear hk; revert c; decide) rfl ?_
  refine exit_wait (catF I) (statF I) norm κ c (c + 6) 5 (by clear hk; revert c; decide) rfl ?_
  refine exit_wait (catF I) (statF I) norm κ c (c + 7) 6 (by clear hk; revert c; decide) rfl ?_
  refine exit_wait (catF I) (statF I) norm κ c (c + 8) 7 (by clear hk; revert c; decide) rfl ?_
  refine exit_wait (catF I) (statF I) norm κ c (c + 9) 8 (by clear hk; revert c; decide) rfl ?_
  refine exit_wait (catF I) (statF I) norm κ c (c + 10) 9 (by clear hk; revert c; decide) rfl ?_
  refine exit_wait (catF I) (statF I) norm κ c (c + 11) 10 (by clear hk; revert c; decide) rfl ?_
  refine exit_wait (catF I) (statF I) norm κ c (c + 12) 11 (by clear hk; revert c; decide) rfl ?_
  exact ret_step c hk

end Cert.KernelIdeal.Attn

end
-- ==== Proof.Body.lean ====
/- The whole body, one part after the other. -/
module

public import proofs.«01_k».proof.Proof.Finish

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (norm : Vec F S1024x512 .bf16) (κ : GSem nD τ sig → ℕ) (I : Ins F) (c : Dev nD) (o : Vec F S1x512x1024 .f32) {R : SP F}

/-- A device asks for its own number. -/
theorem dev_step {α : Type} {P : SP F} {K : Dev nD → Prog (TpuEff nD τ sig (Elt F) Λ₀ .tc) α} {Q : α → SP F} (h : P ⊢ wpc c (K c) Q) :
    P ⊢ wpc c (Prog.lift .deviceId >>= K) Q := by
  show P ⊢ wp frame (wpE (defs₀ (F := F)) 𝒱₀ (c : Thread nD τ) none) Set.univ (.op .deviceId fun d => K d) Q
  rw [wp_deviceId]
  exact h

/-- A part, then the rest. -/
theorem then_step {α β : Type} {P : SP F} {p : Prog (TpuEff nD τ sig (Elt F) Λ₀ .tc) α} {K : α → Prog (TpuEff nD τ sig (Elt F) Λ₀ .tc) β} {Q : β → SP F}
    (h : P ⊢ wpc c p fun a => wpc c (K a) Q) : P ⊢ wpc c (p >>= K) Q := by
  show P ⊢ wp frame (wpE (defs₀ (F := F)) 𝒱₀ (c : Thread nD τ) none) Set.univ (p >>= K) Q
  rw [wp_bind]; exact h

theorem part1 {Q'} (hk : G (catF I) (statF I) norm κ c (XB I c o) (T0 c 0) (BS c 5) (iprop(PreR c ∗ R))
      ⊢ Q' ⟨c, wd c, (SemArray.scalar (d := S_.size) barrier0), Scalar.addi (wd c) 6#32, 16#32⟩) :
    G (catF I) (statF I) norm κ c (XB I c o) (T0 c 0) (BS c 0) (iprop(PreR c ∗ R))
      ⊢ wpc c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 ) Q' := by
  rw [k0_part1_eq_skeleton]
  unfold k0_part1_skel
  refine dev_step c ?_
  refine bar_signal_step (catF I) (statF I) norm κ c (c + 1) 0 (by clear hk; revert c; decide) (by clear hk; revert c; decide) ?_
  refine bar_signal_step (catF I) (statF I) norm κ c (c + 2) 1 (by clear hk; revert c; decide) (by clear hk; revert c; decide) ?_
  refine bar_signal_step (catF I) (statF I) norm κ c (c + 3) 2 (by clear hk; revert c; decide) (by clear hk; revert c; decide) ?_
  refine bar_signal_step (catF I) (statF I) norm κ c (c + 4) 3 (by clear hk; revert c; decide) (by clear hk; revert c; decide) ?_
  refine bar_signal_step (catF I) (statF I) norm κ c (c + 5) 4 (by clear hk; revert c; decide) (by clear hk; revert c; decide) ?_
  exact ret_step c hk

theorem part2 {Q'} (hk : G (catF I) (statF I) norm κ c (XB I c o) (T0 c 0) (BS c 11) (iprop(PreR c ∗ R))
      ⊢ Q' ⟨Scalar.addi (wd c) 12#32, 16#32⟩) (v24 c16 : BitVec 32) :
    G (catF I) (statF I) norm κ c (XB I c o) (T0 c 0) (BS c 5) (iprop(PreR c ∗ R))
      ⊢ wpc c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) (SemArray.scalar (d := S_.size) barrier0) v24 c16) Q' := by
  rw [k0_part2_eq_skeleton]
  unfold k0_part2_skel
  refine bar_signal_step (catF I) (statF I) norm κ c (c + 6) 5 (by clear hk; revert c; decide) (by clear hk; revert c; decide) ?_
  refine bar_signal_step (catF I) (statF I) norm κ c (c + 7) 6 (by clear hk; revert c; decide) (by clear hk; revert c; decide) ?_
  refine bar_signal_step (catF I) (statF I) norm κ c (c + 8) 7 (by clear hk; revert c; decide) (by clear hk; revert c; decide) ?_
  refine bar_signal_step (catF I) (statF I) norm κ c (c + 9) 8 (by clear hk; revert c; decide) (by clear hk; revert c; decide) ?_
  refine bar_signal_step (catF I) (statF I) norm κ c (c + 10) 9 (by clear hk; revert c; decide) (by clear hk; revert c; decide) ?_
  refine bar_signal_step (catF I) (statF I) norm κ c (c + 11) 10 (by clear hk; revert c; decide) (by clear hk; revert c; decide) ?_
  exact ret_step c hk

theorem part3 {Q'} (hk : G (catF I) (statF I) norm κ c (XB I c o) (T0 c 0) (BS c 15) (iprop(PreR c ∗ R))
      ⊢ Q' ⟨(qF I c), (qHead (qF I c) 0), (k0_pay3 (kHead (I.k c) 0)), (k0_pay4 (kHead (I.v c) 0))⟩) (v48 c16 : BitVec 32) :
    G (catF I) (statF I) norm κ c (XB I c o) (T0 c 0) (BS c 11) (iprop(PreR c ∗ R))
      ⊢ wpc c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 c (wd c) (SemArray.scalar (d := S_.size) barrier0) v48 c16) Q' := by
  rw [k0_part3_eq_skeleton]
  unfold k0_part3_skel
  refine bar_signal_step (catF I) (statF I) norm κ c (c + 12) 11 (by clear hk; revert c; decide) (by clear hk; revert c; decide) ?_
  refine bar_signal_step (catF I) (statF I) norm κ c (c + 13) 12 (by clear hk; revert c; decide) (by clear hk; revert c; decide) ?_
  refine bar_signal_step (catF I) (statF I) norm κ c (c + 14) 13 (by clear hk; revert c; decide) (by clear hk; revert c; decide) ?_
  refine bar_signal_step (catF I) (statF I) norm κ c (c + 15) 14 (by clear hk; revert c; decide) (by clear hk; revert c; decide) ?_
  refine x_load (catF I) (statF I) norm κ I c o ?_
  refine wq_load (catF I) (statF I) norm κ I c o ?_
  refine k_load (catF I) (statF I) norm κ I c o 0 rfl ?_
  refine v_load (catF I) (statF I) norm κ I c o 0 rfl ?_
  exact ret_step c hk

set_option maxHeartbeats 2000000 in
/-- The body at device `c`: from the inputs, the fresh buffers and the protocol's start to the output, the buffers back and every signal taken. -/
theorem body_run (hn : ∀ (k : Fin 64) (j : Fin 512), comb (catF I) (statF I) c (ix2 k j) = norm (ix2 ⟨64 * c.val + k.val, by have h : c.val < 16 := c.isLt; omega⟩ j)) :
    G (catF I) (statF I) norm κ c (XB I c o) (T0 c 0) (BS c 0) (iprop(PreR c ∗ L1 c ∗ L2 c ∗ L3 c ∗ L4 c ∗ L5 c ∗ L6 c ∗ emp))
      ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10) fun _ => iprop(Ctx (catF I) (statF I) norm κ c ∗ XB I c (outF I norm c) ∗ Fin0 c) := by
  rw [cc0_body_eq_skeleton]
  unfold cc0_body_skel
  refine then_step c ?_
  refine part1 norm κ I c o ?_
  refine then_step c ?_
  refine part2 norm κ I c o ?_ _ _
  refine then_step c ?_
  refine part3 norm κ I c o ?_ _ _
  refine then_step c ?_
  refine part4 norm κ I c o ?_ _
  refine then_step c ?_
  refine part5 norm κ I c o ?_ _
  refine then_step c ?_
  refine part6 norm κ I c o ?_ _
  refine then_step c ?_
  refine part7 norm κ I c o (fun v214 => ?_) _
  refine then_step c ?_
  refine part8 norm κ I c o ?_ _ _
  refine then_step c ?_
  refine part9 norm κ I c o ?_ _
  refine then_step c ?_
  refine part10 norm κ I c o ?_ _
  refine then_step c ?_
  refine part11 norm κ I c o ?_ _
  refine then_step c ?_
  refine part12 norm κ I c o ?_ _ _
  refine then_step c ?_
  refine part13 norm κ I c o ?_
  refine then_step c ?_
  refine part14 norm κ I c o ?_
  refine then_step c ?_
  refine part15 norm κ I c o ?_
  refine then_step c ?_
  refine part16 norm κ I c o ?_
  refine then_step c ?_
  refine part17 norm κ I c o ?_
  refine then_step c ?_
  refine part18 norm κ I c o ?_
  refine then_step c ?_
  refine part19 norm κ I c o ?_
  refine then_step c ?_
  refine part20 norm κ I c o ?_
  refine then_step c ?_
  refine part21 norm κ I c o hn ?_
  refine then_step c ?_
  refine part22 norm κ I c o ?_ _
  refine then_step c ?_
  refine part23 norm κ I c o ?_ _
  refine then_step c ?_
  refine part24 norm κ I c o ?_
  refine then_step c ?_
  refine part25 norm κ I c o ?_
  refine then_step c ?_
  refine part26 norm κ I c ?_
  refine then_step c ?_
  refine part27 norm κ I c ?_
  refine then_step c ?_
  refine part28 norm κ I c ?_ _
  refine then_step c ?_
  refine part29 norm κ I c ?_
  refine then_step c ?_
  refine part30 norm κ I c ?_ _
  refine then_step c ?_
  refine part31 norm κ I c ?_
  refine exit_wait (catF I) (statF I) norm κ c (c + 13) 12 (by clear hn; revert c; decide) rfl ?_
  refine exit_wait (catF I) (statF I) norm κ c (c + 14) 13 (by clear hn; revert c; decide) rfl ?_
  refine exit_wait (catF I) (statF I) norm κ c (c + 15) 14 (by clear hn; revert c; decide) rfl ?_
  refine ret_step c ?_
  iintro ⟨Hc, HX, HA, HB, HR, -⟩
  isplitl [Hc]; · iexact Hc
  isplitl [HX]; · iexact HX
  iapply (the_end (catF I) (statF I) norm c)
  isplitl [HA]; · iexact HA
  isplitl [HB]; · iexact HB
  iexact HR

end Cert.KernelIdeal.Attn

end
-- ==== Proof.Cells.lean ====
/- The semaphores of the kernel at its launch: which there are, the token of every duty, dealt to the device that pays it, and the
   credits every device starts with. -/
module

public import proofs.«01_k».proof.Proof.Body

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

/-! ## The kernel's own semaphores -/

/-- The names of the kernel's own semaphores: six families of transfer semaphores, and the exit semaphores. -/
abbrev OK : Type := (Fin 6 × Dev nD) ⊕ Fin 15

/-- The semaphore of a name. -/
def osem : OK → SemLoc sig
  | .inl ki => .dma (dsem ki.1 ki.2)
  | .inr j => .reg ⟨j.val, by have h : sig.nSem = 16 := rfl; have := j.isLt; omega⟩

/-- That semaphore on device `c`. -/
abbrev oc (c : Dev nD) (k : OK) : GSem nD τ sig := ((c : Thread nD τ), osem k)

theorem dsem_inj (k k' : Fin 6) (i i' : Dev nD) (h : dsem k i = dsem k' i') : k = k' ∧ i = i' :=
  ⟨by rw [← kindOf_dsem k i, h, kindOf_dsem], by rw [← indexOf_dsem k i, h, indexOf_dsem]⟩

theorem osem_inj : Function.Injective osem := by
  rintro (⟨k, i⟩ | j) (⟨k', i'⟩ | j') h
  · obtain ⟨rfl, rfl⟩ := dsem_inj k k' i i' (SemLoc.dma.inj h); rfl
  · exact absurd h (by unfold osem; simp)
  · exact absurd h (by unfold osem; simp)
  · have h1 := SemLoc.reg.inj h
    have h' : j.val = j'.val := Fin.mk.inj h1
    rw [Fin.ext h']

theorem osem_ne_bar (k : OK) : osem k ≠ .reg barrier0 := by
  rcases k with ⟨k, i⟩ | j
  · unfold osem; simp
  · intro h
    have h' : j.val = 15 := congrArg Fin.val (SemLoc.reg.inj h)
    have := j.isLt; omega

theorem stage_sem_lt : ∀ (w : Fin 6) (s : Fin (spec0 w).nbuf), ((spec0 w).sem s).val < 6 := by decide

/-- They are the region's own: scoped, distinct, none a staging semaphore. -/
theorem own_facts : Pipeline.OwnSemFacts spec0 osem where
  isScoped := by decide
  inj := osem_inj
  disj k w s h := by
    rcases k with ⟨k, i⟩ | j
    · have h' : (dsem k i).val = ((spec0 w).sem s).val := congrArg Fin.val (SemLoc.dma.inj h)
      have := stage_sem_lt w s
      unfold dsem at h'; dsimp only at h'; omega
    · exact absurd h (by unfold osem; simp)

/-- The other devices, by their distance. -/
def exEmb (c : Dev nD) : Fin 15 ↪ Dev nD :=
  ⟨fun j => c + ⟨j.val + 1, Nat.succ_lt_succ j.isLt⟩, fun j j' h => by
    have h' := congrArg Fin.val (add_left_cancel h)
    exact Fin.ext (Nat.succ.inj h')⟩

theorem others_eq : ∀ c : Dev nD, others c = Finset.univ.map (exEmb c) := by decide

theorem exSem_emb : ∀ (c : Dev nD) (j : Fin 15), exSem (exEmb c j - c) = ⟨j.val, by have h : sig.nSem = 16 := rfl; have := j.isLt; omega⟩ := by decide

/-- A conjunction over the own semaphores: over the transfer semaphores, and over the exit semaphores by their payers. -/
theorem own_split (c : Dev nD) (Φ : SemLoc sig → SP F) :
    bigSep Finset.univ (fun k : OK => Φ (osem k))
      = iprop((bigSep Finset.univ fun k : Fin 6 => bigSep Finset.univ fun i : Dev nD => Φ (.dma (dsem k i))) ∗ bigSep (others c) fun p => Φ (.reg (exSem (p - c)))) := by
  rw [bigSep_univ_sum, bigSep_univ_prod, others_eq, bigSep_map]
  have e : (bigSep Finset.univ fun j : Fin 15 => Φ (osem (.inr j))) = bigSep Finset.univ fun j : Fin 15 => Φ (.reg (exSem (exEmb c j - c))) :=
    bigSep_congr fun j _ => by rw [exSem_emb]; rfl
  exact congrArg (fun X : SP F => iprop((bigSep Finset.univ fun k : Fin 6 => bigSep Finset.univ fun i : Dev nD => Φ (.dma (dsem k i))) ∗ X)) e

theorem bs_six (Φ : Fin 6 → SP F) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bs_insert (by decide), bs_insert (by decide), bs_insert (by decide),
    bs_insert (by decide), bs_insert (by decide), bigSep_singleton]

theorem bs_univ (c : Dev nD) (Φ : Dev nD → SP F) : bigSep Finset.univ Φ = iprop(Φ c ∗ bigSep (others c) Φ) := bs_erase (Finset.mem_univ c)

/-! ## The cells and the tokens at the launch -/

def barEmb : Dev nD ↪ GSem nD τ sig := ⟨fun c => barC c, fun _ _ h => congrArg (fun g : GSem nD τ sig => g.1.1) h⟩
def scEmb : Dev nD × OK ↪ GSem nD τ sig :=
  ⟨fun ck => oc ck.1 ck.2, fun _ _ h => Prod.ext (congrArg (fun g : GSem nD τ sig => g.1.1) h) (osem_inj (congrArg Prod.snd h))⟩

/-- The barrier cells, whose counters are at hand at the launch. -/
abbrev barCells : Finset (GSem nD τ sig) := Finset.univ.map barEmb
/-- The cells of the kernel's own semaphores, whose counters come when the kernel is entered. -/
abbrev scCells : Finset (GSem nD τ sig) := Finset.univ.map scEmb

theorem cells_disj : Disjoint barCells scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barC c ∈ barCells ∪ scCells :=
  Finset.mem_union_left _ (Finset.mem_map_of_mem barEmb (Finset.mem_univ c))
theorem kc_mem (k : Fin 6) (c i : Dev nD) : kc k c i ∈ barCells ∪ scCells :=
  Finset.mem_union_right _ (Finset.mem_map_of_mem scEmb (Finset.mem_univ (c, (.inl (k, i) : OK))))
theorem ex_mem (c p : Dev nD) : exC c p ∈ barCells ∪ scCells :=
  Finset.mem_union_right _ (Finset.mem_map_of_mem scEmb (Finset.mem_univ (c, (.inr ⟨(p - c).val - 1, by have : (p - c).val < 16 := (p - c).isLt; omega⟩ : OK))))

/-- The semaphore of device `c` that device `p` pays, for each of the eight kinds. -/
def tsem (c p : Dev nD) : Fin 6 ⊕ Fin 2 → SemLoc sig
  | .inl k => .dma (dsem k p)
  | .inr 0 => .reg barrier0
  | .inr 1 => .reg (exSem (p - c))

theorem tsem_inj (c p : Dev nD) : Function.Injective (tsem c p) := by
  have hb : ∀ j : Fin 2, ∀ k, tsem c p (.inl k) ≠ tsem c p (.inr j) := by
    intro j k; fin_cases j <;> simp [tsem]
  rintro (k | j) (k' | j') h
  · rw [(dsem_inj k k' p p (SemLoc.dma.inj h)).1]
  · exact absurd h (hb _ _)
  · exact absurd h.symm (hb _ _)
  · fin_cases j <;> fin_cases j'
    · rfl
    · exact absurd (SemLoc.reg.inj h).symm (exSem_ne_bar _)
    · exact absurd (SemLoc.reg.inj h) (exSem_ne_bar _)
    · rfl

/-- The token of every duty of every cell. -/
def toks : Finset (GSem nD τ sig × ℕ × Dev nD) :=
  Finset.univ.map ⟨fun t : Dev nD × Dev nD × (Fin 6 ⊕ Fin 2) => (((t.1 : Thread nD τ), tsem t.1 t.2.1 t.2.2), 0, t.2.1), by
    rintro ⟨c, p, k⟩ ⟨c', p', k'⟩ h
    obtain rfl : c = c' := congrArg (fun t : GSem nD τ sig × ℕ × Dev nD => t.1.1.1) h
    obtain rfl : p = p' := congrArg (fun t : GSem nD τ sig × ℕ × Dev nD => t.2.2) h
    obtain rfl : k = k' := tsem_inj c p (congrArg (fun t : GSem nD τ sig × ℕ × Dev nD => t.1.2) h)
    rfl⟩

/-- The tokens of the duties that device `c` pays. -/
def Toks (c : Dev nD) : SP F := bigSep Finset.univ fun p : Dev nD =>
  iprop(dutyTok ER (kc 0 c p) 0 p ∗ dutyTok ER (kc 2 c p) 0 p ∗ dutyTok ER (kc 4 c p) 0 p ∗ dutyTok ER (kc 1 p c) 0 c ∗ dutyTok ER (kc 3 p c) 0 c
    ∗ dutyTok ER (kc 5 p c) 0 c ∗ dutyTok ER (barC p) 0 c ∗ dutyTok ER (exC p c) 0 c)

/-- All tokens, dealt to their payers. -/
theorem toks_deal : (bigSep toks fun x => dutyTok ER x.1 x.2.1 x.2.2 : SP F) ⊢ bigSep Finset.univ fun c : Dev nD => Toks c := by
  unfold toks
  have e : (bigSep Finset.univ fun c : Dev nD => bigSep Finset.univ fun p : Dev nD =>
      iprop((dutyTok ER (kc 0 c p) 0 p ∗ dutyTok ER (kc 1 c p) 0 p ∗ dutyTok ER (kc 2 c p) 0 p ∗ dutyTok ER (kc 3 c p) 0 p ∗ dutyTok ER (kc 4 c p) 0 p
        ∗ dutyTok ER (kc 5 c p) 0 p) ∗ dutyTok ER (barC c) 0 p ∗ dutyTok ER (exC c p) 0 p) : SP F) ⊢ bigSep Finset.univ fun c : Dev nD => Toks c := by
    unfold Toks
    simp only [bs_sep]
    have s1 := bigSep_univ_comm (fun c p : Dev nD => (dutyTok ER (kc 1 c p) 0 p : SP F))
    have s3 := bigSep_univ_comm (fun c p : Dev nD => (dutyTok ER (kc 3 c p) 0 p : SP F))
    have s5 := bigSep_univ_comm (fun c p : Dev nD => (dutyTok ER (kc 5 c p) 0 p : SP F))
    have sb := bigSep_univ_comm (fun c p : Dev nD => (dutyTok ER (barC c) 0 p : SP F))
    have sx := bigSep_univ_comm (fun c p : Dev nD => (dutyTok ER (exC c p) 0 p : SP F))
    rw [s1, s3, s5, sb, sx]
    iintro ⟨⟨H0, H1, H2, H3, H4, H5⟩, Hb, Hx⟩
    isplitl [H0]; · iexact H0
    isplitl [H2]; · iexact H2
    isplitl [H4]; · iexact H4
    isplitl [H1]; · iexact H1
    isplitl [H3]; · iexact H3
    isplitl [H5]; · iexact H5
    isplitl [Hb]; · iexact Hb
    iexact Hx
  refine BIBase.Entails.trans (Entails.of_eq ?_) e
  rw [bigSep_map, bigSep_univ_prod]
  refine bigSep_congr fun c _ => ?_
  rw [bigSep_univ_prod]
  refine bigSep_congr fun p _ => ?_
  rw [bigSep_univ_sum, bs_six, bigSep_fin_two]
  rfl

/-! ## The credits at the launch -/

/-- What device `c` owes from the launch: everything. -/
abbrev O₀ (c : Dev nD) : CellTallies nD τ sig Unit := Owed c (others c) (others c) (others c) (others c)

theorem O₀_bar (d p : Dev nD) (h : p ≠ d) : 1 ≤ O₀ d (barC p) () := by
  have hi : others d = insert p ((others d).erase p) := (Finset.insert_erase (Finset.mem_erase.mpr ⟨h, Finset.mem_univ p⟩)).symm
  show 1 ≤ Owed d (others d) (others d) (others d) (others d) (barC p) ()
  rw [show Owed d (others d) (others d) (others d) (others d) = Owed d (insert p ((others d).erase p)) (others d) (others d) (others d) from by rw [← hi],
    Owed_bar d p _ _ _ _ (Finset.notMem_erase p _), Pi.add_apply, Finsupp.add_apply, tallyAt_self]
  exact Nat.le_add_left _ _
theorem O₀_1 (d p : Dev nD) (h : p ≠ d) : Na ≤ O₀ d (kc 1 p d) () := by
  have hi : others d = insert p ((others d).erase p) := (Finset.insert_erase (Finset.mem_erase.mpr ⟨h, Finset.mem_univ p⟩)).symm
  show Na ≤ Owed d (others d) (others d) (others d) (others d) (kc 1 p d) ()
  rw [show Owed d (others d) (others d) (others d) (others d) = Owed d (others d) (insert p ((others d).erase p)) (others d) (others d) from by rw [← hi],
    Owed_a d p _ _ _ _ (Finset.notMem_erase p _), Pi.add_apply, Finsupp.add_apply, tallyAt_self]
  exact Nat.le_add_left _ _
theorem O₀_3 (d p : Dev nD) (h : p ≠ d) : Nb ≤ O₀ d (kc 3 p d) () := by
  have hi : others d = insert p ((others d).erase p) := (Finset.insert_erase (Finset.mem_erase.mpr ⟨h, Finset.mem_univ p⟩)).symm
  show Nb ≤ Owed d (others d) (others d) (others d) (others d) (kc 3 p d) ()
  rw [show Owed d (others d) (others d) (others d) (others d) = Owed d (others d) (insert p ((others d).erase p)) (others d) (others d) from by rw [← hi],
    Owed_a d p _ _ _ _ (Finset.notMem_erase p _), Pi.add_apply, Finsupp.add_apply, Pi.add_apply, Finsupp.add_apply, tallyAt_self]
  exact (Nat.le_add_left _ _).trans (Nat.le_add_right _ _)
theorem O₀_5 (d p : Dev nD) (h : p ≠ d) : Nd ≤ O₀ d (kc 5 p d) () := by
  have hi : others d = insert p ((others d).erase p) := (Finset.insert_erase (Finset.mem_erase.mpr ⟨h, Finset.mem_univ p⟩)).symm
  show Nd ≤ Owed d (others d) (others d) (others d) (others d) (kc 5 p d) ()
  rw [show Owed d (others d) (others d) (others d) (others d) = Owed d (others d) (others d) (insert p ((others d).erase p)) (others d) from by rw [← hi],
    Owed_d d p _ _ _ _ (Finset.notMem_erase p _), Pi.add_apply, Finsupp.add_apply, tallyAt_self]
  exact Nat.le_add_left _ _
theorem O₀_ex (d p : Dev nD) (h : p ≠ d) : 1 ≤ O₀ d (exC p d) () := by
  have hi : others d = insert p ((others d).erase p) := (Finset.insert_erase (Finset.mem_erase.mpr ⟨h, Finset.mem_univ p⟩)).symm
  show 1 ≤ Owed d (others d) (others d) (others d) (others d) (exC p d) ()
  rw [show Owed d (others d) (others d) (others d) (others d) = Owed d (others d) (others d) (others d) (insert p ((others d).erase p)) from by rw [← hi],
    Owed_e d p _ _ _ _ (Finset.notMem_erase p _), Pi.add_apply, Finsupp.add_apply, tallyAt_self]
  exact Nat.le_add_left _ _

/-- A cell's credit at the launch is at least what some device owes it. -/
theorem cred_at (g : GSem nD τ sig) (n : ℕ) (h : n ≤ ∑ d : Dev nD, O₀ d g ()) :
    (cred (tallyOn g (launchCredit (Pipeline.owing O₀) 0 g)) : SP F) ⊢ cred (tallyAt g () n) := by
  have e : tallyOn g (launchCredit (Pipeline.owing O₀) 0 g) = (tallyAt g () n + tallyAt g () ((∑ d : Dev nD, O₀ d g ()) - n) : CellTallies nD τ sig Unit) := by
    rw [tallyAt_add, Nat.add_sub_cancel' h]
    unfold tallyAt; refine congrArg _ (Finsupp.ext fun u => ?_); cases u
    rw [Pipeline.launchCredit_owing, Finsupp.single_eq_same]
  rw [e]
  iintro H
  ihave H2 := (cred_add _ _).1 $$ H
  icases H2 with ⟨H, -⟩
  iexact H

theorem one_le_sum (d : Dev nD) (g : GSem nD τ sig) : O₀ d g () ≤ ∑ d : Dev nD, O₀ d g () :=
  Finset.single_le_sum (f := fun d => O₀ d g ()) (fun _ _ => Nat.zero_le _) (Finset.mem_univ d)

theorem bar_sum (c : Dev nD) : 15 ≤ ∑ d : Dev nD, O₀ d (barC c) () := by
  have h1 : ∑ d ∈ others c, 1 ≤ ∑ d ∈ others c, O₀ d (barC c) () :=
    Finset.sum_le_sum fun d hd => O₀_bar d c (Finset.ne_of_mem_erase hd).symm
  have h2 : ∑ d ∈ others c, O₀ d (barC c) () ≤ ∑ d : Dev nD, O₀ d (barC c) () :=
    Finset.sum_le_sum_of_subset (Finset.subset_univ _)
  have h3 : ∑ d ∈ others c, 1 = 15 := by
    rw [Finset.sum_const, Finset.card_erase_of_mem (Finset.mem_univ c)]; rfl
  omega

/-- The credits of device `c`: fifteen units of its barrier, and of every other device's copies and exit unit. -/
def Creds (c : Dev nD) : SP F :=
  iprop(cred (tallyAt (barC c) () 15) ∗ bigSep (others c) fun p =>
    iprop(cred (tallyAt (kc 1 c p) () Na) ∗ cred (tallyAt (kc 3 c p) () Nb) ∗ cred (tallyAt (kc 5 c p) () Nd) ∗ cred (tallyAt (exC c p) () 1)))

theorem creds (c : Dev nD) : (Pipeline.launchCred O₀ c : SP F) ⊢ Creds c := by
  unfold Pipeline.launchCred Creds
  have hs : (Finset.univ.map ⟨osem, osem_inj⟩ : Finset (SemLoc sig)) ⊆ Finset.univ.erase (.reg barrier0) := by
    intro s hs
    obtain ⟨k, -, rfl⟩ := Finset.mem_map.mp hs
    exact Finset.mem_erase.mpr ⟨osem_ne_bar k, Finset.mem_univ _⟩
  have e2 : (bigSep (Finset.univ.erase (.reg barrier0)) fun sm : SemLoc sig =>
        (cred (tallyOn ((c : Thread nD τ), sm) (launchCredit (Pipeline.owing O₀) 0 ((c : Thread nD τ), sm))) : SP F))
      ⊢ bigSep (others c) fun p =>
        iprop(cred (tallyAt (kc 1 c p) () Na) ∗ cred (tallyAt (kc 3 c p) () Nb) ∗ cred (tallyAt (kc 5 c p) () Nd) ∗ cred (tallyAt (exC c p) () 1)) := by
    refine BIBase.Entails.trans (bigSep_subset hs) ?_
    rw [bigSep_map]
    refine BIBase.Entails.trans (Entails.of_eq (own_split c fun sm : SemLoc sig =>
      (cred (tallyOn ((c : Thread nD τ), sm) (launchCredit (Pipeline.owing O₀) 0 ((c : Thread nD τ), sm))) : SP F))) ?_
    rw [bs_six, bs_univ c (fun i => (cred (tallyOn ((c : Thread nD τ), .dma (dsem 1 i)) (launchCredit (Pipeline.owing O₀) 0 ((c : Thread nD τ), .dma (dsem 1 i)))) : SP F)),
      bs_univ c (fun i => (cred (tallyOn ((c : Thread nD τ), .dma (dsem 3 i)) (launchCredit (Pipeline.owing O₀) 0 ((c : Thread nD τ), .dma (dsem 3 i)))) : SP F)),
      bs_univ c (fun i => (cred (tallyOn ((c : Thread nD τ), .dma (dsem 5 i)) (launchCredit (Pipeline.owing O₀) 0 ((c : Thread nD τ), .dma (dsem 5 i)))) : SP F))]
    have m1 : (bigSep (others c) fun p => (cred (tallyOn (kc 1 c p) (launchCredit (Pipeline.owing O₀) 0 (kc 1 c p))) : SP F)) ⊢ bigSep (others c) fun p => cred (tallyAt (kc 1 c p) () Na) :=
      bigSep_mono fun p hp => cred_at _ _ ((O₀_1 p c (Finset.ne_of_mem_erase hp).symm).trans (one_le_sum p _))
    have m3 : (bigSep (others c) fun p => (cred (tallyOn (kc 3 c p) (launchCredit (Pipeline.owing O₀) 0 (kc 3 c p))) : SP F)) ⊢ bigSep (others c) fun p => cred (tallyAt (kc 3 c p) () Nb) :=
      bigSep_mono fun p hp => cred_at _ _ ((O₀_3 p c (Finset.ne_of_mem_erase hp).symm).trans (one_le_sum p _))
    have m5 : (bigSep (others c) fun p => (cred (tallyOn (kc 5 c p) (launchCredit (Pipeline.owing O₀) 0 (kc 5 c p))) : SP F)) ⊢ bigSep (others c) fun p => cred (tallyAt (kc 5 c p) () Nd) :=
      bigSep_mono fun p hp => cred_at _ _ ((O₀_5 p c (Finset.ne_of_mem_erase hp).symm).trans (one_le_sum p _))
    have mx : (bigSep (others c) fun p => (cred (tallyOn (exC c p) (launchCredit (Pipeline.owing O₀) 0 (exC c p))) : SP F)) ⊢ bigSep (others c) fun p => cred (tallyAt (exC c p) () 1) :=
      bigSep_mono fun p hp => cred_at _ _ ((O₀_ex p c (Finset.ne_of_mem_erase hp).symm).trans (one_le_sum p _))
    simp only [bs_sep]
    iintro ⟨⟨-, ⟨-, H1⟩, -, ⟨-, H3⟩, -, ⟨-, H5⟩⟩, Hx⟩
    isplitl [H1]; · iapply m1; iexact H1
    isplitl [H3]; · iapply m3; iexact H3
    isplitl [H5]; · iapply m5; iexact H5
    iapply mx; iexact Hx
  rw [bigSep_univ_at _ (SemLoc.reg barrier0)]
  iintro ⟨Hb, Hr⟩
  isplitl [Hb]; · iapply (cred_at (barC c) 15 (bar_sum c)); iexact Hb
  iapply e2; iexact Hr

end Cert.KernelIdeal.Attn

end
-- ==== Proof.Start.lean ====
/- The kernel entered and left: its own semaphores are put to use, the protocol's start is sorted for the body, and at the end every
   counter is back at zero. -/
module

public import proofs.«01_k».proof.Proof.Cells

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] [Named F]

local notation "𝕄" => MT nD τ sig Unit (Elt F) ℕ UU ℕ

variable (I : Ins F) (κ : GSem nD τ sig → ℕ) (c : Dev nD)

local notation "RR" => Rd (catF I) (statF I) (normF I)

/-- What every device may consult from the launch: the invariants of all cells, and that the barrier cells are in use. -/
def Inv : SP F :=
  iprop((bigSep Finset.univ fun k : Fin 6 => bigSep Finset.univ fun p : Dev nD => bigSep Finset.univ fun i : Dev nD => cellInv ER RR (κ (kc k p i)) (kc k p i))
    ∗ (bigSep Finset.univ fun p : Dev nD => cellInv ER RR (κ (barC p)) (barC p))
    ∗ (bigSep Finset.univ fun p : Dev nD => bigSep Finset.univ fun i : Dev nD => cellInv ER RR (κ (exC p i)) (exC p i))
    ∗ (bigSep Finset.univ fun p : Dev nD => reached ER (barC p) 0))

instance Inv_persistent : BI.Persistent (Inv I κ) := by unfold Inv; infer_instance

/-- The invariants of the own cells of a device are among them. -/
theorem inv_own : Inv I κ ⊢ bigSep Finset.univ fun k : OK => cellInv ER RR (κ (oc c k)) (oc c k) := by
  rw [own_split c (fun sm : SemLoc sig => (cellInv ER RR (κ ((c : Thread nD τ), sm)) ((c : Thread nD τ), sm) : SP F))]
  unfold Inv
  iintro ⟨#Hk, -, #Hx, -⟩
  isplitr
  · iapply (bigSep_intro_persistent (R := bigSep Finset.univ fun k : Fin 6 => bigSep Finset.univ fun p : Dev nD => bigSep Finset.univ fun i : Dev nD => (cellInv ER RR (κ (kc k p i)) (kc k p i) : SP F))
      fun k _ => BIBase.Entails.trans (bs_elim (Finset.mem_univ k)) (bs_elim (Finset.mem_univ c)))
    iexact Hk
  · iapply (BIBase.Entails.trans (bs_elim (Finset.mem_univ c)) (bigSep_subset (Finset.subset_univ (others c))) :
      (bigSep Finset.univ fun p : Dev nD => bigSep Finset.univ fun i : Dev nD => (cellInv ER RR (κ (exC p i)) (exC p i) : SP F)) ⊢ bigSep (others c) fun i => (cellInv ER RR (κ (exC c i)) (exC c i) : SP F))
    iexact Hx

/-- What device `c` holds of the protocol up to the kernel. -/
def Tk : SP F :=
  iprop(∃ κ : GSem nD τ sig → ℕ, Inv I κ ∗ atPos ER (barC c) 0 ∅ 0 ∗ (bigSep Finset.univ fun k : OK => openTok ER (oc c k)) ∗ Toks c ∗ Creds c)

/-- What it holds once the kernel's own semaphores are in use. -/
def Xk : SP F :=
  iprop(∃ κ : GSem nD τ sig → ℕ, Ctx (catF I) (statF I) (normF I) κ c ∗ atPos ER (barC c) 0 ∅ 0
    ∗ (bigSep Finset.univ fun k : Fin 6 => bigSep Finset.univ fun i : Dev nD => atPos ER (kc k c i) 0 ∅ 0)
    ∗ (bigSep (others c) fun p => atPos ER (exC c p) 0 ∅ 0) ∗ Toks c ∗ Creds c)

theorem exC_self : exC c c = exC c (c + 1) := by
  have e : exSem (c - c) = exSem (c + 1 - c) := by revert c; decide
  show ((c : Thread nD τ), SemLoc.reg (exSem (c - c))) = ((c : Thread nD τ), SemLoc.reg (exSem (c + 1 - c)))
  rw [e]

/-- The kernel's own semaphores are put to use. -/
theorem open_own : iprop(Tk I c ∗ Pipeline.ownSems0 osem c ∗ levAts L lv) ⊢ (|={Set.univ}=> Xk I c : SP F) := by
  unfold Tk Xk
  iintro ⟨⟨%κ, #HI, Hb, Ho, Ht, Hc⟩, Hs, #Hlev⟩
  imod (Rounds.cells_open ER RR (Finset.univ : Finset OK) (fun k => oc c k) (fun k => κ (oc c k)) (Es := Set.univ) (fun _ _ => Set.mem_univ _)) $$ [Ho Hs] with Hop
  · isplitl [Ho]
    · iapply (Entails.of_eq (bs_sep (s := (Finset.univ : Finset OK)) (Φ := fun k => (cellInv ER RR (κ (oc c k)) (oc c k) : SP F)) (Ψ := fun k => openTok ER (oc c k))).symm)
      isplitr; · iapply (inv_own I κ c); iexact HI
      iexact Ho
    · unfold Pipeline.ownSems0; iexact Hs
  ihave H2 := (Entails.of_eq (bs_sep (s := (Finset.univ : Finset OK)) (Φ := fun k => (atPos ER (oc c k) 0 ∅ 0 : SP F)) (Ψ := fun k => reached ER (oc c k) 0))) $$ Hop
  icases H2 with ⟨Hat, #Hre⟩
  ihave Hat2 := (Entails.of_eq (own_split c fun sm : SemLoc sig => (atPos ER ((c : Thread nD τ), sm) 0 ∅ 0 : SP F))) $$ Hat
  ihave Hre2 := (Entails.of_eq (own_split c fun sm : SemLoc sig => (reached ER ((c : Thread nD τ), sm) 0 : SP F))) $$ Hre
  icases Hat2 with ⟨Hk, Hx⟩
  icases Hre2 with ⟨#Hrk, #Hrx⟩
  imodintro
  iexists κ
  isplitr
  · unfold Ctx Inv
    icases HI with ⟨#H1, #H2, #H3, #H4⟩
    isplitr; · iexact H1
    isplitr; · iexact H2
    isplitr; · iexact H3
    isplitr; · iexact Hlev
    isplitr; · iexact H4
    isplitr; · iexact Hrk
    iapply (bigSep_intro_persistent (R := bigSep (others c) fun p => (reached ER (exC c p) 0 : SP F)) fun p _ => ?_)
    rotate_left
    · iexact Hrx
    · by_cases h : p = c
      · subst h
        rw [exC_self]
        exact bs_elim (Finset.mem_erase.mpr ⟨by revert p; decide, Finset.mem_univ _⟩)
      · exact bs_elim (Finset.mem_erase.mpr ⟨h, Finset.mem_univ p⟩)
  isplitl [Hb]; · iexact Hb
  isplitl [Hk]; · iexact Hk
  isplitl [Hx]; · iexact Hx
  isplitl [Ht]; · iexact Ht
  iexact Hc

/-! ## The semaphores at the end -/

/-- The cells of index `c` on device `c`, which nobody uses. -/
def Self : SP F := bigSep Finset.univ fun k : Fin 6 => atPos ER (kc k c c) 0 ∅ 0

/-- The round at which a cell of device `c` ends. -/
def lastR (s : SemLoc sig) : ℕ :=
  match s with
  | .dma q => if indexOf q = c then 0 else 1
  | .reg _ => 1

/-- At the end every counter of device `c` is back at zero. -/
theorem close_own :
    iprop(Ctx (catF I) (statF I) (normF I) κ c ∗ Self c ∗ atPos ER (barC c) 1 ∅ 0 ∗ (bigSep (others c) fun s => iprop(atPos ER (kc 1 c s) 1 ∅ 0 ∗ atPos ER (kc 3 c s) 1 ∅ 0))
      ∗ (bigSep (others c) fun s => atPos ER (kc 5 c s) 1 ∅ 0)
      ∗ (bigSep (others c) fun s => iprop(atPos ER (kc 0 c s) 1 ∅ 0 ∗ atPos ER (kc 2 c s) 1 ∅ 0 ∗ atPos ER (kc 4 c s) 1 ∅ 0))
      ∗ (bigSep (others c) fun p => atPos ER (exC c p) 1 ∅ 0))
      ⊢ (iprop(|={Set.univ}=> (semVal (barC c) 0 ∗ Pipeline.ownSems0 osem c)) : SP F) := by
  have hin : Ctx (catF I) (statF I) (normF I) κ c ⊢ Inv I κ := by
    unfold Ctx Inv
    iintro ⟨H1, H2, H3, -, H4, -⟩
    isplitl [H1]; · iexact H1
    isplitl [H2]; · iexact H2
    isplitl [H3]; · iexact H3
    iexact H4
  have h0 : ∀ k : Fin 6, lastR c (.dma (dsem k c)) = 0 := fun k => by unfold lastR; dsimp only; rw [indexOf_dsem, if_pos rfl]
  have h1 : ∀ k : Fin 6, ∀ i ∈ others c, lastR c (.dma (dsem k i)) = 1 := fun k i hi => by
    unfold lastR; dsimp only; rw [indexOf_dsem, if_neg (Finset.ne_of_mem_erase hi)]
  have ek : ∀ k : Fin 6, (bigSep Finset.univ fun i : Dev nD => (atPos ER (kc k c i) (lastR c (.dma (dsem k i))) ∅ 0 : SP F))
      = iprop(atPos ER (kc k c c) 0 ∅ 0 ∗ bigSep (others c) fun i => atPos ER (kc k c i) 1 ∅ 0) := fun k => by
    rw [bs_univ c (fun i : Dev nD => (atPos ER (kc k c i) (lastR c (.dma (dsem k i))) ∅ 0 : SP F)), h0,
      bigSep_congr (Φ := fun i : Dev nD => (atPos ER (kc k c i) (lastR c (.dma (dsem k i))) ∅ 0 : SP F)) (Ψ := fun i => atPos ER (kc k c i) 1 ∅ 0) fun i hi => by rw [h1 k i hi]]
  have eo : (bigSep Finset.univ fun k : OK => (atPos ER (oc c k) (lastR c (osem k)) ∅ 0 : SP F))
      = iprop((bigSep Finset.univ fun k : Fin 6 => iprop(atPos ER (kc k c c) 0 ∅ 0 ∗ bigSep (others c) fun i => atPos ER (kc k c i) 1 ∅ 0))
        ∗ bigSep (others c) fun p => atPos ER (exC c p) 1 ∅ 0) := by
    refine (own_split c fun sm : SemLoc sig => (atPos ER ((c : Thread nD τ), sm) (lastR c sm) ∅ 0 : SP F)).trans ?_
    rw [bigSep_congr fun k _ => ek k]
    rfl
  have hR : ∀ k ∈ (Finset.univ : Finset OK), ∀ r, lastR c (osem k) ≤ r → (RR).duties (oc c k) r = ∅ := by
    rintro (⟨k, i⟩ | j) - r hr
    · by_cases hi : i = c
      · subst hi
        rcases Nat.eq_zero_or_pos r with rfl | hp
        · exact duties_kc_self (catF I) (statF I) (normF I) k i
        · exact duties_later (catF I) (statF I) (normF I) _ r hp
      · have e : lastR c (osem (.inl (k, i))) = 1 := h1 k i (Finset.mem_erase.mpr ⟨hi, Finset.mem_univ i⟩)
        exact duties_later (catF I) (statF I) (normF I) _ r (e ▸ hr)
    · exact duties_later (catF I) (statF I) (normF I) _ r hr
  unfold Self
  iintro ⟨#HC, Hself, Hb, H13, H5, H024, Hx⟩
  imod (Rounds.cell_close ER RR (g := barC c) (κ := κ (barC c)) (Es := Set.univ) (Set.mem_univ _) (fun h => h) (R := 1)
      (duties_later (catF I) (statF I) (normF I) (barC c))) $$ [Hb] with Hb0
  · isplitr; · iapply (ctx_bar (catF I) (statF I) (normF I) κ c c); iexact HC
    iexact Hb
  imod (Rounds.cells_close ER RR (Finset.univ : Finset OK) (fun k => oc c k) (fun k => κ (oc c k)) (Es := Set.univ) (fun _ _ => Set.mem_univ _) (fun _ _ h => h)
      (fun k => lastR c (osem k)) hR) $$ [Hself H13 H5 H024 Hx] with Hs0
  · iapply (Entails.of_eq (bs_sep (s := (Finset.univ : Finset OK)) (Φ := fun k => (cellInv ER RR (κ (oc c k)) (oc c k) : SP F)) (Ψ := fun k => atPos ER (oc c k) (lastR c (osem k)) ∅ 0)).symm)
    isplitr; · iapply (inv_own I κ c); iapply hin; iexact HC
    iapply (Entails.of_eq eo.symm)
    isplitr [Hx]
    · iapply (Entails.of_eq (bs_sep (s := (Finset.univ : Finset (Fin 6))) (Φ := fun k => (atPos ER (kc k c c) 0 ∅ 0 : SP F)) (Ψ := fun k => bigSep (others c) fun i => atPos ER (kc k c i) 1 ∅ 0)).symm)
      isplitl [Hself]; · iexact Hself
      iapply (Entails.of_eq (bs_six fun k => (bigSep (others c) fun i => atPos ER (kc k c i) 1 ∅ 0 : SP F)).symm)
      simp only [bs_sep]
      icases H13 with ⟨H1, H3⟩
      icases H024 with ⟨H0, H2, H4⟩
      isplitl [H0]; · iexact H0
      isplitl [H1]; · iexact H1
      isplitl [H2]; · iexact H2
      isplitl [H3]; · iexact H3
      isplitl [H4]; · iexact H4
      iexact H5
    · iexact Hx
  imodintro
  isplitl [Hb0]; · iexact Hb0
  unfold Pipeline.ownSems0; iexact Hs0

/-! ## The body, from what the kernel is entered with -/

/-- The four scratch buffers, at contents not chosen. -/
def Scr : SP F :=
  iprop((∃ f : Vec F S1024x512 .bf16, catL c ↦[Finset.univ]{fullShare} f) ∗ (∃ f : Vec F S8x2x512 .f32, statL c ↦[Finset.univ]{fullShare} f)
      ∗ (∃ f : Vec F S16x64x512 .bf16, osegL c ↦[Finset.univ]{fullShare} f) ∗ (∃ f : Vec F S16x2x512 .f32, statsL c ↦[Finset.univ]{fullShare} f))

/-- The received parts' buffers, slot by slot. -/
theorem scr_slots : iprop((∃ f : Vec F S16x64x512 .bf16, osegL c ↦[Finset.univ]{fullShare} f) ∗ (∃ f : Vec F S16x2x512 .f32, statsL c ↦[Finset.univ]{fullShare} f))
    ⊢ (iprop(slots c c ∗ bigSep (others c) fun p => slots c p) : SP F) := by
  iintro ⟨⟨%f, Ho⟩, ⟨%g, Hs⟩⟩
  iapply (Entails.of_eq (bs_univ c fun p => (slots c p : SP F)))
  ihave Ho2 := (Entails.of_eq (oseg_all c f)) $$ Ho
  ihave Hs2 := (Entails.of_eq (stats_all c g)) $$ Hs
  have m : (iprop((bigSep Finset.univ fun s : Dev nD => (statsL c ↦[statsRow s]{fullShare} g)) ∗ bigSep Finset.univ fun s : Dev nD => (osegL c ↦[osegRow s]{fullShare} f)) : SP F)
      ⊢ bigSep Finset.univ fun s => slots c s := by
    rw [← bs_sep]
    refine bigSep_mono fun s _ => ?_
    show (iprop((statsL c ↦[statsRow s]{fullShare} g) ∗ (osegL c ↦[osegRow s]{fullShare} f)) : SP F) ⊢ slots c s
    unfold slots
    iintro ⟨H1, H2⟩
    isplitl [H1]; · iexists g; iexact H1
    iexists f; iexact H2
  iapply m
  isplitl [Hs2]; · iexact Hs2
  iexact Ho2

/-- The protocol's start, sorted for the body. -/
theorem sort_start (W : Waits sig Unit) :
    iprop(Ctx (catF I) (statF I) (normF I) κ c ∗ atPos ER (barC c) 0 ∅ 0
      ∗ (bigSep Finset.univ fun k : Fin 6 => bigSep Finset.univ fun i : Dev nD => atPos ER (kc k c i) 0 ∅ 0)
      ∗ (bigSep (others c) fun p => atPos ER (exC c p) 0 ∅ 0) ∗ Toks c ∗ Creds c ∗ Scr c ∗ owes (c : Thread nD τ) (O₀ c) W)
      ⊢ (iprop(T0 c 0 ∗ BS c 0 ∗ (PreR c ∗ L1 c ∗ L2 c ∗ L3 c ∗ L4 c ∗ L5 c ∗ L6 c ∗ emp) ∗ Self c) : SP F) := by
  have eself : (bigSep Finset.univ fun k : Fin 6 => bigSep Finset.univ fun i : Dev nD => (atPos ER (kc k c i) 0 ∅ 0 : SP F))
      = iprop(Self c ∗ bigSep Finset.univ fun k : Fin 6 => bigSep (others c) fun i => (atPos ER (kc k c i) 0 ∅ 0 : SP F)) := by
    unfold Self
    rw [← bs_sep]
    exact bigSep_congr fun k _ => bs_univ c (fun i : Dev nD => (atPos ER (kc k c i) 0 ∅ 0 : SP F))
  have etok : (Toks c : SP F) ⊢ bigSep (others c) fun p : Dev nD =>
      iprop(dutyTok ER (kc 0 c p) 0 p ∗ dutyTok ER (kc 2 c p) 0 p ∗ dutyTok ER (kc 4 c p) 0 p ∗ dutyTok ER (kc 1 p c) 0 c ∗ dutyTok ER (kc 3 p c) 0 c
        ∗ dutyTok ER (kc 5 p c) 0 c ∗ dutyTok ER (barC p) 0 c ∗ dutyTok ER (exC p c) 0 c) := bigSep_subset (Finset.subset_univ _)
  have hre : Ctx (catF I) (statF I) (normF I) κ c ⊢ bigSep (others c) fun p => iprop(reached ER (kc 1 c p) 0 ∗ reached ER (kc 3 c p) 0 ∗ reached ER (kc 5 c p) 0 ∗ reached ER (exC c p) 0) :=
    bigSep_intro_persistent fun p _ => by
      iintro #HC
      isplitr; · iapply (ctx_reached (catF I) (statF I) (normF I) κ c 1 p); iexact HC
      isplitr; · iapply (ctx_reached (catF I) (statF I) (normF I) κ c 3 p); iexact HC
      isplitr; · iapply (ctx_reached (catF I) (statF I) (normF I) κ c 5 p); iexact HC
      iapply (ctx_exReached (catF I) (statF I) (normF I) κ c p); iexact HC
  have hcat : (rows 0 1024 : Finset S1024x512.Idx) = Finset.univ := by
    ext i; have : (i 0).val < 1024 := (i 0).isLt
    simp [rows, this]
  have hst : (Finset.univ.filter fun i : S8x2x512.Idx => 0 ≤ (i 0).val) = Finset.univ := by ext i; simp
  unfold Scr Creds
  iintro ⟨#HC, Hb, Hk, Hx, Ht, ⟨Hcb, Hcr⟩, ⟨⟨%f0, H0⟩, ⟨%f1, H1⟩, H2, H3⟩, HO⟩
  ihave Hk2 := (Entails.of_eq eself) $$ Hk
  icases Hk2 with ⟨Hself, Hk⟩
  ihave Hk6 := (Entails.of_eq (bs_six fun k => (bigSep (others c) fun i => atPos ER (kc k c i) 0 ∅ 0 : SP F))) $$ Hk
  icases Hk6 with ⟨Ha0, Ha1, Ha2, Ha3, Ha4, Ha5⟩
  ihave Ht2 := etok $$ Ht
  ihave Hre := hre $$ HC
  ihave Hsl := (scr_slots c) $$ [H2 H3]
  · isplitl [H2]; · iexact H2
    iexact H3
  icases Hsl with ⟨Hsc, Hsl⟩
  unfold T0 BS PreR L1 L2 L3 L4 L5 L6 abTok rwTok barPay
  rw [remR_zero]
  simp only [bs_sep]
  icases Ht2 with ⟨Ht0, Ht2, Ht4, Ht1, Ht3, Ht5, Htb, Htx⟩
  icases Hcr with ⟨Hc1, Hc3, Hc5, Hcx⟩
  isplitl [H0 H1]
  · isplitl [H0]
    · iexists f0; rw [Nat.mul_zero, hcat]; iexact H0
    · iexists f1; iapply (Entails.of_eq (congrArg (fun S => (statL c ↦[S]{fullShare} f1 : SP F)) hst.symm)); iexact H1
  isplitl [Htb Hsl Hre HO]
  · isplitl [Htb Hsl Hre]
    · isplitl [Htb]; · iexact Htb
      isplitl [Hsl]; · iexact Hsl
      iexact Hre
    · unfold Ow; iexists W; iexact HO
  isplitr [Hself]
  · isplitl [Hcb Hb Ht0 Ht1 Ht2 Ht3 Hsc]
    · isplitl [Hcb]; · iexact Hcb
      isplitl [Hb]; · iexact Hb
      isplitr [Hsc]
      · isplitl [Ht0]; · iexact Ht0
        isplitl [Ht1]; · iexact Ht1
        isplitl [Ht2]; · iexact Ht2
        iexact Ht3
      · iexact Hsc
    isplitl [Hc1 Hc3 Ha1 Ha3]
    · isplitl [Hc1]; · iexact Hc1
      isplitl [Hc3]; · iexact Hc3
      isplitl [Ha1]; · iexact Ha1
      iexact Ha3
    isplitl [Ht4 Ht5]
    · isplitl [Ht4]; · iexact Ht4
      iexact Ht5
    isplitl [Hc5 Ha5]
    · isplitl [Hc5]; · iexact Hc5
      iexact Ha5
    isplitl [Ha0 Ha2 Ha4]
    · isplitl [Ha0]; · iexact Ha0
      isplitl [Ha2]; · iexact Ha2
      iexact Ha4
    isplitl [Htx]; · iexact Htx
    isplitl [Hcx Hx]
    · isplitl [Hcx]; · iexact Hcx
      iexact Hx
    iempintro
  · iexact Hself

theorem Owed_none : Owed c ∅ ∅ ∅ ∅ = 0 := by
  unfold Owed; simp only [Finset.sum_empty, add_zero]

set_option maxRecDepth 4000 in
/-- The whole kernel on device `c`, from entering it to every counter back at zero. -/
theorem region_run (o : Vec F S1x512x1024 .f32) (W : Waits sig Unit) :
    iprop(Xk I c ∗ Scr c ∗ XB I c o ∗ owes (c : Thread nD τ) (O₀ c) W)
      ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10) fun _ => iprop(Scr c ∗ XB I c (outF I (normF I) c) ∗ semVal (barC c) 0 ∗ Pipeline.ownSems0 osem c
        ∗ ∃ W, owes (c : Thread nD τ) (0 : CellTallies nD τ sig Unit) W) := by
  have hw : ∀ κ : GSem nD τ sig → ℕ, iprop(Self c ∗ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10) fun _ => iprop(Ctx (catF I) (statF I) (normF I) κ c ∗ XB I c (outF I (normF I) c) ∗ Fin0 c))
      ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10) fun _ => iprop(Scr c ∗ XB I c (outF I (normF I) c) ∗ semVal (barC c) 0 ∗ Pipeline.ownSems0 osem c
        ∗ ∃ W, owes (c : Thread nD τ) (0 : CellTallies nD τ sig Unit) W) := fun κ => by
    refine BIBase.Entails.trans (wp_frame_l frame (wpE (defs₀ (F := F)) 𝒱₀ (c : Thread nD τ) none) Set.univ) ?_
    refine BIBase.Entails.trans ?_ (wp_fupd frame (wpE (defs₀ (F := F)) 𝒱₀ (c : Thread nD τ) none) Set.univ _ _)
    refine wp_mono frame (wpE (defs₀ (F := F)) 𝒱₀ (c : Thread nD τ) none) Set.univ fun _ => ?_
    unfold Fin0
    iintro ⟨Hself, HC, HX, Hscr, Hat, HO⟩
    imod (close_own I κ c) $$ [Hself HC Hat] with ⟨Hb, Hs⟩
    · isplitl [HC]; · iexact HC
      isplitl [Hself]; · iexact Hself
      iexact Hat
    imodintro
    isplitl [Hscr]; · unfold Scr; iexact Hscr
    isplitl [HX]; · iexact HX
    isplitl [Hb]; · iexact Hb
    isplitl [Hs]; · iexact Hs
    unfold Ow
    rw [Owed_none]
    iexact HO
  have hbody := fun κ => body_run (normF I) κ I c o fun k j => normF_row I c k j
  unfold Xk
  iintro ⟨⟨%κ, #HC, Hb, Hk, Hx, Ht, Hc⟩, Hscr, HX, HO⟩
  iapply (hw κ)
  ihave H := (sort_start I κ c W) $$ [Hb Hk Hx Ht Hc Hscr HO]
  · isplitr; · iexact HC
    isplitl [Hb]; · iexact Hb
    isplitl [Hk]; · iexact Hk
    isplitl [Hx]; · iexact Hx
    isplitl [Ht]; · iexact Ht
    isplitl [Hc]; · iexact Hc
    isplitl [Hscr]; · iexact Hscr
    iexact HO
  icases H with ⟨HT, HB, HR, Hself⟩
  isplitl [Hself]; · iexact Hself
  iapply (hbody κ)
  isplitr; · iexact HC
  isplitl [HX]; · iexact HX
  isplitl [HT]; · iexact HT
  isplitl [HB]; · iexact HB
  iexact HR

end Cert.KernelIdeal.Attn

end
-- ==== Proof.Region.lean ====
/- The kernel's one region: what its windows hold, what the body leaves in them, and the body obligation. -/
module

public import proofs.«01_k».proof.Proof.Start

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen
open Idealize.ShloMosaic.Pipeline (Dat Cfg Window BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- What the devices' windows hold: the five arrays as the kernel is entered. -/
def insM : Ins F where
  x c := V m c main_v1
  wq c := V m c main_arg1
  wo c := V m c main_arg4
  k c := V m c main_v2
  v c := V m c main_v3

/-- What device `c` leaves in its result. -/
abbrev res (c : Dev nD) : Vec F S1x512x1024 .f32 := outF (insM m) (normF (insM m)) c

/-! ## Each window's block is its whole array -/

theorem iblk_0 (c : Dev nD) (t : Fin cfg0.N) : iblk m c 0 t = (insM m).x c := by
  unfold iblk; exact Memref.read_access_unit_zero (Elt F) main_v1 (funext fun a => Nat.zero_mul _) _ _
theorem iblk_1 (c : Dev nD) (t : Fin cfg0.N) : iblk m c 1 t = (insM m).wq c := by
  unfold iblk; exact Memref.read_access_unit_zero (Elt F) main_arg1 (funext fun a => Nat.zero_mul _) _ _
theorem iblk_2 (c : Dev nD) (t : Fin cfg0.N) : iblk m c 2 t = (insM m).wo c := by
  unfold iblk; exact Memref.read_access_unit_zero (Elt F) main_arg4 (funext fun a => Nat.zero_mul _) _ _
theorem iblk_3 (c : Dev nD) (t : Fin cfg0.N) : iblk m c 3 t = (insM m).k c := by
  unfold iblk; exact Memref.read_access_unit_zero (Elt F) main_v2 (funext fun a => Nat.zero_mul _) _ _
theorem iblk_4 (c : Dev nD) (t : Fin cfg0.N) : iblk m c 4 t = (insM m).v c := by
  unfold iblk; exact Memref.read_access_unit_zero (Elt F) main_v3 (funext fun a => Nat.zero_mul _) _ _
theorem write_5 (c : Dev nD) (t : Fin cfg0.N) (f w : Buf (Elt F) ((c : Thread nD τ).loc main_v4)) :
    ((cfg0.win 5).blk t).view.write (Elt F) f w Finset.univ = w :=
  Memref.write_access_unit_zero_univ (Elt F) main_v4 (funext fun a => Nat.zero_mul _) _ _ _

/-! ## The proof data -/

/-- At the one point: the arrays as entered; afterwards the inputs in place and the result at `res`. What device `c` holds
    before the point is the protocol's start and the scratch buffers, afterwards its counters at zero. -/
def dat (c : Dev nD) : Pipeline.Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res m c
  Φ t := if t.val = 0 then iprop(Xk (insM m) c ∗ Scr c ∗ ∃ r, prngReg c r)
    else iprop((semVal (barC c) 0 ∗ Pipeline.ownSems0 osem c) ∗ Scr c ∗ ∃ r, prngReg c r)
  q _ := fullShare
  owed t := if t.val = 0 then O₀ c else 0

theorem A_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = res m c := by dsimp only [dat]

theorem before_0 (c : Dev nD) (t : Fin cfg0.N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat m c).before 4 t d = iblk m c 4 t :=
  ((dat m c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem owed_zero (c : Dev nD) : (dat m c).owed 0 = O₀ c := by
  show (if ((0 : Fin (cfg0.N + 1)).val = 0) then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem Φ_zero (c : Dev nD) : (dat m c).Φ 0 = iprop(Xk (insM m) c ∗ Scr c ∗ ∃ r, prngReg c r) := by
  dsimp only [dat]; exact if_pos rfl
theorem Φ_last (c : Dev nD) : (dat m c).Φ (Fin.last _) = iprop((semVal (barC c) 0 ∗ Pipeline.ownSems0 osem c) ∗ Scr c ∗ ∃ r, prngReg c r) := by
  dsimp only [dat]
  rw [Fin.val_last, if_neg (by rw [show cfg0.N = 1 from N_0]; decide)]

theorem owes_in (c : Dev nD) (W : Waits sig Unit) : (owes (c : Thread nD τ) (0 : CellTallies nD τ sig Unit) W : SP F) ⊢ ((dat m c).owesAt () (Fin.last _) : SP F) := by
  unfold Dat.owesAt Pipeline.owesWithin Dat.bound; rw [owed_last]
  iintro HO; iexists W; isplitr; · ipureintro; exact fun _ _ => Or.inl trivial
  iexact HO
theorem owes_out (c : Dev nD) : ((dat m c).owesAt () 0 : SP F) ⊢ iprop(∃ W, owes (c : Thread nD τ) (O₀ c) W) := by
  unfold Dat.owesAt Pipeline.owesWithin; rw [owed_zero]
  iintro ⟨%W, -, HO⟩; iexists W; iexact HO

/-! ## The body at its point -/

/-- The staging buffers with what the windows hold are the buffers the body is run on. -/
theorem body (c : Dev nD) : BodyObligation (dat m c) defs₀ 𝒱₀ () Set.univ := fun t => by
  obtain rfl := fin_N0 t
  have e0 : t0_0.castSucc = (0 : Fin (cfg0.N + 1)) := Fin.ext rfl
  have e1 : t0_0.succ = Fin.last cfg0.N := Fin.ext (by show 0 + 1 = grid0.N; rw [N_0])
  rw [e0, e1, Φ_zero, Φ_last, bigSep_W0, bigSep_W0]
  simp only [after_0, after_1, after_2, after_3, after_4, after_5, before_0, before_1, before_2, before_3, before_4, iblk_0, iblk_1, iblk_2, iblk_3, iblk_4]
  show iprop((Xk (insM m) c ∗ Scr c ∗ ∃ r, prngReg c r) ∗ (dat m c).owesAt () 0
      ∗ (∃ d : Vec F S512x1024 .bf16, owns (c : Thread nD τ) (Memref.whole cc0_stg0_0) fullShare ((insM m).x c))
      ∗ (∃ d : Vec F S1024x1024 .bf16, owns (c : Thread nD τ) (Memref.whole cc0_stg1_0) fullShare ((insM m).wq c))
      ∗ (∃ d : Vec F S1024x1024 .bf16, owns (c : Thread nD τ) (Memref.whole cc0_stg2_0) fullShare ((insM m).wo c))
      ∗ (∃ d : Vec F S2048x1024 .bf16, owns (c : Thread nD τ) (Memref.whole cc0_stg3_0) fullShare ((insM m).k c))
      ∗ (∃ d : Vec F S2048x1024 .bf16, owns (c : Thread nD τ) (Memref.whole cc0_stg4_0) fullShare ((insM m).v c))
      ∗ (∃ d : Vec F S1x512x1024 .f32, owns (c : Thread nD τ) (Memref.whole cc0_stg5_0) fullShare ((dat m c).before 5 t0_0 d)))
    ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10) fun _ => iprop(((semVal (barC c) 0 ∗ Pipeline.ownSems0 osem c) ∗ Scr c ∗ ∃ r, prngReg c r) ∗ (dat m c).owesAt () (Fin.last _)
      ∗ owns (c : Thread nD τ) (Memref.whole cc0_stg0_0) fullShare ((insM m).x c)
      ∗ owns (c : Thread nD τ) (Memref.whole cc0_stg1_0) fullShare ((insM m).wq c)
      ∗ owns (c : Thread nD τ) (Memref.whole cc0_stg2_0) fullShare ((insM m).wo c)
      ∗ owns (c : Thread nD τ) (Memref.whole cc0_stg3_0) fullShare ((insM m).k c)
      ∗ owns (c : Thread nD τ) (Memref.whole cc0_stg4_0) fullShare ((insM m).v c)
      ∗ owns (c : Thread nD τ) (Memref.whole cc0_stg5_0) fullShare (res m c))
  simp only [owns_whole]
  iintro ⟨⟨HX, HS, Hp⟩, HO, ⟨%d0, H0⟩, ⟨%d1, H1⟩, ⟨%d2, H2⟩, ⟨%d3, H3⟩, ⟨%d4, H4⟩, ⟨%d5, H5⟩⟩
  ihave HO2 := (owes_out m c) $$ HO
  icases HO2 with ⟨%W, HO⟩
  ihave Hw := (region_run (insM m) c ((dat m c).before 5 t0_0 d5) W) $$ [HX HS HO H0 H1 H2 H3 H4 H5]
  · isplitl [HX]; · iexact HX
    isplitl [HS]; · iexact HS
    isplitr [HO]
    · unfold XB
      isplitl [H0]; · iexact H0
      isplitl [H1]; · iexact H1
      isplitl [H2]; · iexact H2
      isplitl [H3]; · iexact H3
      isplitl [H4]; · iexact H4
      iexact H5
    · iexact HO
  iapply (wp_wand frame (wpE (defs₀ (F := F)) 𝒱₀ (c : Thread nD τ) none) Set.univ) $$ Hw
  · unfold XB
    iintro %_ ⟨HS, ⟨H0, H1, H2, H3, H4, H5⟩, Hb, Hs, ⟨%W', HO⟩⟩
    isplitr [HO H0 H1 H2 H3 H4 H5]
    · isplitl [Hb Hs]
      · isplitl [Hb]; · iexact Hb
        iexact Hs
      isplitl [HS]; · iexact HS
      iexact Hp
    isplitl [HO]; · iapply (owes_in m c W'); iexact HO
    isplitl [H0]; · iexact H0
    isplitl [H1]; · iexact H1
    isplitl [H2]; · iexact H2
    isplitl [H3]; · iexact H3
    isplitl [H4]; · iexact H4
    iexact H5

end Cert.KernelIdeal.Attn

end
-- ==== Proof.Run.lean ====
/- The run of the whole program: the launch of the protocol, the two segments of the program, and what every execution ends with. -/
module

public import proofs.«01_k».proof.Proof.Region
public import Idealize.ShloMosaic.Lib.Pipeline.Regions

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen
open Idealize.ShloMosaic.Pipeline (Dat Cfg Window BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The two segments of the program: three reshapes, the kernel -/

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun _ c => dat m c

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The buffers of device `c` at the launch, when the kernel is entered, and at the end. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v4) (res m c)

theorem V₂_v4 (c : Dev nD) : V₂ m c (Proc.devRef .tc main_v4) = res m c := Function.update_self _ _ _
theorem V₂_ne (c : Dev nD) (b : DevRef τ sig) (h : b ≠ Proc.devRef .tc main_v4) : V₂ m c b = V₁ m c b := Function.update_of_ne h _ _

abbrev bufs : Finset (DevRef τ sig) := Pipeline.ucRefs τ sig
/-- The buffers that no window names. -/
abbrev restB : Finset (DevRef τ sig) := bufs \ Pipeline.arrRefs (τ := τ) spec0

theorem bufs_eq (c : Dev nD) (W : Valuation τ sig (Elt F)) : (StableHlo.held (c : Thread nD τ) bufs W : SP F)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_arg4 ↦{fullShare} W main_arg4) ∗ ((c : Thread nD τ).loc main_v1 ↦{fullShare} W main_v1)
      ∗ ((c : Thread nD τ).loc main_v2 ↦{fullShare} W main_v2) ∗ ((c : Thread nD τ).loc main_v3 ↦{fullShare} W main_v3)
      ∗ ((c : Thread nD τ).loc main_v4 ↦{fullShare} W main_v4)) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v1, Proc.devRef .tc main_v2, Proc.devRef .tc main_v3, Proc.devRef .tc main_v4] (by decide) (by decide)]
  rfl

theorem unscopedSems0_eq (c : Dev nD) : (unscopedSems0 c : SP F) = semVal (barC c) 0 := by
  unfold unscopedSems0
  rw [show (Finset.univ.filter fun sm : SemLoc sig => ¬ sm.isScoped .tc) = {SemLoc.reg barrier0} from by decide, BI.bigSep_singleton]

/-- What rides beside the buffers up to the kernel. -/
def Rc (c : Dev nD) : SP F := iprop((Tk (insM m) c ∗ ∃ r, prngReg c r) ∗ ∃ W, owes (c : Thread nD τ) (O₀ c) W)

def seg0 : ℍ := Pipeline.HostSeg.ofOps _ _ _ _ _ bufs hostOps0
  (fun op h => Pipeline.sub_ucRefs op (List.forall_iff_forall_mem.mp hostOps0_sub op h)) (List.forall_iff_forall_mem.mp Gen.hostOps0_fresh) (V₀ m) (Rc m)

theorem scr_eq (c : Dev nD) : (Pipeline.scopedRest (Pipeline.pin (pcfgs (F := F)) adm 0).spec c : SP F) = Scr c := scopedRest0_eq c

theorem hin0 (c : Dev nD) : iprop(Pipeline.scopedRest (Pipeline.pin (pcfgs (F := F)) adm 0).spec c ∗ (∃ r, prngReg c r) ∗ StableHlo.held (c.tc : Thread nD τ) (∅ : Finset (DevRef τ sig)) (V₁ m c) ∗ Xk (insM m) c)
    ⊢ ((pdats m 0 c).Φ 0 : SP F) := by
  rw [show (pdats m 0 c).Φ 0 = iprop(Xk (insM m) c ∗ Scr c ∗ ∃ r, prngReg c r) from Φ_zero m c, scr_eq]
  iintro ⟨Hs, Hp, -, HX⟩
  isplitl [HX]; · iexact HX
  isplitl [Hs]; · iexact Hs
  iexact Hp

theorem hout0 (c : Dev nD) : ((pdats m 0 c).Φ (Fin.last (Pipeline.pin (pcfgs (F := F)) adm 0).N) : SP F)
    ⊢ iprop(Pipeline.scopedRest (Pipeline.pin (pcfgs (F := F)) adm 0).spec c ∗ (∃ r, prngReg c r) ∗ StableHlo.held (c.tc : Thread nD τ) (∅ : Finset (DevRef τ sig)) (V₂ m c)
      ∗ Pipeline.ownSems0 osem c ∗ semVal (barC c) 0) := by
  rw [show (pdats m 0 c).Φ (Fin.last (Pipeline.pin (pcfgs (F := F)) adm 0).N) = iprop((semVal (barC c) 0 ∗ Pipeline.ownSems0 osem c) ∗ Scr c ∗ ∃ r, prngReg c r) from Φ_last m c, scr_eq]
  unfold StableHlo.held
  rw [BI.bigSep_empty]
  iintro ⟨⟨Hb, Hs⟩, HS, Hp⟩
  isplitl [HS]; · iexact HS
  isplitl [Hp]; · iexact Hp
  isplitr; · iempintro
  isplitl [Hs]; · iexact Hs
  iexact Hb

theorem lv_stage (c : Dev nD) (w : Fin 6) (s : Fin (spec0 w).nbuf) : lv ((c : Thread nD τ), .dma ((spec0 w).sem s)) () ≤ 0 := by
  unfold lv; dsimp only
  rw [if_pos (stage_sem_lt w s)]

/-- Whatever a device owes is waited for above the staging copies. -/
theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases Owed_pos c _ _ _ _ g i h with ⟨p, -, rfl⟩ | ⟨p, -, rfl | rfl⟩ | ⟨p, -, rfl⟩ | ⟨p, -, rfl⟩
    · exact ⟨by rw [L_tc]; exact Finset.mem_singleton_self _, by rw [lv_bar]; decide⟩
    · exact ⟨by rw [L_tc]; exact Finset.mem_singleton_self _, by rw [lv_kc]; decide⟩
    · exact ⟨by rw [L_tc]; exact Finset.mem_singleton_self _, by rw [lv_kc]; decide⟩
    · exact ⟨by rw [L_tc]; exact Finset.mem_singleton_self _, by rw [lv_kc]; decide⟩
    · exact ⟨by rw [L_tc]; exact Finset.mem_singleton_self _, by rw [lv_ex]; decide⟩
  · exact absurd h (Nat.lt_irrefl 0)

theorem share_full (c : Dev nD) (w : Fin cfg0.W) : (dat m c).share w = fullShare := by
  unfold Dat.share; split <;> rfl

theorem arr_ne (w : Fin 6) (h : w ≠ 5) : (Proc.devRef .tc (Pipeline.arrRef spec0 w) : DevRef τ sig) ≠ Proc.devRef .tc main_v4 := by
  revert w; decide

theorem arr_end (c : Dev nD) (w : Fin cfg0.W) : (dat m c).arrAt w cfg0.N = V₂ m c (Proc.devRef .tc (Pipeline.arrRef spec0 w)) := by
  by_cases h : w = 5
  · subst h
    refine Eq.trans ?_ (V₂_v4 m c).symm
    rw [show cfg0.N = 0 + 1 from N_0]
    unfold Dat.arrAt
    dsimp only
    rw [dif_pos (show 0 < cfg0.N by rw [show cfg0.N = 1 from N_0]; decide), if_pos (flush0_5 _)]
    exact write_5 c _ _ _
  · have hin : (cfg0.win w).isOut = false := by revert w; decide
    exact ((dat m c).arrAt_in w hin _).trans (V₂_ne m c _ (arr_ne w h)).symm

set_option backward.isDefEq.respectTransparency.types false in
/-- The kernel as a segment. -/
def reg0 : ℝ𝕊 0 :=
  Pipeline.RegionSeg.ofTalk (pcfgs (F := F)) adm (pdats m) () defs₀ 𝒱₀ L lv 0 osem own_facts
    ∅ restB (Finset.empty_subset _) launch0.toP rfl (fun c => (body m c).loose)
    (fun _ => 0) O₀ (fun c => (owed_zero m c).trans (zero_add _).symm) (fun c => owed_last m c) (fun _ => rfl) (fun c w => share_full m c w)
    (V₁ m) (V₂ m) (fun c b hb => V₂_ne m c b (fun e => (Finset.mem_sdiff.mp (Finset.mem_sdiff.mp hb).1).2 (by rw [e]; decide)))
    (Tk (insM m)) (fun c => semVal (barC c) 0) (Xk (insM m)) (fun c => semVal (barC c) 0) (fun c => open_own (insM m) c) (hin0 m) (hout0 m)
    (fun c => by iintro H; imodintro; iexact H)
    (fun _ => 0)
    ⟨fun c w s => by rw [L_tc]; exact Finset.mem_singleton_self _, fun c w s => lv_stage c w s, fun c t g i h => cutD m c t g i h⟩
    (fun _ => iprop(emp))
    (fun c w => rfl) (fun c w => arr_end m c w)

theorem arr_sub : Pipeline.arrRefs (τ := τ) spec0 ⊆ bufs := Pipeline.arrRefs_sub_ucRefs spec0 winFacts0.arr_unscoped

set_option backward.isDefEq.respectTransparency.types false in
theorem reg0_pre (c : Dev nD) : iprop(StableHlo.held (c : Thread nD τ) bufs (V₁ m c) ∗ Rc m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) restB (V₁ m c) ∗ emp) ∗ Tk (insM m) c ∗ ∃ Wd, owes (c : Thread nD τ) (0 + O₀ c) Wd)
  rw [zero_add, StableHlo.held_sub_split (c : Thread nD τ) arr_sub]
  unfold Rc
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

abbrev Tₙ (c : Dev nD) : SP F := iprop(StableHlo.held (c : Thread nD τ) bufs (V₂ m c) ∗ semVal (barC c) 0)

set_option backward.isDefEq.respectTransparency.types false in
theorem reg0_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) restB (V₂ m c) ∗ emp) ∗ semVal (barC c) 0 ∗ ∃ Wd, owes (c : Thread nD τ) (0 : CellTallies nD τ sig Unit) Wd) ⊢ _
  unfold Tₙ
  rw [StableHlo.held_sub_split (c : Thread nD τ) arr_sub]
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) () defs₀ 𝒱₀ L lv) := [.host (seg0 m), .region (reg0 m)]

/-! ## The launch -/

/-- The launch element: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's element, kept with device 0 up to the launch's step. -/
def G₀ (c : Dev nD) : SP F := if c = 0 then BI.own (ER (launchOf barCells scCells toks)) else iprop(emp)

theorem G₀_all : bigSep Finset.univ (G₀ (F := F)) ⊢ BI.own (ER (launchOf barCells scCells toks)) := by
  refine (bs_elim (Finset.mem_univ (0 : Dev nD))).trans ?_
  unfold G₀; rw [if_pos rfl]

theorem G₀_of : (BI.own (ER (launchOf barCells scCells toks)) : SP F) ⊢ bigSep Finset.univ (G₀ (F := F)) := by
  rw [bs_univ 0 (G₀ (F := F)), bigSep_congr (s := others 0) (Ψ := fun _ => (BI.emp : SP F)) fun c hc => by unfold G₀; rw [if_neg (Finset.ne_of_mem_erase hc)]; rfl,
    BI.bigSep_emp_const]
  unfold G₀; rw [if_pos rfl]
  iintro H
  isplitl [H]; · iexact H
  iempintro

/-- The records of the launch are what every device may consult. -/
theorem inv_of (κ : GSem nD τ sig → ℕ) :
    iprop((bigSep (barCells ∪ scCells) fun g => cellInv ER (Rd (catF (insM m)) (statF (insM m)) (normF (insM m))) (κ g) g) ∗ bigSep barCells fun g => reached ER g 0)
      ⊢ Inv (insM m) κ := by
  unfold Inv
  iintro ⟨#HI, #HR⟩
  isplitr
  · iapply (bigSep_intro_persistent (R := bigSep (barCells ∪ scCells) fun g => (cellInv ER (Rd (catF (insM m)) (statF (insM m)) (normF (insM m))) (κ g) g : SP F))
      fun k _ => bigSep_intro_persistent fun p _ => bigSep_intro_persistent fun i _ => bigSep_elim (kc_mem k p i))
    iexact HI
  isplitr
  · iapply (bigSep_intro_persistent (R := bigSep (barCells ∪ scCells) fun g => (cellInv ER (Rd (catF (insM m)) (statF (insM m)) (normF (insM m))) (κ g) g : SP F))
      fun p _ => bigSep_elim (bar_mem p))
    iexact HI
  isplitr
  · iapply (bigSep_intro_persistent (R := bigSep (barCells ∪ scCells) fun g => (cellInv ER (Rd (catF (insM m)) (statF (insM m)) (normF (insM m))) (κ g) g : SP F))
      fun p _ => bigSep_intro_persistent fun i _ => bigSep_elim (ex_mem p i))
    iexact HI
  · iapply (bigSep_intro_persistent (R := bigSep barCells fun g => (reached ER g 0 : SP F)) fun p _ => bigSep_elim (Finset.mem_map_of_mem barEmb (Finset.mem_univ p)))
    iexact HR

abbrev T₀ (c : Dev nD) : SP F := iprop(StableHlo.held (c : Thread nD τ) bufs (V₀ m c) ∗ Rc m c)

/-- What of a device's launch holdings is not the protocol's. -/
def bundle (c : Dev nD) : SP F :=
  iprop(StableHlo.held (c : Thread nD τ) bufs (V₀ m c) ∗ Creds c ∗ owes (c : Thread nD τ) (O₀ c) ∅ ∗ ∃ r, prngReg c r)

theorem T₀_intro (κ : GSem nD τ sig → ℕ) (c : Dev nD) :
    iprop(Inv (insM m) κ ∗ ((atPos ER (barC c) 0 ∅ 0 ∗ (bigSep Finset.univ fun k : OK => openTok ER (oc c k)) ∗ Toks c) ∗ bundle m c)) ⊢ T₀ m c := by
  unfold bundle T₀ Rc Tk
  iintro ⟨#HI, ⟨Hat, Hop, Htk⟩, Hh, Hc, HO, Hp⟩
  isplitl [Hh]; · iexact Hh
  isplitr [HO]
  · isplitr [Hp]
    · iexists κ
      isplitr; · iexact HI
      isplitl [Hat]; · iexact Hat
      isplitl [Hop]; · iexact Hop
      isplitl [Htk]; · iexact Htk
      iexact Hc
    iexact Hp
  · iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c)) ∗ levAts L lv)
      ⊢ (|={Set.univ}=> bigSep Finset.univ (T₀ m) : SP F) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G₀ c)
      ⊢ (iprop(bundle m c ∗ (semVal (barC c) 0 ∗ G₀ c)) : SP F) := by
    rw [show (unscopedBufs c (fun b => m ((c : Thread nD τ).loc b)) : SP F) = StableHlo.held (c : Thread nD τ) bufs (V₀ m c) from Pipeline.unscopedBufs_held c (V₀ m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G₀ c) : SP F)
      ⊢ iprop((bigSep Finset.univ fun c : Dev nD => bundle m c) ∗ (bigSep Finset.univ fun c : Dev nD => semVal (barC c) 0) ∗ bigSep Finset.univ fun c : Dev nD => G₀ c) := by
    have e : (bigSep Finset.univ fun c : Dev nD => (iprop(bundle m c ∗ (semVal (barC c) 0 ∗ G₀ c)) : SP F))
        = iprop((bigSep Finset.univ fun c : Dev nD => bundle m c) ∗ (bigSep Finset.univ fun c : Dev nD => semVal (barC c) 0) ∗ bigSep Finset.univ fun c : Dev nD => G₀ c) := by
      rw [bs_sep, bs_sep]
    exact (bigSep_mono fun c _ => hcore c).trans (Entails.of_eq e)
  have hv : (bigSep Finset.univ fun c : Dev nD => (semVal (barC c) 0 : SP F)) ⊢ bigSep barCells fun g => semVal g 0 :=
    Entails.of_eq (bigSep_map (s := Finset.univ) barEmb (Φ := fun g : GSem nD τ sig => (semVal g 0 : SP F))).symm
  have hat : (bigSep barCells fun g => (atPos ER g 0 ∅ 0 : SP F)) ⊢ bigSep Finset.univ fun c : Dev nD => atPos ER (barC c) 0 ∅ 0 :=
    Entails.of_eq (bigSep_map (s := Finset.univ) barEmb (Φ := fun g : GSem nD τ sig => (atPos ER g 0 ∅ 0 : SP F)))
  have hopen : (bigSep scCells fun g => (openTok ER g : SP F)) ⊢ bigSep Finset.univ fun c : Dev nD => bigSep Finset.univ fun k : OK => openTok ER (oc c k) :=
    Entails.of_eq (by rw [bigSep_map, bigSep_univ_prod]; rfl)
  iintro ⟨H, -⟩
  ihave H' := hall $$ H
  icases H' with ⟨HB, Hv, HG⟩
  ihave Hu := (G₀_all (F := F)) $$ HG
  imod (Rounds.fund_launch ER (Rd (catF (insM m)) (statF (insM m)) (normF (insM m))) cells_disj (fun g _ h => h) toks) $$ [Hv Hu] with ⟨%κ, -, #Hinv, #Hr, Hat, Hopen, Htok⟩
  · isplitl [Hv]
    · iapply hv; iexact Hv
    · iexact Hu
  imodintro
  iapply (bigSep_with_persistent (R := Inv (insM m) κ)
    (Φ := fun c => iprop((atPos ER (barC c) 0 ∅ 0 ∗ (bigSep Finset.univ fun k : OK => openTok ER (oc c k)) ∗ Toks c) ∗ bundle m c)) fun c _ => T₀_intro m κ c)
  isplitr
  · iapply (inv_of m κ)
    isplitr; · iexact Hinv
    iexact Hr
  simp only [bs_sep]
  isplitr [HB]
  · isplitl [Hat]; · iapply hat; iexact Hat
    isplitl [Hopen]; · iapply hopen; iexact Hopen
    iapply toks_deal; iexact Htok
  · iexact HB

/-! ## The run -/

theorem unscoped_eq : ∀ sm : SemLoc sig, sm.isScoped .tc = false → sm = .reg barrier0 := by decide

set_option backward.isDefEq.respectTransparency.types false in
/-- From any memory with zero counters every execution of the kernel on the sixteen devices terminates without fault, with the
    arguments unchanged, device `c`'s result at `res m c`, and every semaphore counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v4) = res m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; exact Laws.entails_refl _)
    (by simp only [segs, Pipeline.Seg.pipes_host, Pipeline.Seg.pipes_region, Pipeline.Seg.pipes_nil]; decide)
    (O₀ := O₀) (hL := L_of_ne) (G := G₀) (u₀ := u₀)
    (hu₀ := by
      unfold u₀
      iintro Hu
      ihave H := (ownU_pair _ _) $$ Hu
      icases H with ⟨HP, HX⟩
      imodintro
      isplitl [HP]; · iexact HP
      iapply (G₀_of (F := F)); iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_arg3) = V₂ m c main_arg3
      ∧ s.mem ((c : Thread nD τ).loc main_arg4) = V₂ m c main_arg4 ∧ s.mem ((c : Thread nD τ).loc main_v4) = V₂ m c main_v4) ∧ s.sem (barC c) = 0)
    (hfin := fun c s' => by
      dsimp only [Tₙ]; rw [bufs_eq]
      iintro ⟨⟨⟨H0, H1, H2, H3, H4, -, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨⟨h0.trans ((V₂_ne m c _ (by decide)).trans (V_main_arg0 m c)), h1.trans ((V₂_ne m c _ (by decide)).trans (V_main_arg1 m c)),
          h2.trans ((V₂_ne m c _ (by decide)).trans (V_main_arg2 m c)), h3.trans ((V₂_ne m c _ (by decide)).trans (V_main_arg3 m c)),
          h4.trans ((V₂_ne m c _ (by decide)).trans (V_main_arg4 m c))⟩, h5.trans (V₂_v4 m c)⟩,
      sem_eq_zero hs fun c sm hsm => by
        obtain rfl := unscoped_eq sm hsm
        exact (h c).2⟩)

end Cert.KernelIdeal.Attn

end
-- ==== Proof.Frames.lean ====
/- The frames of the three programs. The kernel as written and its ideal reading have one text, apart from the one named constant:
   the run is written once, over any float values in which a name has a meaning; in machine floats a name means its word. -/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

set_option maxRecDepth 65536

noncomputable section

namespace Cert.Proof.Claims

open Idealize.ShloMosaic Idealize.ShloMosaic.TcCoe Idealize.SL.Sem

/-- In machine floats the named constant is the word that the kernel holds. -/
local instance bitsNamed : Named Bits := ⟨fun _ _ _ w => Scalar.ofBits _ w⟩

/-- The two programs are one text: with a name read as its word, the ideal program in machine floats is the kernel. -/
theorem main_same : Cert.Kernel.main (F := Bits) = Cert.KernelIdeal.main (F := Bits) := rfl

/-- The same of the kernel's body, … -/
theorem body_same : @Cert.Kernel.cc0_body Bits _ _ = @Cert.KernelIdeal.cc0_body Bits _ _ _ := rfl

/-- … of the table that calls it, … -/
theorem table_same : Cert.Kernel.defs₀ (F := Bits) = Cert.KernelIdeal.defs₀ (F := Bits) := by
  funext pr l a
  cases pr with
  | tc => match l, a with | ⟨0, _⟩, (t, s) => rfl
  | scScalar i => rfl
  | scVector i j => rfl

/-- … and of the definitions of the calls. -/
theorem defs_same : Cert.Kernel.defs (F := Bits) = Cert.KernelIdeal.defs (F := Bits) := by
  unfold Cert.Kernel.defs Cert.KernelIdeal.defs
  exact congrArg (Pipeline.defs (Cert.KernelIdeal.pcfgs (F := Bits))) table_same

/-- Every execution of the kernel terminates without fault, leaves its arguments unchanged and every counter at zero. -/
theorem frame_kernel : Cert.quiescent_Kernel := fun m ρ _ => by
  rw [defs_same]
  exact (θ_run (Cert.KernelIdeal.defs (F := Bits)) _ _).mono (fun _ h => ⟨fun c => (h.1 c).1, h.2⟩) (Cert.KernelIdeal.Attn.run_main (F := Bits) m ρ)

/-- The same of the ideal program. -/
theorem frame_ideal : Cert.quiescent_KernelIdeal := fun m ρ _ =>
  (θ_run Cert.KernelIdeal.defs _ _).mono (fun _ h => ⟨fun c => (h.1 c).1, h.2⟩) (Cert.KernelIdeal.Attn.run_main m ρ)

/-- The same of the reference. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The one rewrite of the ideal program: the folded scale is the number it is named. -/
theorem preserves : Cert.preserves_Kernel_KernelIdeal :=
  IdealRules.named_const.statement Cert.KernelIdeal.κ "scale_log2e" .f32 0x3E0293EE#32 (((11863283 / 134217728) * (Real.log 2)⁻¹ : ℝ) : EReal) rfl

end Cert.Proof.Claims

end
-- ==== Proof.Consts.lean ====
/- The constants of the two programs as extended reals: zero, minus infinity, the reference's scale and the kernel's
   named scale, which is the reference's over the logarithm of two. And where the entries of a head lie in a row. -/
module

public import proofs.«01_k».proof.Proof.Region
public import Idealize.ShloMosaic.Lib.Pointwise

@[expose] public section

noncomputable section

namespace Cert.Attn

open Idealize.ShloMosaic

/-- The scale of the reference, the rational of its word. -/
def scale : ℝ := 11863283 / 134217728
/-- The scale of the kernel. -/
def scale2 : ℝ := 11863283 / 134217728 * (Real.log 2)⁻¹

theorem scale_pos : 0 < scale := by unfold scale; norm_num
theorem log2_pos : 0 < Real.log 2 := Real.log_pos (by norm_num)
theorem scale2_pos : 0 < scale2 := mul_pos (by norm_num) (inv_pos.mpr log2_pos)
theorem scale2_log : scale2 * Real.log 2 = scale := by
  unfold scale2 scale
  rw [mul_assoc, inv_mul_cancel₀ log2_pos.ne', mul_one]

theorem ofBits_scale : Ideal.ofBits .f32 0x3DB504F3#32 = (scale : EReal) := by
  unfold scale
  simp [Ideal.ofBits, Ideal.ieee, -EReal.coe_mul]
  norm_num

theorem ofBits_zero : Ideal.ofBits .f32 0x00000000#32 = 0 := by
  simp [Ideal.ofBits, Ideal.ieee]

theorem ofBits_bot : Ideal.ofBits .f32 0xFF800000#32 = ⊥ := by
  simp [Ideal.ofBits, Ideal.ieee]

/-- The named constant of the kernel. -/
theorem named_scale :
    Named.named (F := Ideal) Cert.KernelIdeal.κ "scale_log2e" (φ := .f32) 0x3E0293EE#32 = (scale2 : EReal) :=
  IdealRules.named_const.ideal_named_scalar _ _ _ _ rfl

/-- The place of entry `d` of head `h` in a row. -/
def hcol (h : Fin 8) (d : Fin 128) : Fin 1024 := ⟨128 * h.val + d.val, by omega⟩

/-- Every row of an output belongs to an entry of a head. -/
theorem exists_hcol (r : Fin 1024) : ∃ (h : Fin 8) (d : Fin 128), r = hcol h d :=
  ⟨⟨r.val / 128, by omega⟩, ⟨r.val % 128, by omega⟩, Fin.ext (by simp only [hcol]; omega)⟩

end Cert.Attn
-- ==== Proof.Softmax.lean ====
/- The arithmetic of the merge, over the extended reals and without arrays: a softmax-weighted sum computed
   block by block, each block with its own maximum and in powers of two, is the one computed in one pass. -/
module

public import Idealize.ShloMosaic.Lib.Pointwise

@[expose] public section

noncomputable section

namespace Cert.Attn

open Idealize.ShloMosaic

/-! ## Products with a nonnegative real distribute over every sum -/

/-- A sum times a nonnegative real, on the right. -/
theorem sum_mul_real {ι : Type} (s : Finset ι) (f : ι → EReal) (w : ℝ) (hw : 0 ≤ w) :
    (∑ i ∈ s, f i) * (w : EReal) = ∑ i ∈ s, f i * (w : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hw) (EReal.coe_ne_top w) _ _

/-- A scale on every second factor of a sum of products comes out. -/
theorem sum_mul_scale {ι : Type} (s : Finset ι) (k q : ι → EReal) (w : ℝ) (hw : 0 ≤ w) :
    ∑ i ∈ s, k i * (q i * (w : EReal)) = (∑ i ∈ s, q i * k i) * (w : EReal) := by
  rw [sum_mul_real s _ w hw]
  exact Finset.sum_congr rfl fun i _ => by rw [← mul_assoc, mul_comm (k i)]

/-- The greatest of scaled values is the scaled greatest value. -/
theorem sup_mul_real {ι : Type} (s : Finset ι) (f : ι → EReal) (w : ℝ) (hw : 0 < w) :
    s.sup (fun i => f i * (w : EReal)) = s.sup f * (w : EReal) := by
  have hm : Monotone fun x : EReal => x * (w : EReal) := fun x y h =>
    mul_le_mul_of_nonneg_right h (EReal.coe_nonneg.mpr hw.le)
  exact (Finset.comp_sup_eq_sup_comp_of_is_total (fun x : EReal => x * (w : EReal)) hm
    (EReal.bot_mul_coe_of_pos hw)).symm

/-! ## Powers -/

theorem exp2_coe (r : ℝ) : Ideal.exp2 (r : EReal) = ((Real.rpow 2 r : ℝ) : EReal) := rfl
theorem exp2_top : Ideal.exp2 ⊤ = ⊤ := rfl
theorem exp2_bot : Ideal.exp2 ⊥ = 0 := rfl
theorem exp_coe (r : ℝ) : Ideal.exp (r : EReal) = ((Real.exp r : ℝ) : EReal) := rfl
theorem exp_top : Ideal.exp ⊤ = ⊤ := rfl
theorem exp_bot : Ideal.exp ⊥ = 0 := rfl

/-- A power of two of a difference that is at most zero is a nonnegative real. -/
theorem exp2_real {m M : EReal} (h : m ≤ M) : ∃ w : ℝ, 0 ≤ w ∧ Ideal.exp2 (m - M) = (w : EReal) := by
  induction M with
  | bot => exact ⟨0, le_rfl, by simp [le_bot_iff.mp h, exp2_bot]⟩
  | top => exact ⟨0, le_rfl, by simp [exp2_bot]⟩
  | coe M =>
    induction m with
    | bot => exact ⟨0, le_rfl, by simp [exp2_bot]⟩
    | top => simp at h
    | coe m =>
      refine ⟨Real.rpow 2 (m - M), Real.rpow_nonneg (by norm_num) _, ?_⟩
      rw [← EReal.coe_sub, exp2_coe]

/-- The weight against a block's maximum, times the block's weight, is the weight against the greatest. -/
theorem exp2_merge {t m M : EReal} (h1 : t ≤ m) (h2 : m ≤ M) :
    Ideal.exp2 (t - m) * Ideal.exp2 (m - M) = Ideal.exp2 (t - M) := by
  induction M with
  | bot =>
    obtain rfl := le_bot_iff.mp h2
    simp [le_bot_iff.mp h1, exp2_bot]
  | top => simp [exp2_bot]
  | coe M =>
    induction m with
    | bot => simp [exp2_bot, le_bot_iff.mp h1]
    | top => simp at h2
    | coe m =>
      induction t with
      | bot => simp [exp2_bot]
      | top => simp at h1
      | coe t =>
        rw [← EReal.coe_sub, ← EReal.coe_sub, ← EReal.coe_sub, exp2_coe, exp2_coe, exp2_coe, ← EReal.coe_mul]
        congr 1
        have := Real.rpow_add (x := 2) (by norm_num) (t - m) (m - M)
        rw [sub_add_sub_cancel] at this
        exact this.symm

/-- A power of two of values scaled by `a / ln 2` is the exponential of the values scaled by `a`. -/
theorem exp2_scaled (x y : EReal) (a b : ℝ) (ha : 0 < a) (hb : 0 < b) (hab : b * Real.log 2 = a) :
    Ideal.exp2 (x * (b : EReal) - y * (b : EReal)) = Ideal.exp (x * (a : EReal) - y * (a : EReal)) := by
  induction y with
  | bot =>
    induction x with
    | bot => simp [EReal.bot_mul_coe_of_pos, ha, hb, exp2_bot, exp_bot]
    | top => simp [EReal.bot_mul_coe_of_pos, EReal.top_mul_coe_of_pos, ha, hb, exp2_top, exp_top]
    | coe x => simp [EReal.bot_mul_coe_of_pos, ha, hb, ← EReal.coe_mul, exp2_top, exp_top]
  | top => simp [EReal.top_mul_coe_of_pos, ha, hb, exp2_bot, exp_bot]
  | coe y =>
    induction x with
    | bot => simp [EReal.bot_mul_coe_of_pos, ha, hb, exp2_bot, exp_bot]
    | top => simp [EReal.top_mul_coe_of_pos, ha, hb, ← EReal.coe_mul, exp2_top, exp_top]
    | coe x =>
      rw [← EReal.coe_mul, ← EReal.coe_mul, ← EReal.coe_mul, ← EReal.coe_mul, ← EReal.coe_sub, ← EReal.coe_sub,
        exp2_coe, exp_coe]
      congr 1
      have := Real.rpow_def_of_pos (x := 2) (by norm_num) (x * b - y * b)
      refine Eq.trans this ?_
      rw [← hab]
      ring_nf

/-! ## The merge -/

variable {B J : Type} [Fintype B] [Fintype J]

/-- The greatest score of a block. -/
def blockTop (t : B → J → EReal) (b : B) : EReal := Finset.univ.sup (t b)

/-- The greatest of the blocks' greatest scores. -/
def topAll (t : B → J → EReal) : EReal := Finset.univ.sup (blockTop t)

/-- A block's sum of the values `v`, each by its power of two against the block's greatest score. -/
def blockSum (t v : B → J → EReal) (b : B) : EReal :=
  ∑ j, v b j * Ideal.exp2 (t b j - blockTop t b)

/-- The blocks' sums merged: each by the power of two of its maximum against the greatest. -/
def merged (t v : B → J → EReal) : EReal :=
  ∑ b, blockSum t v b * Ideal.exp2 (blockTop t b - topAll t)

/-- The merged sum is the sum over all the keys against the greatest score of all. -/
theorem merged_eq (t v : B → J → EReal) :
    merged t v = ∑ b, ∑ j, v b j * Ideal.exp2 (t b j - topAll t) := by
  refine Finset.sum_congr rfl fun b _ => ?_
  have h2 : blockTop t b ≤ topAll t := Finset.le_sup (Finset.mem_univ b)
  obtain ⟨w, hw, e⟩ := exp2_real h2
  unfold blockSum
  rw [e, sum_mul_real _ _ w hw]
  refine Finset.sum_congr rfl fun j _ => ?_
  have h1 : t b j ≤ blockTop t b := Finset.le_sup (Finset.mem_univ j)
  rw [← e, mul_assoc, exp2_merge h1 h2]

/-- The same with the scores scaled: in powers of two with the scale over `ln 2`, or in exponentials. -/
theorem merged_scaled (S v : B → J → EReal) (a b : ℝ) (ha : 0 < a) (hb : 0 < b) (hab : b * Real.log 2 = a) :
    merged (fun i j => S i j * (b : EReal)) v
      = ∑ i, ∑ j, v i j * Ideal.exp (S i j * (a : EReal) - topAll S * (a : EReal)) := by
  rw [merged_eq]
  have e : topAll (fun i j => S i j * (b : EReal)) = topAll S * (b : EReal) := by
    unfold topAll
    rw [← sup_mul_real _ _ b hb]
    exact congrArg _ (funext fun i => sup_mul_real _ (S i) b hb)
  rw [e]
  exact Finset.sum_congr rfl fun i _ => Finset.sum_congr rfl fun j _ => by
    rw [exp2_scaled _ _ a b ha hb hab]

/-! ## Blocks of keys -/

/-- A sum over all the keys, block by block. -/
theorem sum_blocks {n k N : ℕ} (hN : n * k = N) (f : Fin N → EReal) :
    ∑ j, f j = ∑ b : Fin n, ∑ i : Fin k, f (Fin.cast hN (finProdFinEquiv (b, i))) := by
  subst hN
  exact (Equiv.sum_comp finProdFinEquiv f).symm.trans
    (Fintype.sum_prod_type' fun (b : Fin n) (i : Fin k) => f (finProdFinEquiv (b, i)))

/-- The greatest of all the scores, block by block. -/
theorem sup_blocks {n k N : ℕ} (hN : n * k = N) (f : Fin N → EReal) :
    Finset.univ.sup f
      = topAll fun (b : Fin n) (i : Fin k) => f (Fin.cast hN (finProdFinEquiv (b, i))) := by
  subst hN
  refine le_antisymm (Finset.sup_le fun j _ => ?_) (Finset.sup_le fun b _ => Finset.sup_le fun i _ => ?_)
  · obtain ⟨⟨b, i⟩, rfl⟩ := finProdFinEquiv.surjective j
    refine le_trans ?_ (Finset.le_sup (Finset.mem_univ b))
    exact Finset.le_sup (f := fun i => f (finProdFinEquiv (b, i))) (Finset.mem_univ i)
  · exact Finset.le_sup (f := f) (Finset.mem_univ _)

/-- A sum of values by exponentials against the greatest score, over all the keys, is the merge of its blocks. -/
theorem softmax_blocks {n k N : ℕ} (hN : n * k = N) (S v : Fin N → EReal) (a b : ℝ) (ha : 0 < a) (hb : 0 < b)
    (hab : b * Real.log 2 = a) :
    ∑ j, Ideal.exp (S j * (a : EReal) - Finset.univ.sup fun j => S j * (a : EReal)) * v j
      = merged (fun (q : Fin n) (i : Fin k) => S (Fin.cast hN (finProdFinEquiv (q, i))) * (b : EReal))
          (fun q i => v (Fin.cast hN (finProdFinEquiv (q, i)))) := by
  rw [merged_scaled (fun (q : Fin n) (i : Fin k) => S (Fin.cast hN (finProdFinEquiv (q, i)))) _ a b ha hb hab,
    sup_mul_real _ _ a ha, sup_blocks hN, sum_blocks hN]
  exact Finset.sum_congr rfl fun q _ => Finset.sum_congr rfl fun i _ => mul_comm _ _

end Cert.Attn
-- ==== Proof.Reads.lean ====
/- The kernel's arrays over the extended reals, entry by entry: the queries, a device's statistics and outputs of a
   head. -/
module

public import proofs.«01_k».proof.Proof.Consts
public import proofs.«01_k».proof.Proof.Softmax

@[expose] public section

set_option maxRecDepth 65536

noncomputable section

namespace Cert.KernelIdeal.Attn

open Idealize.ShloMosaic Idealize.ShloMosaic.TcCoe Idealize.ShloMosaic.Tactic
open Cert.Attn Cert.KernelIdeal.Gen

theorem pay1_apply (x : Vec Ideal S512x1024 .bf16) (w : Vec Ideal S1024x1024 .bf16) (i : Fin 512) (e : Fin 1024) :
    k0_pay1 (F := Ideal) x w (ix2 i e) = (∑ a : Fin 1024, x (ix2 i a) * w (ix2 a e)) * (scale2 : EReal) := by
  unfold k0_pay1
  pointwise
  rw [named_scale]

theorem pay3_eq (v : Vec Ideal S2048x128 .bf16) : k0_pay3 (F := Ideal) v = v := by
  funext j; rw [eq_ix2 j]; unfold k0_pay3; pointwise

theorem pay4_eq (v : Vec Ideal S2048x128 .bf16) : k0_pay4 (F := Ideal) v = v := by
  funext j; rw [eq_ix2 j]; unfold k0_pay4; pointwise

theorem pay5_apply (q : FVec Ideal S512x128 .bf16) (k : FVec Ideal S2048x128 .bf16) (j : Fin 2048) (i : Fin 512) :
    k0_pay5 (F := Ideal) q k (ix2 j i) = ∑ d : Fin 128, k (ix2 j d) * q (ix2 i d) := by
  unfold k0_pay5
  pointwise

theorem pay6_apply (q : FVec Ideal S512x128 .bf16) (k : FVec Ideal S2048x128 .bf16) (i : Fin 512) :
    k0_pay6 (F := Ideal) q k (ix2 0 i) = Finset.univ.sup fun j : Fin 2048 => k0_pay5 (F := Ideal) q k (ix2 j i) := by
  unfold k0_pay6
  generalize k0_pay5 (F := Ideal) q k = t
  pointwise
  rw [ofBits_bot]
  rfl

theorem pay7_apply (q : FVec Ideal S512x128 .bf16) (k : FVec Ideal S2048x128 .bf16) (j : Fin 2048) (i : Fin 512) :
    k0_pay7 (F := Ideal) q k (ix2 j i)
      = Ideal.exp2 (k0_pay5 (F := Ideal) q k (ix2 j i) - k0_pay6 (F := Ideal) q k (ix2 0 i)) := by
  unfold k0_pay7
  generalize k0_pay5 (F := Ideal) q k = t
  generalize k0_pay6 (F := Ideal) q k = u
  pointwise
  rfl

theorem pay8_apply (q : FVec Ideal S512x128 .bf16) (k : FVec Ideal S2048x128 .bf16) (i : Fin 512) :
    k0_pay8 (F := Ideal) q k (ix2 0 i) = ∑ j : Fin 2048, k0_pay7 (F := Ideal) q k (ix2 j i) := by
  unfold k0_pay8
  generalize k0_pay7 (F := Ideal) q k = t
  pointwise

theorem pay9_apply (q : FVec Ideal S512x128 .bf16) (k v : FVec Ideal S2048x128 .bf16) (d : Fin 128) (i : Fin 512) :
    k0_pay9 (F := Ideal) q k v (ix2 d i) = ∑ j : Fin 2048, v (ix2 j d) * k0_pay7 (F := Ideal) q k (ix2 j i) := by
  unfold k0_pay9
  generalize k0_pay7 (F := Ideal) q k = t
  pointwise

theorem pay13_top (q : FVec Ideal S512x128 .bf16) (k : FVec Ideal S2048x128 .bf16) (i : Fin 512) :
    k0_pay13 (F := Ideal) q k (ix2 0 i) = k0_pay6 (F := Ideal) q k (ix2 0 i) := by
  unfold k0_pay13
  generalize k0_pay6 (F := Ideal) q k = t
  generalize k0_pay8 (F := Ideal) q k = u
  pointwise

theorem pay13_sum (q : FVec Ideal S512x128 .bf16) (k : FVec Ideal S2048x128 .bf16) (i : Fin 512) :
    k0_pay13 (F := Ideal) q k (ix2 1 i) = k0_pay8 (F := Ideal) q k (ix2 0 i) := by
  unfold k0_pay13
  generalize k0_pay6 (F := Ideal) q k = t
  generalize k0_pay8 (F := Ideal) q k = u
  pointwise

/-! ## A device's queries, scores, statistics and outputs -/

variable (I : Ins Ideal)

/-- Entry `e` of the query of row `i`, before the scale. -/
def qry (c : Dev nD) (i : Fin 512) (e : Fin 1024) : EReal := ∑ a : Fin 1024, I.x c (ix2 i a) * I.wq c (ix2 a e)

/-- The score of head `h`, query row `i` and the key `j` of device `c`, before the scale. -/
def score (h : Fin 8) (i : Fin 512) (c : Dev nD) (j : Fin 2048) : EReal :=
  ∑ d : Fin 128, qry I c i (hcol h d) * I.k c (ix2 j (hcol h d))

/-- The scores as the kernel has them. -/
abbrev tscore (h : Fin 8) (i : Fin 512) (c : Dev nD) (j : Fin 2048) : EReal := score I h i c j * (scale2 : EReal)

/-- Entry `d` of head `h` of the value `j` of device `c`. -/
def vent (h : Fin 8) (d : Fin 128) (c : Dev nD) (j : Fin 2048) : EReal := I.v c (ix2 j (hcol h d))

theorem qHead_apply (q : FVec Ideal S512x1024 .bf16) (h : Fin 8) (i : Fin 512) (d : Fin 128) :
    qHead (F := Ideal) q h (ix2 i d) = q (ix2 i (hcol h d)) := by
  unfold qHead
  refine extractStridedSlice_apply _ _ _ _ _ fun b => ?_
  fin_cases b
  · exact (Nat.zero_add _).symm
  · rfl

/-- The kernel's score of a key. -/
theorem score_apply (h : Fin 8) (i : Fin 512) (c : Dev nD) (j : Fin 2048) :
    k0_pay5 (F := Ideal) (qHead (qF I c) h) (k0_pay3 (kHead (I.k c) h)) (ix2 j i) = tscore I h i c j := by
  rw [pay5_apply, pay3_eq]
  refine Eq.trans ?_ (sum_mul_scale Finset.univ _ _ scale2 scale2_pos.le)
  refine Finset.sum_congr rfl fun d _ => ?_
  rw [qHead_apply]
  unfold qF
  rw [pay1_apply]
  rfl

/-- Row 0 of a device's statistics: the greatest score. -/
theorem statH_top (h : Fin 8) (i : Fin 512) (c : Dev nD) :
    statH (F := Ideal) I c h (ix2 0 i) = blockTop (tscore I h i) c := by
  unfold statH
  rw [pay13_top, pay6_apply]
  exact congrArg _ (funext fun j => score_apply I h i c j)

/-- A device's power of two for a key. -/
theorem weight_apply (h : Fin 8) (i : Fin 512) (c : Dev nD) (j : Fin 2048) :
    k0_pay7 (F := Ideal) (qHead (qF I c) h) (k0_pay3 (kHead (I.k c) h)) (ix2 j i)
      = Ideal.exp2 (tscore I h i c j - blockTop (tscore I h i) c) := by
  rw [pay7_apply, score_apply, ← statH_top]
  unfold statH
  rw [pay13_top]

/-- Row 1 of a device's statistics: the sum of the powers of two. -/
theorem statH_sum (h : Fin 8) (i : Fin 512) (c : Dev nD) :
    statH (F := Ideal) I c h (ix2 1 i) = blockSum (tscore I h i) (fun _ _ => 1) c := by
  unfold statH blockSum
  rw [pay13_sum, pay8_apply]
  exact Finset.sum_congr rfl fun j _ => by rw [weight_apply, one_mul]

/-- A device's outputs: the sums of the values by the powers of two. -/
theorem outH_apply (h : Fin 8) (d : Fin 128) (i : Fin 512) (c : Dev nD) :
    outH (F := Ideal) I c h (ix2 d i) = blockSum (tscore I h i) (vent I h d) c := by
  unfold outH blockSum
  rw [pay9_apply, pay4_eq]
  exact Finset.sum_congr rfl fun j _ => by rw [weight_apply]; rfl

end Cert.KernelIdeal.Attn
-- ==== Proof.Combine.lean ====
/- What a device combines of the partial results it receives, over the extended reals: two sums over the senders, each
   sender's share by the power of two of its maximum against the greatest, and their quotient. -/
module

public import proofs.«01_k».proof.Proof.Reads

@[expose] public section

set_option maxRecDepth 65536

noncomputable section

namespace Cert.KernelIdeal.Attn

open Idealize.ShloMosaic Idealize.ShloMosaic.TcCoe Idealize.ShloMosaic.Tactic
open Cert.Attn Cert.KernelIdeal.Gen

variable (cat : Dev nD → Vec Ideal S1024x512 .bf16) (stat : Dev nD → Vec Ideal S8x2x512 .f32) (c : Dev nD)

/-- The greatest of the senders' maxima. -/
def mtop (i : Fin 512) : EReal := Finset.univ.sup fun s : Fin 16 => ldM (F := Ideal) stat c s 0 (ix3 0 0 i)

theorem sup16 (f : Fin 16 → EReal) :
    Finset.univ.sup f = max (max (max (max (max (max (max (max (max (max (max (max (max (max (max (f 0) (f 1)) (f 2)) (f 3))
      (f 4)) (f 5)) (f 6)) (f 7)) (f 8)) (f 9)) (f 10)) (f 11)) (f 12)) (f 13)) (f 14)) (f 15) := by
  refine le_antisymm (Finset.sup_le fun s _ => ?_) ?_
  · fin_cases s <;> simp [le_max_iff]
  · simp only [max_le_iff]
    have h := fun s : Fin 16 => Finset.le_sup (f := f) (Finset.mem_univ s)
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

theorem top_apply (i : Fin 512) : top (F := Ideal) cat stat c (ix2 0 i) = mtop stat c i := by
  unfold mtop
  rw [sup16]
  unfold top top7
  pointwise [k0_pay148, k0_pay147, k0_pay115, k0_pay116, k0_pay117, k0_pay118, k0_pay119, k0_pay120, k0_pay121, k0_pay122,
    k0_pay123, k0_pay124, k0_pay125, k0_pay126, k0_pay127, k0_pay128, k0_pay129, k0_pay130]

theorem top_fold : k0_pay148 (F := Ideal) (k0_pay122 (ldM stat c 7 0)) (k0_pay123 (ldM stat c 8 0)) (k0_pay124 (ldM stat c 9 0))
    (k0_pay125 (ldM stat c 10 0)) (k0_pay126 (ldM stat c 11 0)) (k0_pay127 (ldM stat c 12 0)) (k0_pay128 (ldM stat c 13 0))
    (k0_pay129 (ldM stat c 14 0)) (k0_pay130 (ldM stat c 15 0)) (top7 cat stat c) = top cat stat c := rfl

/-- The weight of sender `s`. -/
def wgt (i : Fin 512) (s : Fin 16) : EReal := Ideal.exp2 (ldM (F := Ideal) stat c s 0 (ix3 0 0 i) - mtop stat c i)
/-- The share of sender `s` in an output. -/
def shareO (k : Fin 64) (i : Fin 512) (s : Fin 16) : EReal := ldO (F := Ideal) cat c s (ix3 0 k i) * wgt stat c i s
/-- The share of sender `s` in the sum of the weights. -/
def shareL (i : Fin 512) (s : Fin 16) : EReal := ldM (F := Ideal) stat c s 1 (ix3 0 0 i) * wgt stat c i s

theorem wgt3_apply (i : Fin 512) : wgt3 (F := Ideal) cat stat c (ix2 0 i) = wgt stat c i 3 := by
  unfold wgt3 k0_pay154
  rw [top_fold]
  unfold wgt
  rw [← top_apply cat]
  generalize top (F := Ideal) cat stat c = t
  pointwise [k0_pay118]
  rfl

theorem wgt8_apply (i : Fin 512) : wgt8 (F := Ideal) cat stat c (ix2 0 i) = wgt stat c i 8 := by
  unfold wgt8 wgt
  rw [← top_apply cat]
  generalize top (F := Ideal) cat stat c = t
  pointwise [k0_pay162, k0_pay123]
  rfl

theorem wgt13_apply (i : Fin 512) : wgt13 (F := Ideal) cat stat c (ix2 0 i) = wgt stat c i 12 := by
  unfold wgt13 wgt
  rw [← top_apply cat]
  generalize top (F := Ideal) cat stat c = t
  pointwise [k0_pay167, k0_pay127]
  rfl

theorem sumO3_apply (k : Fin 64) (i : Fin 512) : sumO3 (F := Ideal) cat stat c (ix2 k i)
    = shareO cat stat c k i 0 + shareO cat stat c k i 1 + shareO cat stat c k i 2 := by
  unfold sumO3 k0_pay152 k0_pay149 k0_pay150 k0_pay151
  rw [top_fold]
  unfold shareO wgt
  rw [← top_apply cat]
  generalize top (F := Ideal) cat stat c = t
  pointwise [k0_pay115, k0_pay116, k0_pay117]
  rfl

theorem sumL5_apply (i : Fin 512) : sumL5 (F := Ideal) cat stat c (ix2 0 i)
    = shareL stat c i 0 + shareL stat c i 1 + shareL stat c i 2 := by
  unfold sumL5 k0_pay153 k0_pay149 k0_pay150 k0_pay151
  rw [top_fold]
  unfold shareL wgt
  rw [← top_apply cat]
  generalize top (F := Ideal) cat stat c = t
  pointwise [k0_pay115, k0_pay116, k0_pay117, k0_pay131, k0_pay132, k0_pay133]
  rfl

theorem sumO8_apply (k : Fin 64) (i : Fin 512) : sumO8 (F := Ideal) cat stat c (ix2 k i)
    = shareO cat stat c k i 0 + shareO cat stat c k i 1 + shareO cat stat c k i 2 + shareO cat stat c k i 3
      + shareO cat stat c k i 4 + shareO cat stat c k i 5 + shareO cat stat c k i 6 + shareO cat stat c k i 7 := by
  rw [← sumO3_apply]
  unfold sumO8
  generalize sumO3 (F := Ideal) cat stat c = a
  unfold shareO
  rw [← wgt3_apply cat]
  generalize wgt3 (F := Ideal) cat stat c = b
  unfold wgt
  rw [← top_apply cat]
  generalize top (F := Ideal) cat stat c = t
  pointwise [out3, k0_pay160, k0_pay155, k0_pay156, k0_pay157, k0_pay158, k0_pay159, k0_pay119, k0_pay120, k0_pay121, k0_pay122]
  rfl

theorem sumL9_apply (i : Fin 512) : sumL9 (F := Ideal) cat stat c (ix2 0 i)
    = shareL stat c i 0 + shareL stat c i 1 + shareL stat c i 2 + shareL stat c i 3
      + shareL stat c i 4 + shareL stat c i 5 + shareL stat c i 6 + shareL stat c i 7 := by
  rw [← sumL5_apply cat]
  unfold sumL9
  generalize sumL5 (F := Ideal) cat stat c = a
  unfold shareL
  rw [← wgt3_apply cat]
  generalize wgt3 (F := Ideal) cat stat c = b
  unfold wgt
  rw [← top_apply cat]
  generalize top (F := Ideal) cat stat c = t
  pointwise [k0_pay161, k0_pay156, k0_pay157, k0_pay158, k0_pay159, k0_pay119, k0_pay120, k0_pay121, k0_pay122, k0_pay134,
    k0_pay135, k0_pay136, k0_pay137, k0_pay138]
  rfl

theorem sumO13_apply (k : Fin 64) (i : Fin 512) : sumO13 (F := Ideal) cat stat c (ix2 k i)
    = sumO8 (F := Ideal) cat stat c (ix2 k i) + shareO cat stat c k i 8 + shareO cat stat c k i 9
      + shareO cat stat c k i 10 + shareO cat stat c k i 11 + shareO cat stat c k i 12 := by
  unfold sumO13
  generalize sumO8 (F := Ideal) cat stat c = a
  unfold shareO
  rw [← wgt8_apply cat]
  generalize wgt8 (F := Ideal) cat stat c = b
  unfold wgt
  rw [← top_apply cat]
  generalize top (F := Ideal) cat stat c = t
  pointwise [k0_pay168, k0_pay163, k0_pay164, k0_pay165, k0_pay167, k0_pay124, k0_pay125, k0_pay126, k0_pay127]
  rfl

theorem sumL13_apply (i : Fin 512) : sumL13 (F := Ideal) cat stat c (ix2 0 i)
    = sumL9 (F := Ideal) cat stat c (ix2 0 i) + shareL stat c i 8 + shareL stat c i 9
      + shareL stat c i 10 + shareL stat c i 11 := by
  unfold sumL13
  generalize sumL9 (F := Ideal) cat stat c = a
  unfold shareL
  rw [← wgt8_apply cat]
  generalize wgt8 (F := Ideal) cat stat c = b
  unfold wgt
  rw [← top_apply cat]
  generalize top (F := Ideal) cat stat c = t
  pointwise [k0_pay166, k0_pay163, k0_pay164, k0_pay165, k0_pay124, k0_pay125, k0_pay126, k0_pay139, k0_pay140, k0_pay141,
    k0_pay142]
  rfl

theorem comb_parts (k : Fin 64) (i : Fin 512) : comb (F := Ideal) cat stat c (ix2 k i)
    = Ideal.div
        (sumO13 (F := Ideal) cat stat c (ix2 k i) + shareO cat stat c k i 13 + shareO cat stat c k i 14 + shareO cat stat c k i 15)
        (sumL13 (F := Ideal) cat stat c (ix2 0 i) + shareL stat c i 12 + shareL stat c i 13 + shareL stat c i 14
          + shareL stat c i 15) := by
  unfold comb
  generalize sumO13 (F := Ideal) cat stat c = a
  generalize sumL13 (F := Ideal) cat stat c = b
  unfold shareO shareL
  rw [← wgt13_apply cat]
  generalize wgt13 (F := Ideal) cat stat c = w
  unfold wgt
  rw [← top_apply cat]
  generalize top (F := Ideal) cat stat c = t
  pointwise [k0_pay169, k0_pay128, k0_pay129, k0_pay130, k0_pay143, k0_pay144, k0_pay145, k0_pay146]
  rfl

/-- A combined entry is the quotient of the two merged sums. -/
theorem comb_apply (k : Fin 64) (i : Fin 512) : comb (F := Ideal) cat stat c (ix2 k i)
    = Ideal.div (∑ s : Fin 16, shareO cat stat c k i s) (∑ s : Fin 16, shareL stat c i s) := by
  rw [comb_parts, sumO13_apply, sumO8_apply, sumL13_apply, sumL9_apply]
  congr 1
  · generalize shareO cat stat c k i = f
    simp [Fin.sum_univ_succ, add_assoc]
  · generalize shareL stat c i = f
    simp [Fin.sum_univ_succ, add_assoc]

end Cert.KernelIdeal.Attn
-- ==== Proof.Merge.lean ====
/- The kernel's result over the extended reals: the combined rows are quotients of merged sums, and the output is their
   product with the last matrix. -/
module

public import proofs.«01_k».proof.Proof.Combine

@[expose] public section

set_option maxRecDepth 65536

noncomputable section

namespace Cert.KernelIdeal.Attn

open Idealize.ShloMosaic Idealize.ShloMosaic.TcCoe Idealize.ShloMosaic.Tactic
open Cert.Attn Cert.KernelIdeal.Gen

variable (I : Ins Ideal)

/-- Row `hcol h d` of a device's outputs. -/
theorem catF_hcol (s : Dev nD) (h : Fin 8) (d : Fin 128) (i : Fin 512) :
    catF (F := Ideal) I s (ix2 (hcol h d) i) = blockSum (tscore I h i) (vent I h d) s := by
  rw [← outH_apply]
  have e1 : (hcol h d).val / 128 = h.val := by simp only [hcol]; omega
  have e2 : (hcol h d).val % 128 = d.val := by simp only [hcol]; omega
  have h1 : (⟨(hcol h d).val / 128, by omega⟩ : Fin 8) = h := Fin.ext e1
  have h2 : (⟨(hcol h d).val % 128, Nat.mod_lt _ (by decide)⟩ : Fin 128) = d := Fin.ext e2
  show outH (F := Ideal) I s ⟨(hcol h d).val / 128, _⟩ (ix2 ⟨(hcol h d).val % 128, _⟩ i) = _
  rw [h1, h2]

/-- The maximum a sender reports to the device of row `hcol h d`. -/
theorem recv_stat (c : Dev nD) (h : Fin 8) (hc : c.val / 2 = h.val) (s : Fin 16) (a : Fin 2) (i : Fin 512) :
    ldM (F := Ideal) (statF I) c s a (ix3 0 0 i) = statH I s h (ix2 a i) := by
  have e : (⟨c.val / 2, by have := c.isLt; have : nD = 16 := rfl; omega⟩ : Fin 8) = h := Fin.ext hc
  show statH I s ⟨c.val / 2, _⟩ (ix2 a i) = _
  rw [e]

theorem mtop_apply (c : Dev nD) (h : Fin 8) (hc : c.val / 2 = h.val) (i : Fin 512) :
    mtop (statF I) c i = topAll (tscore I h i) :=
  congrArg (Finset.univ.sup ·) (funext fun s => (recv_stat I c h hc s 0 i).trans (statH_top I h i s))

theorem wgt_apply (c : Dev nD) (h : Fin 8) (hc : c.val / 2 = h.val) (i : Fin 512) (s : Fin 16) :
    wgt (statF I) c i s = Ideal.exp2 (blockTop (tscore I h i) s - topAll (tscore I h i)) := by
  unfold wgt
  rw [mtop_apply I c h hc, recv_stat I c h hc, statH_top]

/-- The row of a sender's outputs that a device receives in place `k`. -/
theorem recv_out (c : Dev nD) (s : Fin 16) (k : Fin 64) (i : Fin 512) (r : Fin 1024) (hr : 64 * c.val + k.val = r.val) :
    ldO (F := Ideal) (catF I) c s (ix3 0 k i) = catF I s (ix2 r i) := by
  have e : r = ⟨64 * c.val + k.val, by omega⟩ := Fin.ext hr.symm
  rw [e]
  rfl

/-- A combined row is the quotient of the merged values by the merged weights. -/
theorem normF_apply (h : Fin 8) (d : Fin 128) (i : Fin 512) :
    normF (F := Ideal) I (ix2 (hcol h d) i)
      = Ideal.div (merged (tscore I h i) (vent I h d)) (merged (tscore I h i) fun _ _ => 1) := by
  have hl : (hcol h d).val = 128 * h.val + d.val := rfl
  have hc : (hcol h d).val / 64 / 2 = h.val := by omega
  have hr : 64 * ((hcol h d).val / 64) + (hcol h d).val % 64 = (hcol h d).val := by omega
  refine (comb_apply (catF I) (statF I) ⟨(hcol h d).val / 64, by have : nD = 16 := rfl; omega⟩
    ⟨(hcol h d).val % 64, by omega⟩ i).trans ?_
  unfold merged
  congr 1
  · refine Finset.sum_congr rfl fun s _ => ?_
    unfold shareO
    rw [wgt_apply I _ h hc, ← catF_hcol, recv_out I _ s _ i (hcol h d) hr]
  · refine Finset.sum_congr rfl fun s _ => ?_
    unfold shareL
    rw [wgt_apply I _ h hc, recv_stat I _ h hc]
    exact congrArg (· * _) (statH_sum I h i s)

/-! ## The output -/

theorem pay171_apply (z : FVec Ideal S512x1024 .f32) (a b : Vec Ideal S256x512 .bf16) (u v : Vec Ideal S256x1024 .bf16)
    (i : Fin 512) (e : Fin 1024) :
    k0_pay171 (F := Ideal) z a u b v (ix2 i e)
      = z (ix2 i e) + (∑ k : Fin 256, a (ix2 k i) * u (ix2 k e)) + ∑ k : Fin 256, b (ix2 k i) * v (ix2 k e) := by
  pointwise [k0_pay171]

theorem pay172_apply (z : FVec Ideal S512x1024 .f32) (a b : Vec Ideal S256x512 .bf16) (u v : Vec Ideal S256x1024 .bf16)
    (i : Fin 512) (e : Fin 1024) :
    k0_pay172 (F := Ideal) z a u b v (ix3 0 i e)
      = z (ix2 i e) + (∑ k : Fin 256, a (ix2 k i) * u (ix2 k e)) + ∑ k : Fin 256, b (ix2 k i) * v (ix2 k e) := by
  pointwise [k0_pay172]

theorem pay170_apply (i : Fin 512) (e : Fin 1024) : k0_pay170 (F := Ideal) (ix2 i e) = 0 := by
  pointwise [k0_pay170]

/-- An entry of the output: the sum over all the rows of the combined outputs. -/
theorem outF_apply (norm : Vec Ideal S1024x512 .bf16) (c : Dev nD) (i : Fin 512) (e : Fin 1024) :
    outF (F := Ideal) I norm c (ix3 0 i e) = ∑ r : Fin 1024, norm (ix2 r i) * I.wo c (ix2 r e) := by
  unfold outF half
  rw [pay172_apply, pay171_apply, pay170_apply, sum_blocks (n := 4) (k := 256) rfl, Fin.sum_univ_four, zero_add]
  have g : ∀ q : Fin 4, (∑ k : Fin 256, normGrp norm q (ix2 k i) * woGrp (F := Ideal) (I.wo c) q (ix2 k e))
      = ∑ k : Fin 256, norm (ix2 (Fin.cast rfl (finProdFinEquiv (q, k))) i) * I.wo c (ix2 (Fin.cast rfl (finProdFinEquiv (q, k))) e) :=
    fun q => Finset.sum_congr rfl fun k _ => by
      have e1 : (⟨256 * q.val + k.val, by omega⟩ : Fin 1024) = Fin.cast rfl (finProdFinEquiv (q, k)) :=
        Fin.ext (Nat.add_comm _ _)
      rw [← e1]
      rfl
  rw [g 0, g 1, g 2, g 3]

end Cert.KernelIdeal.Attn
-- ==== Proof.RefRead.lean ====
/- The reference's result over the extended reals, entry by entry: the scores, their exponentials against the greatest,
   the normalised sums of the values, and the product with the last matrix. -/
module

public import proofs.«01_k».proof.Proof.Consts
public import proofs.«01_k».proof.Proof.Gen.ReferenceIdeal.Run

@[expose] public section

set_option maxRecDepth 65536

noncomputable section

namespace Cert.ReferenceIdeal.Attn

open Idealize.ShloMosaic Idealize.ShloMosaic.TcCoe Idealize.ShloMosaic.Tactic
open Cert.Attn Cert.ReferenceIdeal Cert.ReferenceIdeal.Gen Cert.ReferenceIdeal.Value

/-- The queries, before they are cut into heads. -/
def refQ (x : Vec Ideal S1x512x1024 .bf16) (wq : Vec Ideal S1024x1024 .bf16) : FVec Ideal S512x1024 .f32 :=
  extf .f32 (truncf .bf16 (Host.dotGeneral (F := Ideal) dot_S512x1024_S1024x1024_S512x1024_1_0_0_1_n_n none
    (shapeCast _ (extf .f32 x bitsLt_bf16_f32) shapeCasts_S1x512x1024_S512x1024) (extf .f32 wq bitsLt_bf16_f32)) bitsLt_bf16_f32) bitsLt_bf16_f32

/-- The scaled scores of the queries `q`. -/
def refS (q : FVec Ideal S512x1024 .f32) (k : Vec Ideal S1x32768x8x128 .bf16) : FVec Ideal S8x512x32768 .f32 :=
  mulf (extf .f32 (truncf .bf16 (Host.dotGeneral (F := Ideal) dot_S512x8x128_S32768x8x128_S8x512x32768_2_2_0_0_1_1 none
    (shapeCast _ q shapeCasts_S512x1024_S512x8x128)
    (shapeCast _ (extf .f32 k bitsLt_bf16_f32) shapeCasts_S1x32768x8x128_S32768x8x128)) bitsLt_bf16_f32) bitsLt_bf16_f32)
    (broadcastInDim S8x512x32768 ![] bcast_S_S8x512x32768 (constant S_ .f32 0x3DB504F3#32))

/-- The exponentials of the scores against the greatest of a row. -/
def refP (s : FVec Ideal S8x512x32768 .f32) : FVec Ideal S8x512x32768 .f32 :=
  Host.exp (subf s (broadcastInDim S8x512x32768 ![0, 1, 2] bcast_S8x512x1_S8x512x32768_0_1_2
    (broadcastInDim S8x512x1 ![0, 1] bcast_S8x512_S8x512x1_0_1
      (Host.reduce FloatOps.maximumf s (constant S_ .f32 0xFF800000#32) reducesTo_S8x512x32768_S8x512_d2 h_S_))))

/-- The sums of the values by the exponentials, over the sums of the exponentials. -/
def refO (p : FVec Ideal S8x512x32768 .f32) (v : Vec Ideal S1x32768x8x128 .bf16) : FVec Ideal S8x512x128 .f32 :=
  Host.divf (Host.dotGeneral (F := Ideal) dot_S8x512x32768_S32768x8x128_S8x512x128_2_0_1_2_0_1 none p
      (shapeCast _ (extf .f32 v bitsLt_bf16_f32) shapeCasts_S1x32768x8x128_S32768x8x128))
    (broadcastInDim S8x512x128 ![0, 1, 2] bcast_S8x512x1_S8x512x128_0_1_2 (broadcastInDim S8x512x1 ![0, 1] bcast_S8x512_S8x512x1_0_1
      (Host.reduceAdd p (constant S_ .f32 0x00000000#32) reducesTo_S8x512x32768_S8x512_d2 h_S_)))

/-- The heads side by side, times the last matrix. -/
def refY (o : FVec Ideal S8x512x128 .f32) (wo : Vec Ideal S1024x1024 .bf16) : FVec Ideal S1x512x1024 .f32 :=
  shapeCast _ (Host.dotGeneral (F := Ideal) dot_S512x1024_S1024x1024_S512x1024_1_0_0_1_n_n none
    (shapeCast _ (transpose S512x8x128 [1, 0, 2] o transposes_S8x512x128_S512x8x128_1_0_2) shapeCasts_S512x8x128_S512x1024)
    (extf .f32 wo bitsLt_bf16_f32)) shapeCasts_S512x1024_S1x512x1024

/-- The reference's result is these steps one after the other. -/
theorem res_eq (m : (ℓ : Loc nD τ sig) → Buf (Elt Ideal) ℓ) (c : Dev nD) :
    res_main_v30 (F := Ideal) m c
      = refY (refO (refP (refS (refQ (m ((c.tc : Thread nD τ).loc main_arg0)) (m ((c.tc : Thread nD τ).loc main_arg1)))
          (m ((c.tc : Thread nD τ).loc main_arg2)))) (m ((c.tc : Thread nD τ).loc main_arg3))) (m ((c.tc : Thread nD τ).loc main_arg4)) := rfl

theorem refQ_apply (x : Vec Ideal S1x512x1024 .bf16) (wq : Vec Ideal S1024x1024 .bf16) (i : Fin 512) (e : Fin 1024) :
    refQ x wq (ix2 i e) = ∑ a : Fin 1024, x (ix3 0 i a) * wq (ix2 a e) := by
  pointwise [refQ]

theorem refS_apply (q : FVec Ideal S512x1024 .f32) (k : Vec Ideal S1x32768x8x128 .bf16) (h : Fin 8) (i : Fin 512)
    (j : Fin 32768) :
    refS q k (ix3 h i j) = (∑ d : Fin 128, q (ix2 i (hcol h d)) * k (ix4 0 j h d)) * (scale : EReal) := by
  pointwise [refS]
  rw [ofBits_scale]
  congr 1
  refine Finset.sum_congr rfl fun d _ => ?_
  congr 3
  exact Fin.ext (congrArg (· + d.val) (Nat.mul_comm _ _))

theorem refP_apply (s : FVec Ideal S8x512x32768 .f32) (h : Fin 8) (i : Fin 512) (j : Fin 32768) :
    refP s (ix3 h i j) = Ideal.exp (s (ix3 h i j) - Finset.univ.sup fun j : Fin 32768 => s (ix3 h i j)) := by
  pointwise [refP]
  rw [ofBits_bot]
  rfl

theorem refO_apply (p : FVec Ideal S8x512x32768 .f32) (v : Vec Ideal S1x32768x8x128 .bf16) (h : Fin 8) (i : Fin 512)
    (d : Fin 128) :
    refO p v (ix3 h i d)
      = Ideal.div (∑ j : Fin 32768, p (ix3 h i j) * v (ix4 0 j h d)) (∑ j : Fin 32768, p (ix3 h i j)) := by
  pointwise [refO]

theorem refY_apply (o : FVec Ideal S8x512x128 .f32) (wo : Vec Ideal S1024x1024 .bf16) (i : Fin 512) (e : Fin 1024) :
    refY o wo (ix3 0 i e)
      = ∑ r : Fin 1024, o (ix3 ⟨r.val / 128, by omega⟩ i ⟨r.val % 128, by omega⟩) * wo (ix2 r e) := by
  pointwise [refY]

end Cert.ReferenceIdeal.Attn
-- ==== Proof.Value.lean ====
/- The kernel and the reference compute the same function over the extended reals. -/
module

public import proofs.«01_k».proof.Proof.Merge
public import proofs.«01_k».proof.Proof.RefRead

@[expose] public section

set_option maxRecDepth 65536

noncomputable section

namespace Cert.KernelIdeal.Attn

open Idealize.ShloMosaic Idealize.ShloMosaic.TcCoe Idealize.ShloMosaic.Tactic
open Cert.Attn Cert.KernelIdeal.Gen

/-! ## The kernel's operands are the arguments, reshaped -/

theorem cast_x (v : Vec Ideal S1x512x1024 .bf16) (i : Fin 512) (a : Fin 1024) :
    shapeCast S512x1024 v shapeCasts_S1x512x1024_S512x1024 (ix2 i a) = v (ix3 0 i a) := by
  pointwise

theorem cast_kv (v : Vec Ideal S1x2048x8x128 .bf16) (j : Fin 2048) (h : Fin 8) (d : Fin 128) :
    shapeCast S2048x1024 v shapeCasts_S1x2048x8x128_S2048x1024 (ix2 j (hcol h d)) = v (ix4 0 j h d) := by
  have e1 : (hcol h d).val / 128 = h.val := by simp only [hcol]; omega
  have e2 : (hcol h d).val % 128 = d.val := by simp only [hcol]; omega
  generalize hcol h d = r at e1 e2
  pointwise
  simp only [e1, e2]

variable (m : (ℓ : Loc nD τ sig) → Buf (Elt Ideal) ℓ)

theorem V_x (c : Dev nD) : V (F := Ideal) m c main_v1
    = shapeCast S512x1024 (m ((c : Thread nD τ).loc main_arg0) : Vec Ideal S1x512x1024 .bf16) shapeCasts_S1x512x1024_S512x1024 := by
  show StableHlo.after hostOps0 (fun b => m (c, b)) main_v1 = _
  after_results_simp <;> rfl

theorem V_k (c : Dev nD) : V (F := Ideal) m c main_v2
    = shapeCast S2048x1024 (m ((c : Thread nD τ).loc main_arg2) : Vec Ideal S1x2048x8x128 .bf16) shapeCasts_S1x2048x8x128_S2048x1024 := by
  show StableHlo.after hostOps0 (fun b => m (c, b)) main_v2 = _
  after_results_simp <;> rfl

theorem V_v (c : Dev nD) : V (F := Ideal) m c main_v3
    = shapeCast S2048x1024 (m ((c : Thread nD τ).loc main_arg3) : Vec Ideal S1x2048x8x128 .bf16) shapeCasts_S1x2048x8x128_S2048x1024 := by
  show StableHlo.after hostOps0 (fun b => m (c, b)) main_v3 = _
  after_results_simp <;> rfl

/-! ## The two results, over the same arguments -/

/-- The arguments of the whole computation. -/
structure Args where
  x : Vec Ideal S1x512x1024 .bf16
  wq : Vec Ideal S1024x1024 .bf16
  k : Vec Ideal Cert.ReferenceIdeal.S1x32768x8x128 .bf16
  v : Vec Ideal Cert.ReferenceIdeal.S1x32768x8x128 .bf16
  wo : Vec Ideal S1024x1024 .bf16

/-- Device `c` holds the arguments `A`: of the keys and the values its own block of 2048. -/
structure Holds (A : Args) (c : Dev nD) : Prop where
  x : m ((c : Thread nD τ).loc main_arg0) = A.x
  wq : m ((c : Thread nD τ).loc main_arg1) = A.wq
  k : ∀ (j : Fin 2048) (h : Fin 8) (d : Fin 128), (m ((c : Thread nD τ).loc main_arg2) : Vec Ideal S1x2048x8x128 .bf16) (ix4 0 j h d)
    = A.k (ix4 0 (Fin.cast (rfl : 16 * 2048 = 32768) (finProdFinEquiv (c, j))) h d)
  v : ∀ (j : Fin 2048) (h : Fin 8) (d : Fin 128), (m ((c : Thread nD τ).loc main_arg3) : Vec Ideal S1x2048x8x128 .bf16) (ix4 0 j h d)
    = A.v (ix4 0 (Fin.cast (rfl : 16 * 2048 = 32768) (finProdFinEquiv (c, j))) h d)
  wo : m ((c : Thread nD τ).loc main_arg4) = A.wo

/-- The score of head `h`, query row `i` and key `n`, before the scale. -/
def raw (A : Args) (h : Fin 8) (i : Fin 512) (n : Fin 32768) : EReal :=
  ∑ d : Fin 128, (∑ a : Fin 1024, A.x (ix3 0 i a) * A.wq (ix2 a (hcol h d))) * A.k (ix4 0 n h d)

/-- The kernel's score of a device's key is the score of that key among all. -/
theorem score_raw {A : Args} (H : ∀ c, Holds m A c) (h : Fin 8) (i : Fin 512) (c : Dev nD) (j : Fin 2048) :
    score (insM m) h i c j = raw A h i (Fin.cast (rfl : 16 * 2048 = 32768) (finProdFinEquiv (c, j))) := by
  unfold score raw
  refine Finset.sum_congr rfl fun d _ => ?_
  congr 1
  · unfold qry
    refine Finset.sum_congr rfl fun a _ => ?_
    congr 1
    · refine (congrFun (V_x m c) _).trans ((cast_x _ i a).trans ?_)
      exact congrFun (H c).x _
    · exact (congrFun (V_main_arg1 m c) _).trans (congrFun (H c).wq _)
  · exact (congrFun (V_k m c) _).trans ((cast_kv _ j h d).trans ((H c).k j h d))

/-- A device's value is the value of its key among all. -/
theorem vent_all {A : Args} (H : ∀ c, Holds m A c) (h : Fin 8) (d : Fin 128) (c : Dev nD) (j : Fin 2048) :
    vent (insM m) h d c j = A.v (ix4 0 (Fin.cast (rfl : 16 * 2048 = 32768) (finProdFinEquiv (c, j))) h d) :=
  (congrFun (V_v m c) _).trans ((cast_kv _ j h d).trans ((H c).v j h d))

open Cert.ReferenceIdeal.Attn in
/-- The reference's result of the arguments `A`. -/
def refOut (A : Args) : FVec Ideal S1x512x1024 .f32 := refY (refO (refP (refS (refQ A.x A.wq) A.k)) A.v) A.wo

open Cert.ReferenceIdeal.Attn in
/-- A normalised entry of the reference is the kernel's combined entry. -/
theorem norm_eq {A : Args} (H : ∀ c, Holds m A c) (h : Fin 8) (d : Fin 128) (i : Fin 512) :
    refO (refP (refS (refQ A.x A.wq) A.k)) A.v (ix3 h i d) = normF (insM m) (ix2 (hcol h d) i) := by
  have hS : ∀ n, refS (refQ A.x A.wq) A.k (ix3 h i n) = raw A h i n * (scale : EReal) := fun n => by
    rw [refS_apply]
    unfold raw
    congr 1
    exact Finset.sum_congr rfl fun d _ => by rw [refQ_apply]
  have ht : tscore (insM m) h i = fun (c : Fin 16) (j : Fin 2048) =>
      raw A h i (Fin.cast (rfl : 16 * 2048 = 32768) (finProdFinEquiv (c, j))) * (scale2 : EReal) :=
    funext fun c => funext fun j => congrArg (· * (scale2 : EReal)) (score_raw m H h i c j)
  have hv : vent (insM m) h d = fun (c : Fin 16) (j : Fin 2048) =>
      A.v (ix4 0 (Fin.cast (rfl : 16 * 2048 = 32768) (finProdFinEquiv (c, j))) h d) :=
    funext fun c => funext fun j => vent_all m H h d c j
  have key := fun v : Fin 32768 → EReal =>
    softmax_blocks (n := 16) (k := 2048) rfl (raw A h i) v scale scale2 scale_pos scale2_pos scale2_log
  rw [refO_apply, normF_apply, ht, hv]
  simp only [refP_apply, hS]
  refine congrArg₂ Ideal.div (key fun n => A.v (ix4 0 n h d)) ?_
  refine Eq.trans ?_ (key fun _ => 1)
  exact Finset.sum_congr rfl fun j _ => (mul_one _).symm

open Cert.ReferenceIdeal.Attn in
/-- An entry of a device's result is the reference's. -/
theorem res_at {A : Args} (H : ∀ c, Holds m A c) (c : Dev nD) (i : Fin 512) (e : Fin 1024) :
    res (F := Ideal) m c (ix3 0 i e) = refOut A (ix3 0 i e) := by
  refine (outF_apply (insM m) _ c i e).trans ?_
  unfold refOut
  rw [refY_apply]
  refine Finset.sum_congr rfl fun r _ => ?_
  have hwo : (insM m).wo c (ix2 r e) = A.wo (ix2 r e) := (congrFun (V_main_arg4 m c) _).trans (congrFun (H c).wo _)
  rw [hwo]
  congr 1
  obtain ⟨h, d, rfl⟩ := exists_hcol r
  rw [← norm_eq m H]
  have e1 : (⟨(hcol h d).val / 128, by omega⟩ : Fin 8) = h := Fin.ext (by simp only [hcol]; omega)
  have e2 : (⟨(hcol h d).val % 128, by omega⟩ : Fin 128) = d := Fin.ext (by simp only [hcol]; omega)
  rw [e1, e2]

/-- An index of the result is a row and a column. -/
theorem idx_out (o : S1x512x1024.Idx) : ∃ (i : Fin 512) (e : Fin 1024), o = ix3 0 i e := by
  refine ⟨o 1, o 2, funext fun b => ?_⟩
  fin_cases b
  · exact Fin.ext (Nat.lt_one_iff.mp (o 0).isLt)
  · rfl
  · rfl

/-- Every device's result is the reference's. -/
theorem res_eq_ref {A : Args} (H : ∀ c, Holds m A c) (c : Dev nD) : res (F := Ideal) m c = refOut A := by
  funext o
  obtain ⟨i, e, rfl⟩ := idx_out o
  exact res_at m H c i e

/-- The block of the keys or the values that device `c` holds, entry by entry. -/
theorem block_kv (w : Vec Ideal Cert.ReferenceIdeal.S1x32768x8x128 .bf16) (c : Fin 16)
    (hl : Layout.Tiles ⟨4, ![1, 2048, 8, 128]⟩ ⟨4, ![1, 32768, 8, 128]⟩ 1 16) (j : Fin 2048) (h : Fin 8) (d : Fin 128) :
    Layout.block ⟨4, ![1, 2048, 8, 128]⟩ ⟨4, ![1, 32768, 8, 128]⟩ 1 16 c w hl (ix4 0 j h d)
      = w (ix4 0 (Fin.cast (rfl : 16 * 2048 = 32768) (finProdFinEquiv (c, j))) h d) := by
  rw [Layout.block_apply]
  congr 1
  funext b
  refine Fin.ext ?_
  rw [Layout.Tiles.idx_val]
  fin_cases b
  · rfl
  · show c.val * 2048 + j.val = j.val + 2048 * c.val
    omega
  · rfl
  · rfl

end Cert.KernelIdeal.Attn
-- ==== Proof.Algebraic.lean ====
/- The claim that the kernel and the reference compute the same function over the extended reals. -/
module

public import proofs.«01_k».proof.Proof.Frames
public import proofs.«01_k».proof.Proof.Value

@[expose] public section

set_option maxRecDepth 65536

noncomputable section

namespace Cert.Proof.Claims

open Idealize.ShloMosaic Idealize.ShloMosaic.TcCoe Idealize.SL.Sem
open Cert.KernelIdeal.Attn

/-- The arguments a memory of the reference holds. -/
def argsOf (m' : (ℓ : Loc Cert.ReferenceIdeal.nD Cert.ReferenceIdeal.τ Cert.ReferenceIdeal.sig) → Buf (Elt Ideal) ℓ) : Args where
  x := m' (((0 : Dev Cert.ReferenceIdeal.nD).tc : Thread Cert.ReferenceIdeal.nD Cert.ReferenceIdeal.τ).loc Cert.ReferenceIdeal.main_arg0)
  wq := m' (((0 : Dev Cert.ReferenceIdeal.nD).tc : Thread Cert.ReferenceIdeal.nD Cert.ReferenceIdeal.τ).loc Cert.ReferenceIdeal.main_arg1)
  k := m' (((0 : Dev Cert.ReferenceIdeal.nD).tc : Thread Cert.ReferenceIdeal.nD Cert.ReferenceIdeal.τ).loc Cert.ReferenceIdeal.main_arg2)
  v := m' (((0 : Dev Cert.ReferenceIdeal.nD).tc : Thread Cert.ReferenceIdeal.nD Cert.ReferenceIdeal.τ).loc Cert.ReferenceIdeal.main_arg3)
  wo := m' (((0 : Dev Cert.ReferenceIdeal.nD).tc : Thread Cert.ReferenceIdeal.nD Cert.ReferenceIdeal.τ).loc Cert.ReferenceIdeal.main_arg4)

/-- From arguments of which every device holds its blocks, every device's result is the reference's result. -/
theorem algebraic : Cert.algebraic_KernelIdeal_ReferenceIdeal := fun m g m' g' _ hm => by
  have H : ∀ c, Holds m (argsOf m') c := fun c => by
    obtain ⟨h0, h1, h2, h3, h4⟩ := hm c
    exact ⟨h0, h1, fun j h d => (congrFun h2 _).trans (block_kv _ c _ j h d),
      fun j h d => (congrFun h3 _).trans (block_kv _ c _ j h d), h4⟩
  refine ⟨Cert.ReferenceIdeal.Value.res_main_v30 m' 0, ?_, ?_⟩
  · exact (θ_run Cert.KernelIdeal.defs _ _).mono
      (fun _ h c => ⟨((h.1 c).2.trans (res_eq_ref m H c)).trans (Cert.ReferenceIdeal.Attn.res_eq m' 0).symm, (h.1 c).1⟩)
      (run_main (F := Ideal) m g)
  · exact (θ_run Cert.ReferenceIdeal.defs _ _).mono (fun _ h => h 0) (Cert.ReferenceIdeal.Value.run m' g')

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims: the three frames, the one rewrite of the ideal program, and the equality with the reference. -/
theorem claim : Cert.Claim := ⟨Cert.Kernel.Gen.facts, Cert.KernelIdeal.Gen.facts, Cert.ReferenceIdeal.Gen.facts,
  Claims.frame_kernel, Claims.frame_ideal, Claims.frame_ref, Claims.preserves, Claims.algebraic⟩

end Cert.Proof

end
